-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).2 = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_post [hPre_finite_post : Cert.Pre_finite_post.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5))).1 = (fun _ => 1#1)
    ∧ (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5))
      ∧ r.2.sem = fun _ => 0)

def quiescent_PostReferenceIdeal_pre_finite_post [hPostReferenceIdeal : Cert.PostReferenceIdeal.Facts] [hPre_finite_post : Cert.Pre_finite_post.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_post m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Attn_AttnIdeal : Prop :=
  IdealRules.named_const.Statement Cert.AttnIdeal.κ "log2e" .f32 0x3FB8AA3B#32 (((Real.log 2)⁻¹ : ℝ) : EReal)

def algebraic_AttnIdeal_AttnReferenceIdeal_pre_finite_attn [hAttnIdeal : Cert.AttnIdeal.Facts] [hAttnReferenceIdeal : Cert.AttnReferenceIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite_attn m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v11)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v92) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def preserves_Post_PostIdeal : Prop :=
  True

def algebraic_PostIdeal_PostReferenceIdeal_pre_finite_post [hPostIdeal : Cert.PostIdeal.Facts] [hPostReferenceIdeal : Cert.PostReferenceIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite_post m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v4) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v35) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v12_0)) (v1 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v12_0) = v0 c
          ∧ r.2.mem ((c.tc : Thread Cert.MixIdeal.nD Cert.MixIdeal.τ).loc Cert.MixIdeal.main_v14) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v44) = v0 c
          ∧ r.2.mem ((c.tc : Thread Cert.MixReferenceIdeal.nD Cert.MixReferenceIdeal.τ).loc Cert.MixReferenceIdeal.main_v63) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v1)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v1) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v3) = v0 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v17) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hPost : Cert.Post.Facts) (hPostIdeal : Cert.PostIdeal.Facts) (hPostReferenceIdeal : Cert.PostReferenceIdeal.Facts) (hMix : Cert.Mix.Facts) (hMixIdeal : Cert.MixIdeal.Facts) (hMixReferenceIdeal : Cert.MixReferenceIdeal.Facts) (hMlpOut : Cert.MlpOut.Facts) (hMlpOutIdeal : Cert.MlpOutIdeal.Facts) (hMlpOutReferenceIdeal : Cert.MlpOutReferenceIdeal.Facts) (hLast : Cert.Last.Facts) (hLastIdeal : Cert.LastIdeal.Facts) (hLastReferenceIdeal : Cert.LastReferenceIdeal.Facts) (hPre_finite_attn : Cert.Pre_finite_attn.Facts) (hPre_finite_post : Cert.Pre_finite_post.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostReferenceIdeal (hPostReferenceIdeal := hPostReferenceIdeal)
    ∧ quiescent_PostReferenceIdeal_pre_finite_post (hPostReferenceIdeal := hPostReferenceIdeal) (hPre_finite_post := hPre_finite_post)
    ∧ quiescent_Mix (hMix := hMix)
    ∧ quiescent_MixIdeal (hMixIdeal := hMixIdeal)
    ∧ quiescent_MixReferenceIdeal (hMixReferenceIdeal := hMixReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_Last (hLast := hLast)
    ∧ quiescent_LastIdeal (hLastIdeal := hLastIdeal)
    ∧ quiescent_LastReferenceIdeal (hLastReferenceIdeal := hLastReferenceIdeal)
    ∧ preserves_Kernel_KernelIdeal
    ∧ algebraic_KernelIdeal_ReferenceIdeal (hKernelIdeal := hKernelIdeal) (hReferenceIdeal := hReferenceIdeal)
    ∧ preserves_Attn_AttnIdeal
    ∧ algebraic_AttnIdeal_AttnReferenceIdeal_pre_finite_attn (hAttnIdeal := hAttnIdeal) (hAttnReferenceIdeal := hAttnReferenceIdeal) (hPre_finite_attn := hPre_finite_attn)
    ∧ preserves_Post_PostIdeal
    ∧ algebraic_PostIdeal_PostReferenceIdeal_pre_finite_post (hPostIdeal := hPostIdeal) (hPostReferenceIdeal := hPostReferenceIdeal) (hPre_finite_post := hPre_finite_post)
    ∧ preserves_Mix_MixIdeal
    ∧ algebraic_MixIdeal_MixReferenceIdeal (hMixIdeal := hMixIdeal) (hMixReferenceIdeal := hMixReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_Last_LastIdeal
    ∧ algebraic_LastIdeal_LastReferenceIdeal (hLastIdeal := hLastIdeal) (hLastReferenceIdeal := hLastReferenceIdeal)
-- ==== Pre_finite_attn.lean ====
abbrev S8192x20480 : Shape := ⟨2, ![8192, 20480]⟩
abbrev S1x64 : Shape := ⟨2, ![1, 64]⟩
abbrev S1x128 : Shape := ⟨2, ![1, 128]⟩
abbrev S8192x6144 : Shape := ⟨2, ![8192, 6144]⟩
abbrev S_ : Shape := ⟨0, ![]⟩

class Facts : Prop where
  slices_S8192x20480_S8192x6144_0_6144 : S8192x20480.Slices ![0, 6144] S8192x6144
  bitsLt_bf16_f32 : FTy.bits .bf16 < FTy.bits .f32
  bcast_S_S8192x6144 : S_.BroadcastsInDim S8192x6144 (![] : Fin 0 → Fin S8192x6144.rank)
  bcast_S_S1x64 : S_.BroadcastsInDim S1x64 (![] : Fin 0 → Fin S1x64.rank)

variable [Facts]

def fn {F : FTy → Type} [FloatOps F] (main_arg0 : FVec F S8192x20480 .bf16) (main_arg1 : FVec F S1x64 .f32) (main_arg2 : FVec F S1x64 .f32) (main_arg3 : FVec F S1x64 .f32) (main_arg4 : FVec F S1x64 .f32) (main_arg5 : FVec F S1x128 .f32) : IVec S8192x6144 1 × IVec S1x64 1 × IVec S1x64 1 × IVec S1x64 1 × IVec S1x64 1 :=
  let main_v0 : FVec F S8192x6144 .bf16 := (extractStridedSlice S8192x6144 ![0, 6144] · slices_S8192x20480_S8192x6144_0_6144) main_arg0
  let main_v1 : FVec F S8192x6144 .f32 := (extf .f32 · bitsLt_bf16_f32) main_v0
  let main_v2 : FVec F S8192x6144 .f32 := Host.absf main_v1
  let main_cst : FVec F S_ .f32 := constant S_ .f32 0x7F800000#32
  let main_v3 : FVec F S8192x6144 .f32 := broadcastInDim S8192x6144 ![] bcast_S_S8192x6144 main_cst
  let main_v4 : IVec S8192x6144 1 := cmpf .olt main_v2 main_v3
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_v8 : FVec F S1x64 .f32 := Host.absf main_arg2
  let main_cst_1 : FVec F S_ .f32 := constant S_ .f32 0x7F800000#32
  let main_v9 : FVec F S1x64 .f32 := broadcastInDim S1x64 ![] bcast_S_S1x64 main_cst_1
  let main_v10 : IVec S1x64 1 := cmpf .olt main_v8 main_v9
  let main_v11 : FVec F S1x64 .f32 := Host.absf main_arg3
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_v14 : FVec F S1x64 .f32 := Host.absf main_arg4
  let main_cst_3 : FVec F S_ .f32 := constant S_ .f32 0x7F800000#32
  let main_v15 : FVec F S1x64 .f32 := broadcastInDim S1x64 ![] bcast_S_S1x64 main_cst_3
  let main_v16 : IVec S1x64 1 := cmpf .olt main_v14 main_v15
  (main_v4, main_v7, main_v10, main_v13, main_v16)
-- ==== Pre_finite_post.lean ====
abbrev S2x4096x2048 : Shape := ⟨3, ![2, 4096, 2048]⟩
abbrev S1x2048 : Shape := ⟨2, ![1, 2048]⟩
abbrev S_ : Shape := ⟨0, ![]⟩

class Facts : Prop where
  bitsLt_bf16_f32 : FTy.bits .bf16 < FTy.bits .f32
  bcast_S_S2x4096x2048 : S_.BroadcastsInDim S2x4096x2048 (![] : Fin 0 → Fin S2x4096x2048.rank)

variable [Facts]

def fn {F : FTy → Type} [FloatOps F] (main_arg0 : FVec F S2x4096x2048 .bf16) (main_arg1 : FVec F S2x4096x2048 .bf16) (main_arg2 : FVec F S2x4096x2048 .bf16) (main_arg3 : FVec F S2x4096x2048 .bf16) (main_arg4 : FVec F S1x2048 .f32) (main_arg5 : FVec F S1x2048 .f32) : IVec S2x4096x2048 1 × IVec S2x4096x2048 1 :=
  let main_v0 : FVec F S2x4096x2048 .f32 := (extf .f32 · bitsLt_bf16_f32) main_arg0
  let main_v1 : FVec F S2x4096x2048 .f32 := Host.absf main_v0
  let main_cst : FVec F S_ .f32 := constant S_ .f32 0x7F800000#32
  let main_v2 : FVec F S2x4096x2048 .f32 := broadcastInDim S2x4096x2048 ![] bcast_S_S2x4096x2048 main_cst
  let main_v3 : IVec S2x4096x2048 1 := cmpf .olt main_v1 main_v2
  let main_v4 : FVec F S2x4096x2048 .f32 := (extf .f32 · bitsLt_bf16_f32) main_arg1
  let main_v5 : FVec F S2x4096x2048 .f32 := Host.absf main_v4
  let main_cst_0 : FVec F S_ .f32 := constant S_ .f32 0x7F800000#32
  let main_v6 : FVec F S2x4096x2048 .f32 := broadcastInDim S2x4096x2048 ![] bcast_S_S2x4096x2048 main_cst_0
  let main_v7 : IVec S2x4096x2048 1 := cmpf .olt main_v5 main_v6
  (main_v3, main_v7)
-- ==== Kernel.lean ====
abbrev S2x4096x4096 : Shape := ⟨3, ![2, 4096, 4096]⟩
abbrev S1x4096 : Shape := ⟨2, ![1, 4096]⟩
abbrev S1x4096x20928 : Shape := ⟨3, ![1, 4096, 20928]⟩
abbrev S8192x4096 : Shape := ⟨2, ![8192, 4096]⟩
abbrev S4096x20928 : Shape := ⟨2, ![4096, 20928]⟩
abbrev S20928x4096 : Shape := ⟨2, ![20928, 4096]⟩
abbrev S96x4096 : Shape := ⟨2, ![96, 4096]⟩
abbrev S_ : Shape := ⟨0, ![]⟩
abbrev S128x4096 : Shape := ⟨2, ![128, 4096]⟩
abbrev S256x4096 : Shape := ⟨2, ![256, 4096]⟩
abbrev S512x4096 : Shape := ⟨2, ![512, 4096]⟩
abbrev S4096 : Shape := ⟨1, ![4096]⟩
abbrev S256 : Shape := ⟨1, ![256]⟩
abbrev S256x1 : Shape := ⟨2, ![256, 1]⟩
abbrev S1x20480 : Shape := ⟨2, ![1, 20480]⟩
abbrev S1 : Shape := ⟨1, ![1]⟩
abbrev S1x2048 : Shape := ⟨2, ![1, 2048]⟩
abbrev S8192x20480 : Shape := ⟨2, ![8192, 20480]⟩
abbrev S2048x4096 : Shape := ⟨2, ![2048, 4096]⟩
abbrev S1x512 : Shape := ⟨2, ![1, 512]⟩
abbrev S2048x512 : Shape := ⟨2, ![2048, 512]⟩
abbrev S8192x512 : Shape := ⟨2, ![8192, 512]⟩
abbrev S1024x4096 : Shape := ⟨2, ![1024, 4096]⟩
abbrev S1024x512 : Shape := ⟨2, ![1024, 512]⟩

abbrev nBuf : Space → Nat
  | .hbm => 28
  | .vmem => 17
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x20928, .f32⟩
  | .hbm, ⟨3, _⟩ => ⟨S8192x4096, .f32⟩
  | .hbm, ⟨4, _⟩ => ⟨S4096x20928, .f32⟩
  | .hbm, ⟨5, _⟩ => ⟨S20928x4096, .f32⟩
  | .hbm, ⟨6, _⟩ => ⟨S96x4096, .f32⟩
  | .hbm, ⟨7, _⟩ => ⟨S_, .i32⟩
  | .hbm, ⟨8, _⟩ => ⟨S_, .f32⟩
  | .hbm, ⟨9, _⟩ => ⟨S128x4096, .f32⟩
  | .hbm, ⟨10, _⟩ => ⟨S96x4096, .f32⟩
  | .hbm, ⟨11, _⟩ => ⟨S_, .i32⟩
  | .hbm, ⟨12, _⟩ => ⟨S_, .f32⟩
  | .hbm, ⟨13, _⟩ => ⟨S128x4096, .f32⟩
  | .hbm, ⟨14, _⟩ => ⟨S256x4096, .f32⟩
  | .hbm, ⟨15, _⟩ => ⟨S512x4096, .f32⟩
  | .hbm, ⟨16, _⟩ => ⟨S4096, .f32⟩
  | .hbm, ⟨17, _⟩ => ⟨S1x4096, .f32⟩
  | .hbm, ⟨18, _⟩ => ⟨S8192x4096, .bf16⟩
  | .hbm, ⟨19, _⟩ => ⟨S_, .f32⟩
  | .hbm, ⟨20, _⟩ => ⟨S1x20480, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S1x2048, .f32⟩
  | .hbm, ⟨25, _⟩ => ⟨S1x20480, .f32⟩
  | .hbm, ⟨26, _⟩ => ⟨S8192x20480, .bf16⟩
  | .hbm, ⟨27, _⟩ => ⟨S8192x512, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S2048x4096, .bf16⟩
  | .local _ .vmem, ⟨6, _⟩ => ⟨S512x4096, .f32⟩
  | .local _ .vmem, ⟨7, _⟩ => ⟨S512x4096, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S1024x4096, .bf16⟩
  | .local _ .vmem, ⟨13, _⟩ => ⟨S1024x4096, .bf16⟩
  | .local _ .vmem, ⟨14, _⟩ => ⟨S512x4096, .f32⟩
  | .local _ .vmem, ⟨15, _⟩ => ⟨S1024x512, .bf16⟩
  | .local _ .vmem, ⟨16, _⟩ => ⟨S1024x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 40], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  let c12_i32 : BitVec 32 := 12#32
  let v1 : BitVec 1 := Scalar.cmpi .slt arg1 c12_i32
  let c0_i32 : BitVec 32 := 0#32
  let c448_i32 : BitVec 32 := 448#32
  let v2 : BitVec 32 := Scalar.select v1 c0_i32 c448_i32
  let v3 : BitVec 32 := Scalar.addi v0 v2
  v3
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c12_i32 : BitVec 32 := 12#32
  let v1 : BitVec 1 := Scalar.cmpi .slt arg1 c12_i32
  let c0_i32 : BitVec 32 := 0#32
  let c448_i32 : BitVec 32 := 448#32
  let v2 : BitVec 32 := Scalar.select v1 c0_i32 c448_i32
  let v3 : BitVec 32 := Scalar.addi v0 v2
  let v4 : BitVec 32 := v3
  let c0_i32_0 : BitVec 32 := 0#32
  let c0_i32_1 : BitVec 32 := 0#32
  ![v4.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def k2_mult1 (i : grid2.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S2x4096x4096 : Shape := ⟨3, ![2, 4096, 4096]⟩
abbrev S1x4096 : Shape := ⟨2, ![1, 4096]⟩
abbrev S1x4096x20928 : Shape := ⟨3, ![1, 4096, 20928]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x20928 : Shape := ⟨2, ![4096, 20928]⟩
abbrev S8192x20928 : Shape := ⟨2, ![8192, 20928]⟩
abbrev S8192x6144 : Shape := ⟨2, ![8192, 6144]⟩
abbrev S8192x96 : Shape := ⟨2, ![8192, 96]⟩
abbrev S8192x256 : Shape := ⟨2, ![8192, 256]⟩
abbrev S8192x2048 : Shape := ⟨2, ![8192, 2048]⟩
abbrev S8192x12288 : Shape := ⟨2, ![8192, 12288]⟩
abbrev S8192x32 : Shape := ⟨2, ![8192, 32]⟩
abbrev S8192x20480 : Shape := ⟨2, ![8192, 20480]⟩
abbrev S8192x512 : Shape := ⟨2, ![8192, 512]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x20928, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S4096x20928, .f32⟩
  | .hbm, ⟨22, _⟩ => ⟨S8192x20928, .f32⟩
  | .hbm, ⟨23, _⟩ => ⟨S8192x6144, .f32⟩
  | .hbm, ⟨24, _⟩ => ⟨S8192x96, .f32⟩
  | .hbm, ⟨25, _⟩ => ⟨S8192x96, .f32⟩
  | .hbm, ⟨26, _⟩ => ⟨S8192x256, .f32⟩
  | .hbm, ⟨27, _⟩ => ⟨S8192x2048, .f32⟩
  | .hbm, ⟨28, _⟩ => ⟨S8192x12288, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x32, .f32⟩
  | .hbm, ⟨34, _⟩ => ⟨S8192x20480, .f32⟩
  | .hbm, ⟨35, _⟩ => ⟨S8192x512, .f32⟩
  | .hbm, ⟨36, _⟩ => ⟨S8192x20480, .bf16⟩
  | .hbm, ⟨37, _⟩ => ⟨S8192x512, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Attn.lean ====
abbrev S8192x20480 : Shape := ⟨2, ![8192, 20480]⟩
abbrev S1x64 : Shape := ⟨2, ![1, 64]⟩
abbrev S1x128 : Shape := ⟨2, ![1, 128]⟩
abbrev S2x4096x20480 : Shape := ⟨3, ![2, 4096, 20480]⟩
abbrev S64 : Shape := ⟨1, ![64]⟩
abbrev S128 : Shape := ⟨1, ![128]⟩
abbrev S2x4096x2048 : Shape := ⟨3, ![2, 4096, 2048]⟩
abbrev S1x256x128 : Shape := ⟨3, ![1, 256, 128]⟩
abbrev S1x4096x128 : Shape := ⟨3, ![1, 4096, 128]⟩
abbrev S7936x256 : Shape := ⟨2, ![7936, 256]⟩
abbrev S144x4096 : Shape := ⟨2, ![144, 4096]⟩
abbrev S2x4096x512 : Shape := ⟨3, ![2, 4096, 512]⟩
abbrev S4096x512 : Shape := ⟨2, ![4096, 512]⟩
abbrev S1x1 : Shape := ⟨2, ![1, 1]⟩
abbrev S4096x128 : Shape := ⟨2, ![4096, 128]⟩
abbrev S128x4096 : Shape := ⟨2, ![128, 4096]⟩
abbrev S16x4096 : Shape := ⟨2, ![16, 4096]⟩
abbrev S256x128 : Shape := ⟨2, ![256, 128]⟩
abbrev S512x128 : Shape := ⟨2, ![512, 128]⟩
abbrev S512x256 : Shape := ⟨2, ![512, 256]⟩
abbrev S1x512x128 : Shape := ⟨3, ![1, 512, 128]⟩
abbrev S512x512 : Shape := ⟨2, ![512, 512]⟩
abbrev S1x512x512 : Shape := ⟨3, ![1, 512, 512]⟩
abbrev S1 : Shape := ⟨1, ![1]⟩
abbrev S1x32x512 : Shape := ⟨3, ![1, 32, 512]⟩
abbrev S32x512 : Shape := ⟨2, ![32, 512]⟩
abbrev S8x512 : Shape := ⟨2, ![8, 512]⟩
abbrev S512 : Shape := ⟨1, ![512]⟩
abbrev S1x512 : Shape := ⟨2, ![1, 512]⟩
abbrev S144x1024 : Shape := ⟨2, ![144, 1024]⟩
abbrev S1024x512 : Shape := ⟨2, ![1024, 512]⟩
abbrev S144x512 : Shape := ⟨2, ![144, 512]⟩
abbrev S128x512 : Shape := ⟨2, ![128, 512]⟩
abbrev S128x256 : Shape := ⟨2, ![128, 256]⟩
abbrev S1x256 : Shape := ⟨2, ![1, 256]⟩
abbrev S256 : Shape := ⟨1, ![256]⟩
abbrev S256x1 : Shape := ⟨2, ![256, 1]⟩

abbrev nBuf : Space → Nat
  | .hbm => 18
  | .vmem => 19
  | .smem => 0
  | _ => 0

abbrev bufTy : (tb : Table) → Fin (tcTables nBuf tb) → BufTy
  | .hbm, ⟨0, _⟩ => ⟨S8192x20480, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S2x4096x20480, .bf16⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x128, .f32⟩
  | .hbm, ⟨17, _⟩ => ⟨S2x4096x2048, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1x256x128, .bf16⟩
  | .local _ .vmem, ⟨14, _⟩ => ⟨S1x256x128, .bf16⟩
  | .local _ .vmem, ⟨15, _⟩ => ⟨S7936x256, .f32⟩
  | .local _ .vmem, ⟨16, _⟩ => ⟨S144x4096, .bf16⟩
  | .local _ .vmem, ⟨17, _⟩ => ⟨S2x4096x512, .f32⟩
  | .local _ .vmem, ⟨18, _⟩ => ⟨S4096x512, .bf16⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 16, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_mult1 : BitVec 32 :=
  let c3840_i32_46 : BitVec 32 := 3840#32
  c3840_i32_46
def k0_mult2 : BitVec 32 :=
  let c4352_i32 : BitVec 32 := 4352#32
  c4352_i32
def k0_mult3 : BitVec 32 :=
  let c4864_i32 : BitVec 32 := 4864#32
  c4864_i32
def k0_mult4 : BitVec 32 :=
  let c5376_i32 : BitVec 32 := 5376#32
  c5376_i32
def k0_mult5 : BitVec 32 :=
  let c5888_i32 : BitVec 32 := 5888#32
  c5888_i32
def k0_mult6 : BitVec 32 :=
  let c6400_i32 : BitVec 32 := 6400#32
  c6400_i32
def k0_mult7 : BitVec 32 :=
  let c6912_i32 : BitVec 32 := 6912#32
  c6912_i32
def k0_mult8 : BitVec 32 :=
  let c7424_i32 : BitVec 32 := 7424#32
  c7424_i32
def k0_cond2 (i : grid0.Coords) : BitVec 1 :=
  let arg2 : BitVec 32 := BitVec.ofNat 32 (i 2).val
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi arg2 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c0_i32_15 : BitVec 32 := 0#32
  let v34 : BitVec 1 := Scalar.cmpi .eq v33 c0_i32_15
  let v35 : BitVec 32 := Scalar.extui v34
  let c0_i32_16 : BitVec 32 := 0#32
  let v36 : BitVec 1 := Scalar.cmpi .ne v35 c0_i32_16
  v36

def k0_mult9 (i : grid0.Coords) : BitVec 32 :=
  let c3840_i32 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32 : BitVec 32 := 256#32
  let v62 : BitVec 32 := Scalar.muli v23 c256_i32
  let v63 : BitVec 32 := Scalar.subi c3840_i32 v62
  let c0_i32_31 : BitVec 32 := 0#32
  let v64 : BitVec 32 := Scalar.addi v63 c0_i32_31
  v64
def k0_off1 (i : grid0.Coords) (c0_i32_31 : BitVec 32) : Fin 2 → Nat :=
  let c3840_i32 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32 : BitVec 32 := 256#32
  let v62 : BitVec 32 := Scalar.muli v23 c256_i32
  let v63 : BitVec 32 := Scalar.subi c3840_i32 v62
  let v64 : BitVec 32 := Scalar.addi v63 c0_i32_31
  let v65 : BitVec 32 := v64
  let v66 : Index := Scalar.indexCast v65
  let c0_32 : Index := 0#32
  ![v66.toNat, 0]
def k0_mult10 (i : grid0.Coords) : BitVec 32 :=
  let c3840_i32_105 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_104 : BitVec 32 := 256#32
  let v395 : BitVec 32 := Scalar.muli v23 c256_i32_104
  let v396 : BitVec 32 := Scalar.subi c3840_i32_105 v395
  let c512_i32 : BitVec 32 := 512#32
  let v397 : BitVec 32 := Scalar.addi v396 c512_i32
  v397
def k0_mult11 (i : grid0.Coords) : BitVec 32 :=
  let c3840_i32_179 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_178 : BitVec 32 := 256#32
  let v729 : BitVec 32 := Scalar.muli v23 c256_i32_178
  let v730 : BitVec 32 := Scalar.subi c3840_i32_179 v729
  let c1024_i32 : BitVec 32 := 1024#32
  let v731 : BitVec 32 := Scalar.addi v730 c1024_i32
  v731
def k0_mult12 (i : grid0.Coords) : BitVec 32 :=
  let c3840_i32_253 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_252 : BitVec 32 := 256#32
  let v1063 : BitVec 32 := Scalar.muli v23 c256_i32_252
  let v1064 : BitVec 32 := Scalar.subi c3840_i32_253 v1063
  let c1536_i32 : BitVec 32 := 1536#32
  let v1065 : BitVec 32 := Scalar.addi v1064 c1536_i32
  v1065
def k0_mult13 (i : grid0.Coords) : BitVec 32 :=
  let c3840_i32_328 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_327 : BitVec 32 := 256#32
  let v1399 : BitVec 32 := Scalar.muli v23 c256_i32_327
  let v1400 : BitVec 32 := Scalar.subi c3840_i32_328 v1399
  let c2048_i32 : BitVec 32 := 2048#32
  let v1401 : BitVec 32 := Scalar.addi v1400 c2048_i32
  v1401
def k0_mult14 (i : grid0.Coords) : BitVec 32 :=
  let c3840_i32_503 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_502 : BitVec 32 := 256#32
  let v1704 : BitVec 32 := Scalar.muli v23 c256_i32_502
  let v1705 : BitVec 32 := Scalar.subi c3840_i32_503 v1704
  let c2560_i32 : BitVec 32 := 2560#32
  let v1706 : BitVec 32 := Scalar.addi v1705 c2560_i32
  v1706
def k0_mult15 (i : grid0.Coords) : BitVec 32 :=
  let c3840_i32_678 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_677 : BitVec 32 := 256#32
  let v2010 : BitVec 32 := Scalar.muli v23 c256_i32_677
  let v2011 : BitVec 32 := Scalar.subi c3840_i32_678 v2010
  let c3072_i32 : BitVec 32 := 3072#32
  let v2012 : BitVec 32 := Scalar.addi v2011 c3072_i32
  v2012
def k0_mult16 (i : grid0.Coords) : BitVec 32 :=
  let c3840_i32_853 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_852 : BitVec 32 := 256#32
  let v2316 : BitVec 32 := Scalar.muli v23 c256_i32_852
  let v2317 : BitVec 32 := Scalar.subi c3840_i32_853 v2316
  let c3584_i32 : BitVec 32 := 3584#32
  let v2318 : BitVec 32 := Scalar.addi v2317 c3584_i32
  v2318
def k0_cond3 (i : grid0.Coords) : BitVec 1 :=
  let arg2 : BitVec 32 := BitVec.ofNat 32 (i 2).val
  let c2_i32_17 : BitVec 32 := 2#32
  let c0_i32_18 : BitVec 32 := 0#32
  let v37 : BitVec 1 := Scalar.cmpi .eq c2_i32_17 c0_i32_18
  let c1_i32_19 : BitVec 32 := 1#32
  let v38 : BitVec 32 := Scalar.select v37 c1_i32_19 c2_i32_17
  let v39 : BitVec 32 := Scalar.remsi arg2 v38
  let c0_i32_21 : BitVec 32 := 0#32
  let v41 : BitVec 1 := Scalar.cmpi .slt v39 c0_i32_21
  let c0_i32_22 : BitVec 32 := 0#32
  let v42 : BitVec 1 := Scalar.cmpi .slt v38 c0_i32_22
  let v43 : BitVec 1 := Scalar.xori v41 v42
  let c0_i32_20 : BitVec 32 := 0#32
  let v40 : BitVec 1 := Scalar.cmpi .ne v39 c0_i32_20
  let v44 : BitVec 1 := Scalar.andi v43 v40
  let v45 : BitVec 32 := Scalar.addi v39 v38
  let v46 : BitVec 32 := Scalar.select v44 v45 v39
  let c1_i32_23 : BitVec 32 := 1#32
  let v47 : BitVec 1 := Scalar.cmpi .eq v46 c1_i32_23
  let v48 : BitVec 32 := Scalar.extui v47
  let c0_i32_24 : BitVec 32 := 0#32
  let v49 : BitVec 1 := Scalar.cmpi .ne v48 c0_i32_24
  v49

def k0_mult17 (i : grid0.Coords) : BitVec 32 :=
  let c3840_i32 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32 : BitVec 32 := 256#32
  let v62 : BitVec 32 := Scalar.muli v23 c256_i32
  let v63 : BitVec 32 := Scalar.subi c3840_i32 v62
  let c0_i32_31 : BitVec 32 := 0#32
  let v64 : BitVec 32 := Scalar.addi v63 c0_i32_31
  v64
def k0_off2 (i : grid0.Coords) (c0_i32_31 : BitVec 32) : Fin 2 → Nat :=
  let c3840_i32 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32 : BitVec 32 := 256#32
  let v62 : BitVec 32 := Scalar.muli v23 c256_i32
  let v63 : BitVec 32 := Scalar.subi c3840_i32 v62
  let v64 : BitVec 32 := Scalar.addi v63 c0_i32_31
  let v65 : BitVec 32 := v64
  let v66 : Index := Scalar.indexCast v65
  let c0_32 : Index := 0#32
  ![v66.toNat, 0]
def k0_mult18 (i : grid0.Coords) : BitVec 32 :=
  let c3840_i32_105 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_104 : BitVec 32 := 256#32
  let v395 : BitVec 32 := Scalar.muli v23 c256_i32_104
  let v396 : BitVec 32 := Scalar.subi c3840_i32_105 v395
  let c512_i32 : BitVec 32 := 512#32
  let v397 : BitVec 32 := Scalar.addi v396 c512_i32
  v397
def k0_mult19 (i : grid0.Coords) : BitVec 32 :=
  let c3840_i32_179 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_178 : BitVec 32 := 256#32
  let v729 : BitVec 32 := Scalar.muli v23 c256_i32_178
  let v730 : BitVec 32 := Scalar.subi c3840_i32_179 v729
  let c1024_i32 : BitVec 32 := 1024#32
  let v731 : BitVec 32 := Scalar.addi v730 c1024_i32
  v731
def k0_mult20 (i : grid0.Coords) : BitVec 32 :=
  let c3840_i32_253 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_252 : BitVec 32 := 256#32
  let v1063 : BitVec 32 := Scalar.muli v23 c256_i32_252
  let v1064 : BitVec 32 := Scalar.subi c3840_i32_253 v1063
  let c1536_i32 : BitVec 32 := 1536#32
  let v1065 : BitVec 32 := Scalar.addi v1064 c1536_i32
  v1065
def k0_mult21 (i : grid0.Coords) : BitVec 32 :=
  let c3840_i32_328 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_327 : BitVec 32 := 256#32
  let v1399 : BitVec 32 := Scalar.muli v23 c256_i32_327
  let v1400 : BitVec 32 := Scalar.subi c3840_i32_328 v1399
  let c2048_i32 : BitVec 32 := 2048#32
  let v1401 : BitVec 32 := Scalar.addi v1400 c2048_i32
  v1401
def k0_mult22 (i : grid0.Coords) : BitVec 32 :=
  let c3840_i32_503 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_502 : BitVec 32 := 256#32
  let v1704 : BitVec 32 := Scalar.muli v23 c256_i32_502
  let v1705 : BitVec 32 := Scalar.subi c3840_i32_503 v1704
  let c2560_i32 : BitVec 32 := 2560#32
  let v1706 : BitVec 32 := Scalar.addi v1705 c2560_i32
  v1706
def k0_mult23 (i : grid0.Coords) : BitVec 32 :=
  let c3840_i32_678 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_677 : BitVec 32 := 256#32
  let v2010 : BitVec 32 := Scalar.muli v23 c256_i32_677
  let v2011 : BitVec 32 := Scalar.subi c3840_i32_678 v2010
  let c3072_i32 : BitVec 32 := 3072#32
  let v2012 : BitVec 32 := Scalar.addi v2011 c3072_i32
  v2012
def k0_mult24 (i : grid0.Coords) : BitVec 32 :=
  let c3840_i32_853 : BitVec 32 := 3840#32
  let arg2 : BitVec 32 := BitVec.ofNat 32 (i 2).val
  let c1_i32 : BitVec 32 := 1#32
  let v22 : BitVec 32 := Scalar.addi arg2 c1_i32
  let c15_i32 : BitVec 32 := 15#32
  let v23 : BitVec 32 := Scalar.minsi v22 c15_i32
  let c256_i32_852 : BitVec 32 := 256#32
  let v2316 : BitVec 32 := Scalar.muli v23 c256_i32_852
  let v2317 : BitVec 32 := Scalar.subi c3840_i32_853 v2316
  let c3584_i32 : BitVec 32 := 3584#32
  let v2318 : BitVec 32 := Scalar.addi v2317 c3584_i32
  v2318
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c48_i32 : BitVec 32 := 48#32
  let v2 : BitVec 32 := Scalar.addi c48_i32 arg1
  let c0_i32 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnIdeal.lean ====
variable {F : FTy → Type} [FloatOps F] [Named F]
def κ : String → Option EReal := fun
  | "log2e" => some (((Real.log 2)⁻¹ : ℝ) : EReal)
  | _ => none
-- ==== AttnReferenceIdeal.lean ====
abbrev S8192x20480 : Shape := ⟨2, ![8192, 20480]⟩
abbrev S1x64 : Shape := ⟨2, ![1, 64]⟩
abbrev S1x128 : Shape := ⟨2, ![1, 128]⟩
abbrev S8192x14336 : Shape := ⟨2, ![8192, 14336]⟩
abbrev S8192x2048 : Shape := ⟨2, ![8192, 2048]⟩
abbrev S8192x8192 : Shape := ⟨2, ![8192, 8192]⟩
abbrev S2x4096x16x2x64 : Shape := ⟨5, ![2, 4096, 16, 2, 64]⟩
abbrev S2x4096x16x128 : Shape := ⟨4, ![2, 4096, 16, 128]⟩
abbrev S64 : Shape := ⟨1, ![64]⟩
abbrev S_ : Shape := ⟨0, ![]⟩
abbrev S16 : Shape := ⟨1, ![16]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x1x1 : Shape := ⟨3, ![16, 1, 1]⟩
abbrev S1x4096x4096 : Shape := ⟨3, ![1, 4096, 4096]⟩
abbrev S16x4096x4096 : Shape := ⟨3, ![16, 4096, 4096]⟩
abbrev S2x2x16x4096x4096 : Shape := ⟨5, ![2, 2, 16, 4096, 4096]⟩
abbrev S1x1x16x4096x4096 : Shape := ⟨5, ![1, 1, 16, 4096, 4096]⟩
abbrev S2x2x16x4096 : Shape := ⟨4, ![2, 2, 16, 4096]⟩
abbrev S2x2x16x4096x1 : Shape := ⟨5, ![2, 2, 16, 4096, 1]⟩
abbrev S2x1x16x4096x4096 : Shape := ⟨5, ![2, 1, 16, 4096, 4096]⟩
abbrev S2x16x4096x4096 : Shape := ⟨4, ![2, 16, 4096, 4096]⟩
abbrev S2x16x128x4096 : Shape := ⟨4, ![2, 16, 128, 4096]⟩
abbrev S2x4096x16 : Shape := ⟨3, ![2, 4096, 16]⟩
abbrev S2x4096x16x1 : Shape := ⟨4, ![2, 4096, 16, 1]⟩
abbrev S128 : Shape := ⟨1, ![128]⟩
abbrev S1x1x1x128 : Shape := ⟨4, ![1, 1, 1, 128]⟩
abbrev S2x4096x2048 : Shape := ⟨3, ![2, 4096, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8192x20480, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S8192x20480, .f32⟩
  | .hbm, ⟨7, _⟩ => ⟨S8192x14336, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x8192, .f32⟩
  | .hbm, ⟨12, _⟩ => ⟨S2x4096x16x2x64, .f32⟩
  | .hbm, ⟨13, _⟩ => ⟨S2x4096x16x2x64, .f32⟩
  | .hbm, ⟨14, _⟩ => ⟨S2x4096x16x128, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S4096, .i32⟩
  | .hbm, ⟨47, _⟩ => ⟨S4096x1, .i32⟩
  | .hbm, ⟨48, _⟩ => ⟨S1x4096, .i32⟩
  | .hbm, ⟨49, _⟩ => ⟨S4096x4096, .i32⟩
  | .hbm, ⟨50, _⟩ => ⟨S4096x4096, .i32⟩
  | .hbm, ⟨51, _⟩ => ⟨S4096x4096, .i32⟩
  | .hbm, ⟨52, _⟩ => ⟨S4096x4096, .i32⟩
  | .hbm, ⟨53, _⟩ => ⟨S4096x4096, .f32⟩
  | .hbm, ⟨54, _⟩ => ⟨S16x1x1, .f32⟩
  | .hbm, ⟨55, _⟩ => ⟨S16x1x1, .f32⟩
  | .hbm, ⟨56, _⟩ => ⟨S1x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S2x2x16x4096x4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2x2x16x4096x4096, .f32⟩
  | .hbm, ⟨65, _⟩ => ⟨S2x2x16x4096x4096, .f32⟩
  | .hbm, ⟨66, _⟩ => ⟨S1x1x16x4096x4096, .f32⟩
  | .hbm, ⟨67, _⟩ => ⟨S2x2x16x4096x4096, .f32⟩
  | .hbm, ⟨68, _⟩ => ⟨S2x2x16x4096x4096, .f32⟩
  | .hbm, ⟨69, _⟩ => ⟨S_, .f32⟩
  | .hbm, ⟨70, _⟩ => ⟨S2x2x16x4096, .f32⟩
  | .hbm, ⟨71, _⟩ => ⟨S_, .f32⟩
  | .hbm, ⟨72, _⟩ => ⟨S2x2x16x4096, .f32⟩
  | .hbm, ⟨73, _⟩ => ⟨S2x2x16x4096, .f32⟩
  | .hbm, ⟨74, _⟩ => ⟨S2x2x16x4096x1, .f32⟩
  | .hbm, ⟨75, _⟩ => ⟨S2x2x16x4096x4096, .f32⟩
  | .hbm, ⟨76, _⟩ => ⟨S2x2x16x4096x4096, .f32⟩
  | .hbm, ⟨77, _⟩ => ⟨S2x2x16x4096x4096, .f32⟩
  | .hbm, ⟨78, _⟩ => ⟨S_, .f32⟩
  | .hbm, ⟨79, _⟩ => ⟨S2x2x16x4096, .f32⟩
  | .hbm, ⟨80, _⟩ => ⟨S2x2x16x4096x1, .f32⟩
  | .hbm, ⟨81, _⟩ => ⟨S2x2x16x4096x4096, .f32⟩
  | .hbm, ⟨82, _⟩ => ⟨S2x2x16x4096x4096, .f32⟩
  | .hbm, ⟨83, _⟩ => ⟨S2x1x16x4096x4096, .f32⟩
  | .hbm, ⟨84, _⟩ => ⟨S2x16x4096x4096, .f32⟩
  | .hbm, ⟨85, _⟩ => ⟨S2x1x16x4096x4096, .f32⟩
  | .hbm, ⟨86, _⟩ => ⟨S2x16x4096x4096, .f32⟩
  | .hbm, ⟨87, _⟩ => ⟨S2x16x4096x4096, .f32⟩
  | .hbm, ⟨88, _⟩ => ⟨S2x16x4096x4096, .f32⟩
  | .hbm, ⟨89, _⟩ => ⟨S2x16x4096x4096, .f32⟩
  | .hbm, ⟨90, _⟩ => ⟨S2x16x128x4096, .f32⟩
  | .hbm, ⟨91, _⟩ => ⟨S2x4096x16x128, .f32⟩
  | .hbm, ⟨92, _⟩ => ⟨S2x4096x16x128, .f32⟩
  | .hbm, ⟨93, _⟩ => ⟨S_, .f32⟩
  | .hbm, ⟨94, _⟩ => ⟨S2x4096x16, .f32⟩
  | .hbm, ⟨95, _⟩ => ⟨S2x4096x16x1, .f32⟩
  | .hbm, ⟨96, _⟩ => ⟨S_, .f32⟩
  | .hbm, ⟨97, _⟩ => ⟨S2x4096x16x1, .f32⟩
  | .hbm, ⟨98, _⟩ => ⟨S2x4096x16x1, .f32⟩
  | .hbm, ⟨99, _⟩ => ⟨S_, .f32⟩
  | .hbm, ⟨100, _⟩ => ⟨S2x4096x16x1, .f32⟩
  | .hbm, ⟨101, _⟩ => ⟨S2x4096x16x1, .f32⟩
  | .hbm, ⟨102, _⟩ => ⟨S2x4096x16x1, .f32⟩
  | .hbm, ⟨103, _⟩ => ⟨S2x4096x16x128, .f32⟩
  | .hbm, ⟨104, _⟩ => ⟨S2x4096x16x128, .f32⟩
  | .hbm, ⟨105, _⟩ => ⟨S128, .f32⟩
  | .hbm, ⟨106, _⟩ => ⟨S1x1x1x128, .f32⟩
  | .hbm, ⟨107, _⟩ => ⟨S2x4096x16x128, .f32⟩
  | .hbm, ⟨108, _⟩ => ⟨S2x4096x16x128, .f32⟩
  | .hbm, ⟨109, _⟩ => ⟨S_, .f32⟩
  | .hbm, ⟨110, _⟩ => ⟨S2x4096x16x128, .f32⟩
  | .hbm, ⟨111, _⟩ => ⟨S2x4096x16x128, .f32⟩
  | .hbm, ⟨112, _⟩ => ⟨S2x4096x2048, .f32⟩
  | .hbm, ⟨113, _⟩ => ⟨S2x4096x2048, .bf16⟩
  | _, _ => ⟨S8192x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩

abbrev nD : Nat := 1
abbrev τ : Topo := Topo.v7x

variable {F : FTy → Type} [FloatOps F]
-- ==== Post.lean ====
abbrev S2x4096x2048 : Shape := ⟨3, ![2, 4096, 2048]⟩
abbrev S1x2048 : Shape := ⟨2, ![1, 2048]⟩
abbrev S2048 : Shape := ⟨1, ![2048]⟩
abbrev S1x4096x256 : Shape := ⟨3, ![1, 4096, 256]⟩
abbrev S1x256 : Shape := ⟨2, ![1, 256]⟩
abbrev S256x256 : Shape := ⟨2, ![256, 256]⟩
abbrev S4096x256 : Shape := ⟨2, ![4096, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x2048, .bf16⟩
  | .hbm, ⟨3, _⟩ => ⟨S2x4096x2048, .bf16⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x4096x2048, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x4096x256, .bf16⟩
  | .local _ .vmem, ⟨13, _⟩ => ⟨S1x4096x256, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== PostReferenceIdeal.lean ====
abbrev S2x4096x2048 : Shape := ⟨3, ![2, 4096, 2048]⟩
abbrev S1x2048 : Shape := ⟨2, ![1, 2048]⟩
abbrev S2x4096x32x64 : Shape := ⟨4, ![2, 4096, 32, 64]⟩
abbrev S_ : Shape := ⟨0, ![]⟩
abbrev S2x4096x32 : Shape := ⟨3, ![2, 4096, 32]⟩
abbrev S2x4096x32x1 : Shape := ⟨4, ![2, 4096, 32, 1]⟩
abbrev S2048 : Shape := ⟨1, ![2048]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x2048, .bf16⟩
  | .hbm, ⟨3, _⟩ => ⟨S2x4096x2048, .bf16⟩
  | .hbm, ⟨4, _⟩ => ⟨S1x2048, .f32⟩
  | .hbm, ⟨5, _⟩ => ⟨S1x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x32x64, .f32⟩
  | .hbm, ⟨10, _⟩ => ⟨S_, .f32⟩
  | .hbm, ⟨11, _⟩ => ⟨S2x4096x32, .f32⟩
  | .hbm, ⟨12, _⟩ => ⟨S2x4096x32x1, .f32⟩
  | .hbm, ⟨13, _⟩ => ⟨S_, .f32⟩
  | .hbm, ⟨14, _⟩ => ⟨S2x4096x32x1, .f32⟩
  | .hbm, ⟨15, _⟩ => ⟨S2x4096x32x1, .f32⟩
  | .hbm, ⟨16, _⟩ => ⟨S2x4096x32x64, .f32⟩
  | .hbm, ⟨17, _⟩ => ⟨S2x4096x32x64, .f32⟩
  | .hbm, ⟨18, _⟩ => ⟨S2x4096x32x64, .f32⟩
  | .hbm, ⟨19, _⟩ => ⟨S_, .f32⟩
  | .hbm, ⟨20, _⟩ => ⟨S2x4096x32, .f32⟩
  | .hbm, ⟨21, _⟩ => ⟨S2x4096x32x1, .f32⟩
  | .hbm, ⟨22, _⟩ => ⟨S_, .f32⟩
  | .hbm, ⟨23, _⟩ => ⟨S2x4096x32x1, .f32⟩
  | .hbm, ⟨24, _⟩ => ⟨S2x4096x32x1, .f32⟩
  | .hbm, ⟨25, _⟩ => ⟨S2x4096x32x64, .f32⟩
  | .hbm, ⟨26, _⟩ => ⟨S2x4096x32x64, .f32⟩
  | .hbm, ⟨27, _⟩ => ⟨S_, .f32⟩
  | .hbm, ⟨28, _⟩ => ⟨S2x4096x32x1, .f32⟩
  | .hbm, ⟨29, _⟩ => ⟨S2x4096x32x1, .f32⟩
  | .hbm, ⟨30, _⟩ => ⟨S2x4096x32x1, .f32⟩
  | .hbm, ⟨31, _⟩ => ⟨S2x4096x32x64, .f32⟩
  | .hbm, ⟨32, _⟩ => ⟨S2x4096x32x64, .f32⟩
  | .hbm, ⟨33, _⟩ => ⟨S2x4096x2048, .f32⟩
  | .hbm, ⟨34, _⟩ => ⟨S2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S2048, .f32⟩
  | .hbm, ⟨39, _⟩ => ⟨S1x1x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Mix.lean ====
abbrev S2x4096x4096 : Shape := ⟨3, ![2, 4096, 4096]⟩
abbrev S2x4096x2048 : Shape := ⟨3, ![2, 4096, 2048]⟩
abbrev S1x2048x4096 : Shape := ⟨3, ![1, 2048, 4096]⟩
abbrev S8192x20480 : Shape := ⟨2, ![8192, 20480]⟩
abbrev S1x4096x4096 : Shape := ⟨3, ![1, 4096, 4096]⟩
abbrev S1x4096 : Shape := ⟨2, ![1, 4096]⟩
abbrev S1x4096x16384 : Shape := ⟨3, ![1, 4096, 16384]⟩
abbrev S8192x4096 : Shape := ⟨2, ![8192, 4096]⟩
abbrev S8192x2048 : Shape := ⟨2, ![8192, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S4096x4096 : Shape := ⟨2, ![4096, 4096]⟩
abbrev S4096x512 : Shape := ⟨2, ![4096, 512]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x16384 : Shape := ⟨2, ![4096, 16384]⟩
abbrev S8192x16384 : Shape := ⟨2, ![8192, 16384]⟩

abbrev nBuf : Space → Nat
  | .hbm => 26
  | .vmem => 34
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .bf16⟩
  | .hbm, ⟨2, _⟩ => ⟨S2x4096x2048, .bf16⟩
  | .hbm, ⟨3, _⟩ => ⟨S1x2048x4096, .f32⟩
  | .hbm, ⟨4, _⟩ => ⟨S1x2048x4096, .f32⟩
  | .hbm, ⟨5, _⟩ => ⟨S8192x20480, .bf16⟩
  | .hbm, ⟨6, _⟩ => ⟨S1x4096x4096, .f32⟩
  | .hbm, ⟨7, _⟩ => ⟨S1x4096, .f32⟩
  | .hbm, ⟨8, _⟩ => ⟨S1x4096, .f32⟩
  | .hbm, ⟨9, _⟩ => ⟨S1x4096x16384, .f32⟩
  | .hbm, ⟨10, _⟩ => ⟨S8192x4096, .f32⟩
  | .hbm, ⟨11, _⟩ => ⟨S8192x2048, .bf16⟩
  | .hbm, ⟨12, _⟩ => ⟨S8192x2048, .bf16⟩
  | .hbm, ⟨13, _⟩ => ⟨S2048x4096, .f32⟩
  | .hbm, ⟨14, _⟩ => ⟨S2048x4096, .f32⟩
  | .hbm, ⟨15, _⟩ => ⟨S8192x4096, .bf16⟩
  | .hbm, ⟨16, _⟩ => ⟨S4096x4096, .f32⟩
  | .hbm, ⟨17, _⟩ => ⟨S8192x4096, .bf16⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S1x4096, .f32⟩
  | .hbm, ⟨22, _⟩ => ⟨S8192x4096, .f32⟩
  | .hbm, ⟨23, _⟩ => ⟨S8192x4096, .bf16⟩
  | .hbm, ⟨24, _⟩ => ⟨S4096x16384, .f32⟩
  | .hbm, ⟨25, _⟩ => ⟨S8192x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x4096, .bf16⟩
  | .local _ .vmem, ⟨15, _⟩ => ⟨S4096x512, .f32⟩
  | .local _ .vmem, ⟨16, _⟩ => ⟨S4096x512, .f32⟩
  | .local _ .vmem, ⟨17, _⟩ => ⟨S2048x512, .bf16⟩
  | .local _ .vmem, ⟨18, _⟩ => ⟨S2048x512, .bf16⟩
  | .local _ .vmem, ⟨19, _⟩ => ⟨S256x4096, .f32⟩
  | .local _ .vmem, ⟨20, _⟩ => ⟨S256x4096, .f32⟩
  | .local _ .vmem, ⟨21, _⟩ => ⟨S256x4096, .bf16⟩
  | .local _ .vmem, ⟨22, _⟩ => ⟨S256x4096, .bf16⟩
  | .local _ .vmem, ⟨23, _⟩ => ⟨S1x4096, .f32⟩
  | .local _ .vmem, ⟨24, _⟩ => ⟨S1x4096, .f32⟩
  | .local _ .vmem, ⟨25, _⟩ => ⟨S256x4096, .f32⟩
  | .local _ .vmem, ⟨26, _⟩ => ⟨S256x4096, .f32⟩
  | .local _ .vmem, ⟨27, _⟩ => ⟨S256x4096, .bf16⟩
  | .local _ .vmem, ⟨28, _⟩ => ⟨S256x4096, .bf16⟩
  | .local _ .vmem, ⟨29, _⟩ => ⟨S2048x4096, .bf16⟩
  | .local _ .vmem, ⟨30, _⟩ => ⟨S4096x512, .f32⟩
  | .local _ .vmem, ⟨31, _⟩ => ⟨S4096x512, .f32⟩
  | .local _ .vmem, ⟨32, _⟩ => ⟨S2048x512, .bf16⟩
  | .local _ .vmem, ⟨33, _⟩ => ⟨S2048x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![4, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== MixReferenceIdeal.lean ====
abbrev S2x4096x4096 : Shape := ⟨3, ![2, 4096, 4096]⟩
abbrev S2x4096x2048 : Shape := ⟨3, ![2, 4096, 2048]⟩
abbrev S1x2048x4096 : Shape := ⟨3, ![1, 2048, 4096]⟩
abbrev S8192x20480 : Shape := ⟨2, ![8192, 20480]⟩
abbrev S1x4096x4096 : Shape := ⟨3, ![1, 4096, 4096]⟩
abbrev S1x4096 : Shape := ⟨2, ![1, 4096]⟩
abbrev S1x4096x16384 : Shape := ⟨3, ![1, 4096, 16384]⟩
abbrev S8192x4096 : Shape := ⟨2, ![8192, 4096]⟩
abbrev S8192x2048 : Shape := ⟨2, ![8192, 2048]⟩
abbrev S8192x8192 : Shape := ⟨2, ![8192, 8192]⟩
abbrev S_ : Shape := ⟨0, ![]⟩
abbrev S2048x4096 : Shape := ⟨2, ![2048, 4096]⟩
abbrev S4096x4096 : Shape := ⟨2, ![4096, 4096]⟩
abbrev S8192 : Shape := ⟨1, ![8192]⟩
abbrev S8192x1 : Shape := ⟨2, ![8192, 1]⟩
abbrev S4096 : Shape := ⟨1, ![4096]⟩
abbrev S4096x16384 : Shape := ⟨2, ![4096, 16384]⟩
abbrev S8192x16384 : Shape := ⟨2, ![8192, 16384]⟩

abbrev nBuf : Space → Nat
  | .hbm => 86
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .bf16⟩
  | .hbm, ⟨2, _⟩ => ⟨S2x4096x2048, .bf16⟩
  | .hbm, ⟨3, _⟩ => ⟨S1x2048x4096, .f32⟩
  | .hbm, ⟨4, _⟩ => ⟨S1x2048x4096, .f32⟩
  | .hbm, ⟨5, _⟩ => ⟨S8192x20480, .bf16⟩
  | .hbm, ⟨6, _⟩ => ⟨S1x4096x4096, .f32⟩
  | .hbm, ⟨7, _⟩ => ⟨S1x4096, .f32⟩
  | .hbm, ⟨8, _⟩ => ⟨S1x4096, .f32⟩
  | .hbm, ⟨9, _⟩ => ⟨S1x4096x16384, .f32⟩
  | .hbm, ⟨10, _⟩ => ⟨S8192x4096, .f32⟩
  | .hbm, ⟨11, _⟩ => ⟨S2x4096x2048, .f32⟩
  | .hbm, ⟨12, _⟩ => ⟨S8192x2048, .f32⟩
  | .hbm, ⟨13, _⟩ => ⟨S2x4096x2048, .f32⟩
  | .hbm, ⟨14, _⟩ => ⟨S8192x2048, .f32⟩
  | .hbm, ⟨15, _⟩ => ⟨S8192x20480, .f32⟩
  | .hbm, ⟨16, _⟩ => ⟨S8192x8192, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S2048x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S2048x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S4096x4096, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x4096, .f32⟩
  | .hbm, ⟨56, _⟩ => ⟨S8192x4096, .f32⟩
  | .hbm, ⟨57, _⟩ => ⟨S4096, .f32⟩
  | .hbm, ⟨58, _⟩ => ⟨S1x4096, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x4096, .f32⟩
  | .hbm, ⟨74, _⟩ => ⟨S8192x4096, .f32⟩
  | .hbm, ⟨75, _⟩ => ⟨S4096, .f32⟩
  | .hbm, ⟨76, _⟩ => ⟨S1x4096, .f32⟩
  | .hbm, ⟨77, _⟩ => ⟨S8192x4096, .f32⟩
  | .hbm, ⟨78, _⟩ => ⟨S8192x4096, .f32⟩
  | .hbm, ⟨79, _⟩ => ⟨S4096x16384, .f32⟩
  | .hbm, ⟨80, _⟩ => ⟨S8192x16384, .f32⟩
  | .hbm, ⟨81, _⟩ => ⟨S_, .f32⟩
  | .hbm, ⟨82, _⟩ => ⟨S8192x16384, .f32⟩
  | .hbm, ⟨83, _⟩ => ⟨S8192x16384, .f32⟩
  | .hbm, ⟨84, _⟩ => ⟨S8192x16384, .f32⟩
  | .hbm, ⟨85, _⟩ => ⟨S8192x16384, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call0_cst : Ref sig .tc := ⟨.hbm, 81, rfl⟩
abbrev main_call0_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== MlpOut.lean ====
abbrev S8192x16384 : Shape := ⟨2, ![8192, 16384]⟩
abbrev S1x16384x4096 : Shape := ⟨3, ![1, 16384, 4096]⟩
abbrev S16384x4096 : Shape := ⟨2, ![16384, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x16384, .bf16⟩
  | .hbm, ⟨1, _⟩ => ⟨S1x16384x4096, .f32⟩
  | .hbm, ⟨2, _⟩ => ⟨S16384x4096, .f32⟩
  | .hbm, ⟨3, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutReferenceIdeal.lean ====
abbrev S8192x16384 : Shape := ⟨2, ![8192, 16384]⟩
abbrev S1x16384x4096 : Shape := ⟨3, ![1, 16384, 4096]⟩
abbrev S16384x4096 : Shape := ⟨2, ![16384, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S1x16384x4096, .f32⟩
  | .hbm, ⟨2, _⟩ => ⟨S8192x16384, .f32⟩
  | .hbm, ⟨3, _⟩ => ⟨S16384x4096, .f32⟩
  | .hbm, ⟨4, _⟩ => ⟨S8192x4096, .f32⟩
  | .hbm, ⟨5, _⟩ => ⟨S8192x4096, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Last.lean ====
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S2x4096x4096 : Shape := ⟨3, ![2, 4096, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .f32⟩
  | .hbm, ⟨6, _⟩ => ⟨S2x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastReferenceIdeal.lean ====
abbrev S8192x4096 : Shape := ⟨2, ![8192, 4096]⟩
abbrev S1x4096 : Shape := ⟨2, ![1, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S4096 : Shape := ⟨1, ![4096]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S2x4096x4096, .f32⟩
  | .hbm, ⟨4, _⟩ => ⟨S8192x4096, .f32⟩
  | .hbm, ⟨5, _⟩ => ⟨S2x4096x4096, .f32⟩
  | .hbm, ⟨6, _⟩ => ⟨S2x4096x4096, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S4096, .f32⟩
  | .hbm, ⟨20, _⟩ => ⟨S1x1x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.FrontSpec.lean ====
module

public import Idealize.ShloMosaic.Lib.Pointwise

@[expose] public section

set_option maxRecDepth 16384

noncomputable section

/-! The mathematics of the layer's input projection, an entry at a time, on the extended reals. -/
namespace Cert.Proof.Front

open Idealize.ShloMosaic

/-- One entry `x` of a row normalised by the row's root mean square, with gain `g`. -/
def rms (row : Fin 4096 → EReal) (x g : EReal) : EReal :=
  x * Ideal.rsqrt (Ideal.div (∑ k, row k * row k) (Ideal.ofBits FTy.f32 1166016512#32) + Ideal.ofBits FTy.f32 897988541#32) * g

/-- The normalised input at token `r`, feature `k`. -/
def hAt (x : (⟨3, ![2, 4096, 4096]⟩ : Shape).Idx → EReal) (g : (⟨2, ![1, 4096]⟩ : Shape).Idx → EReal) (r : Fin 8192) (k : Fin 4096) :
    EReal :=
  rms (fun j => x (ix3 ⟨r.val / 4096, by omega⟩ ⟨r.val % 4096, by omega⟩ j))
    (x (ix3 ⟨r.val / 4096, by omega⟩ ⟨r.val % 4096, by omega⟩ k)) (g (ix2 0 k))

/-- The input projection at token `r`, output column `j`. -/
def projAt (x : (⟨3, ![2, 4096, 4096]⟩ : Shape).Idx → EReal) (g : (⟨2, ![1, 4096]⟩ : Shape).Idx → EReal)
    (w : (⟨3, ![1, 4096, 20928]⟩ : Shape).Idx → EReal) (r : Fin 8192) (j : Fin 20928) : EReal :=
  ∑ k : Fin 4096, hAt x g r k * w (ix3 0 k j)

/-- The weight row a column of the large product takes: past column 6144 the 448 rows of the low-rank factors are skipped. -/
def wrow (c : Fin 20480) : Fin 20928 := ⟨c.val + if c.val < 6144 then 0 else 448, by have := c.isLt; split <;> omega⟩

/-- The factor of a column of the large product: the query columns carry the softmax's scale. -/
def scaleAt (c : Fin 20480) : EReal := if 6144 ≤ c.val ∧ c.val < 8192 then Ideal.ofBits FTy.f32 1043900987#32 else 1

end Cert.Proof.Front
-- ==== Proof.FrontBlocks.lean ====
module

public import proofs.«01_k».proof.Proof.Gen.KernelIdeal.Frame
public import Idealize.ShloMosaic.Lib.Pipeline.Value
public import proofs.«01_k».proof.Proof.FrontSpec

@[expose] public section

set_option maxRecDepth 16384

noncomputable section

namespace Cert.KernelIdeal.Blocks

open Cert.KernelIdeal Cert.KernelIdeal.Gen Cert.Proof.Front Idealize.ShloMosaic Idealize.ShloMosaic.TcCoe Idealize.SL.Sem

theorem hz : (![0, 0] : Fin 2 → Nat) = fun _ => 0 := funext fun a => by fin_cases a <;> rfl

/-- The normalised array: each row of `x` by its root mean square, then the gain `g`. -/
def normed (x : Vec Ideal S8192x4096 .f32) (g : Vec Ideal S1x4096 .f32) : Vec Ideal S8192x4096 .bf16 := fun i =>
  rms (fun k => x (ix2 (i 0) k)) (x (ix2 (i 0) (i 1))) (g (ix2 0 (i 1)))

/-- The large product: rows of `h` against the weight rows `wrow`, each column scaled. -/
def wideOf (h : Vec Ideal S8192x4096 .bf16) (w : Vec Ideal S20928x4096 .f32) (s : Vec Ideal S1x20480 .f32) :
    Vec Ideal S8192x20480 .bf16 := fun i =>
  (∑ k : Fin 4096, h (ix2 (i 0) k) * w (ix2 (wrow (i 1)) k)) * s (ix2 0 (i 1))

/-- The small product: rows of `h` against the rows of `w`. -/
def lowOf (h : Vec Ideal S8192x4096 .bf16) (w : Vec Ideal S512x4096 .f32) : Vec Ideal S8192x512 .bf16 := fun i =>
  ∑ k : Fin 4096, h (ix2 (i 0) k) * w (ix2 (i 1) k)

/-- An entry of the large product from its row, its weights and its factor. -/
theorem wideOf_at {h : Vec Ideal S8192x4096 .bf16} {w : Vec Ideal S20928x4096 .f32} {s : Vec Ideal S1x20480 .f32} {r : Fin 8192}
    {k : Fin 20480} {h' w' : Fin 4096 → EReal} {s' : EReal} (hh : ∀ j, h (ix2 r j) = h' j) (hw : ∀ j, w (ix2 (wrow k) j) = w' j)
    (hs : s (ix2 0 k) = s') : wideOf h w s (ix2 r k) = (∑ j, h' j * w' j) * s' :=
  congrArg₂ (fun a b : EReal => a * b)
    (Finset.sum_congr rfl fun j _ => congrArg₂ (fun a b : EReal => a * b) (hh j) (hw j)) hs

/-- An entry of the small product from its row and its weights. -/
theorem lowOf_at {h : Vec Ideal S8192x4096 .bf16} {w : Vec Ideal S512x4096 .f32} {r : Fin 8192}
    {k : Fin 512} {h' w' : Fin 4096 → EReal} (hh : ∀ j, h (ix2 r j) = h' j) (hw : ∀ j, w (ix2 k j) = w' j) :
    lowOf h w (ix2 r k) = ∑ j, h' j * w' j :=
  Finset.sum_congr rfl fun j _ => congrArg₂ (fun a b : EReal => a * b) (hh j) (hw j)

theorem pay0 (x : Vec Ideal S256x4096 .f32) (g : Vec Ideal S1x4096 .f32) (r : Fin 256) (c : Fin 4096) :
    k0_pay1 (F := Ideal) x g (ix2 r c) = rms (fun k => x (ix2 r k)) (x (ix2 r c)) (g (ix2 0 c)) := by
  pointwise [k0_pay1]; rfl

theorem pay1 (x : Vec Ideal S2048x4096 .bf16) (w : Vec Ideal S512x4096 .f32) (s : Vec Ideal S1x512 .f32) (r : Fin 2048)
    (c : Fin 512) :
    k1_pay1 (F := Ideal) x w s (ix2 r c) = (∑ k : Fin 4096, x (ix2 r k) * w (ix2 c k)) * s (ix2 0 c) := by
  pointwise [k1_pay1]

theorem pay2 (x : Vec Ideal S1024x4096 .bf16) (w : Vec Ideal S512x4096 .f32) (r : Fin 1024) (c : Fin 512) :
    k2_pay1 (F := Ideal) x w (ix2 r c) = ∑ k : Fin 4096, x (ix2 r k) * w (ix2 c k) := by
  pointwise [k2_pay1]

/-- Where each window of the normalisation stands at a grid point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where each window of the large product stands at a grid point; the weights' window is placed by its first row. -/
theorem idx1 : ∀ t : Fin cfg1.N, win1_0.index t (0 : Fin 2) = t.val / 40 ∧ win1_0.index t (1 : Fin 2) = 0
    ∧ win1_1.index t (0 : Fin 2) = (t.val % 40) * 512 + (if t.val % 40 < 12 then 0 else 448) ∧ win1_1.index t (1 : Fin 2) = 0
    ∧ win1_2.index t (0 : Fin 2) = 0 ∧ win1_2.index t (1 : Fin 2) = t.val % 40
    ∧ win1_3.index t (0 : Fin 2) = t.val / 40 ∧ win1_3.index t (1 : Fin 2) = t.val % 40 :=
  (by decide +kernel : ∀ t : Fin grid1.N, _)

/-- Where each window of the small product stands at a grid point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b)) (c : Dev nD)

/-! ### The normalisation -/

theorem blk0_0 (t : Fin cfg0.N) (r : Fin 256) (k : Fin 4096) :
    iblk0 V c 0 t (ix2 r k) = V c main_v0 (ix2 ⟨t.val * 256 + r.val, by
      have : t.val < 32 := t.isLt; omega⟩ k) := by
  have ht := idx0 t
  show V c main_v0 (((cfg0.win 0).blk t).view.emb (ix2 r k)) = _
  refine congrArg (V c main_v0) (funext fun a => Fin.ext ?_)
  match a with
  | ⟨0, _⟩ => show win0_0.index t (0 : Fin 2) * 256 + 1 * r.val = _; rw [ht.1, Nat.one_mul]; rfl
  | ⟨1, _⟩ => show win0_0.index t (1 : Fin 2) * 4096 + 1 * k.val = k.val; omega

theorem blk0_1 (t : Fin cfg0.N) (k : Fin 4096) :
    iblk0 V c 1 t (ix2 0 k) = V c main_v10 (ix2 0 k) := by
  have ht := idx0 t
  show V c main_v10 (((cfg0.win 1).blk t).view.emb (ix2 0 k)) = _
  refine congrArg (V c main_v10) (funext fun a => Fin.ext ?_)
  match a with
  | ⟨0, _⟩ => show win0_1.index t (0 : Fin 2) * 1 + 1 * 0 = 0; omega
  | ⟨1, _⟩ => show win0_1.index t (1 : Fin 2) * 4096 + 1 * k.val = k.val; omega

theorem emb0_2 (t : Fin cfg0.N) (r : Fin 256) (k : Fin 4096) :
    ((cfg0.win 2).blk t).view.emb (ix2 r k) = ix2 ⟨t.val * 256 + r.val, by
      have : t.val < 32 := t.isLt; omega⟩ k := by
  have ht := idx0 t
  refine funext fun a => Fin.ext ?_
  match a with
  | ⟨0, _⟩ => show win0_2.index t (0 : Fin 2) * 256 + 1 * r.val = _; rw [ht.2.2.2.2.1, Nat.one_mul]; rfl
  | ⟨1, _⟩ => show win0_2.index t (1 : Fin 2) * 4096 + 1 * k.val = k.val; omega

theorem out0 (x : Vec Ideal S256x4096 .f32) (g : Vec Ideal S1x4096 .f32) (r : Fin 256) (k : Fin 4096) :
    out0_2 x g (ix2 r k) = rms (fun k => x (ix2 r k)) (x (ix2 r k)) (g (ix2 0 k)) := by
  unfold out0_2
  rw [View.canon_unit_zero hz, View.ld_unit_zero hz, View.ld_unit_zero hz]
  exact pay0 x g r k

theorem flushed0 (t : Fin cfg0.N) : (dat0 V c).flushed 2 t
    = ((cfg0.win 2).blk t).view.read (Elt Ideal) (normed (V c main_v0) (V c main_v10)) := by
  show (cfg0.win 2).cut (grid0.coords t) ((dat0 V c).after 2 t) = _
  rw [after0_2]
  refine funext fun (j : S256x4096.Idx) => ?_
  obtain ⟨r, k, rfl⟩ : ∃ r k, j = ix2 r k := ⟨j 0, j 1, by funext a; fin_cases a <;> rfl⟩
  show out0_2 (iblk0 V c 0 t) (iblk0 V c 1 t) (ix2 r k) = normed (V c main_v0) (V c main_v10) (((cfg0.win 2).blk t).view.emb (ix2 r k))
  rw [emb0_2, out0]
  simp only [blk0_0, blk0_1]
  rfl

theorem covered0 (i : S8192x4096.Idx) :
    ∃ t : Fin cfg0.N, (cfg0.win 2).flush t = true ∧ i ∈ ((cfg0.win 2).blk t).view.set := by
  obtain ⟨r, k, rfl⟩ : ∃ r k, i = ix2 r k := ⟨i 0, i 1, by funext a; fin_cases a <;> rfl⟩
  have hN : r.val / 256 < cfg0.N := by show _ < 32; omega
  refine ⟨⟨r.val / 256, hN⟩, flush0_2 _, ?_⟩
  have h := ((cfg0.win 2).blk ⟨r.val / 256, hN⟩).view.emb_mem_set (ix2 ⟨r.val % 256, by omega⟩ k)
  rw [emb0_2] at h
  have e : r = ⟨r.val / 256 * 256 + r.val % 256, by omega⟩ := Fin.ext (by show r.val = r.val / 256 * 256 + r.val % 256; omega)
  exact (congrArg₂ ix2 e (rfl : k = k)) ▸ h

theorem final0 : (dat0 V c).arrAt 2 cfg0.N = normed (V c main_v0) (V c main_v10) :=
  (dat0 V c).arrAt_eq_of_cover 2 _ (fun t _ => flushed0 V c t) covered0

/-! ### The large product -/

theorem blk1_0 (t : Fin cfg1.N) (r : Fin 2048) (k : Fin 4096) :
    iblk1 V c 0 t (ix2 r k) = V c main_v11 (ix2 ⟨t.val / 40 * 2048 + r.val, by
      have : t.val < 160 := t.isLt; omega⟩ k) := by
  have ht := idx1 t
  show V c main_v11 (((cfg1.win 0).blk t).view.emb (ix2 r k)) = _
  refine congrArg (V c main_v11) (funext fun a => Fin.ext ?_)
  match a with
  | ⟨0, _⟩ => show win1_0.index t (0 : Fin 2) * 2048 + 1 * r.val = _; rw [ht.1, Nat.one_mul]; rfl
  | ⟨1, _⟩ => show win1_0.index t (1 : Fin 2) * 4096 + 1 * k.val = k.val; omega

/-- The weights' block is the 512 rows from the window's own first row on. -/
theorem blk1_1 (t : Fin cfg1.N) (r : Fin 512) (k : Fin 4096) :
    iblk1 V c 1 t (ix2 r k) = V c main_v2 (ix2 (wrow ⟨t.val % 40 * 512 + r.val, by omega⟩) k) := by
  have ht := idx1 t
  show V c main_v2 (((cfg1.win 1).blk t).view.emb (ix2 r k)) = _
  refine congrArg (V c main_v2) (funext fun a => Fin.ext ?_)
  match a with
  | ⟨0, _⟩ =>
    show win1_1.index t (0 : Fin 2) + 1 * r.val
      = t.val % 40 * 512 + r.val + if t.val % 40 * 512 + r.val < 6144 then 0 else 448
    rw [ht.2.2.1, Nat.one_mul]
    split <;> split <;> omega
  | ⟨1, _⟩ => show win1_1.index t (1 : Fin 2) + 1 * k.val = k.val; omega

theorem blk1_2 (t : Fin cfg1.N) (k : Fin 512) :
    iblk1 V c 2 t (ix2 0 k) = V c main_v15 (ix2 0 ⟨t.val % 40 * 512 + k.val, by omega⟩) := by
  have ht := idx1 t
  show V c main_v15 (((cfg1.win 2).blk t).view.emb (ix2 0 k)) = _
  refine congrArg (V c main_v15) (funext fun a => Fin.ext ?_)
  match a with
  | ⟨0, _⟩ => show win1_2.index t (0 : Fin 2) * 1 + 1 * 0 = 0; omega
  | ⟨1, _⟩ => show win1_2.index t (1 : Fin 2) * 512 + 1 * k.val = _; rw [ht.2.2.2.2.2.1, Nat.one_mul]; rfl

theorem emb1_3 (t : Fin cfg1.N) (r : Fin 2048) (k : Fin 512) :
    ((cfg1.win 3).blk t).view.emb (ix2 r k) = ix2 ⟨t.val / 40 * 2048 + r.val, by
      have : t.val < 160 := t.isLt; omega⟩ ⟨t.val % 40 * 512 + k.val, by omega⟩ := by
  have ht := idx1 t
  refine funext fun a => Fin.ext ?_
  match a with
  | ⟨0, _⟩ => show win1_3.index t (0 : Fin 2) * 2048 + 1 * r.val = _; rw [ht.2.2.2.2.2.2.1, Nat.one_mul]; rfl
  | ⟨1, _⟩ => show win1_3.index t (1 : Fin 2) * 512 + 1 * k.val = _; rw [ht.2.2.2.2.2.2.2, Nat.one_mul]; rfl

theorem out1 (x : Vec Ideal S2048x4096 .bf16) (w : Vec Ideal S512x4096 .f32) (s : Vec Ideal S1x512 .f32) (r : Fin 2048)
    (k : Fin 512) : out1_3 x w s (ix2 r k) = (∑ i : Fin 4096, x (ix2 r i) * w (ix2 k i)) * s (ix2 0 k) := by
  unfold out1_3
  rw [View.canon_unit_zero hz, View.ld_unit_zero hz, View.ld_unit_zero hz, View.ld_unit_zero hz]
  exact pay1 x w s r k

theorem flushed1 (t : Fin cfg1.N) : (dat1 V c).flushed 3 t
    = ((cfg1.win 3).blk t).view.read (Elt Ideal) (wideOf (V c main_v11) (V c main_v2) (V c main_v15)) := by
  show (cfg1.win 3).cut (grid1.coords t) ((dat1 V c).after 3 t) = _
  rw [after1_3]
  refine funext fun (j : S2048x512.Idx) => ?_
  obtain ⟨r, k, rfl⟩ : ∃ r k, j = ix2 r k := ⟨j 0, j 1, by funext a; fin_cases a <;> rfl⟩
  show out1_3 (iblk1 V c 0 t) (iblk1 V c 1 t) (iblk1 V c 2 t) (ix2 r k)
    = wideOf (V c main_v11) (V c main_v2) (V c main_v15) (((cfg1.win 3).blk t).view.emb (ix2 r k))
  rw [emb1_3, out1]
  simp only [blk1_0, blk1_1, blk1_2]
  rfl

theorem covered1 (i : S8192x20480.Idx) :
    ∃ t : Fin cfg1.N, (cfg1.win 3).flush t = true ∧ i ∈ ((cfg1.win 3).blk t).view.set := by
  obtain ⟨r, k, rfl⟩ : ∃ r k, i = ix2 r k := ⟨i 0, i 1, by funext a; fin_cases a <;> rfl⟩
  have hN : r.val / 2048 * 40 + k.val / 512 < cfg1.N := by show _ < 160; omega
  refine ⟨⟨r.val / 2048 * 40 + k.val / 512, hN⟩, flush1_3 _, ?_⟩
  have h := ((cfg1.win 3).blk ⟨r.val / 2048 * 40 + k.val / 512, hN⟩).view.emb_mem_set
    (ix2 ⟨r.val % 2048, by omega⟩ ⟨k.val % 512, by omega⟩)
  rw [emb1_3] at h
  have er : r = ⟨(r.val / 2048 * 40 + k.val / 512) / 40 * 2048 + r.val % 2048, by omega⟩ := Fin.ext (by
    show r.val = (r.val / 2048 * 40 + k.val / 512) / 40 * 2048 + r.val % 2048; omega)
  have ek : k = ⟨(r.val / 2048 * 40 + k.val / 512) % 40 * 512 + k.val % 512, by omega⟩ := Fin.ext (by
    show k.val = (r.val / 2048 * 40 + k.val / 512) % 40 * 512 + k.val % 512; omega)
  exact (congrArg₂ ix2 er ek) ▸ h

theorem final1 : (dat1 V c).arrAt 3 cfg1.N = wideOf (V c main_v11) (V c main_v2) (V c main_v15) :=
  (dat1 V c).arrAt_eq_of_cover 3 _ (fun t _ => flushed1 V c t) covered1

/-! ### The small product -/

theorem blk2_0 (t : Fin cfg2.N) (r : Fin 1024) (k : Fin 4096) :
    iblk2 V c 0 t (ix2 r k) = V c main_v11 (ix2 ⟨t.val * 1024 + r.val, by
      have : t.val < 8 := t.isLt; omega⟩ k) := by
  have ht := idx2 t
  show V c main_v11 (((cfg2.win 0).blk t).view.emb (ix2 r k)) = _
  refine congrArg (V c main_v11) (funext fun a => Fin.ext ?_)
  match a with
  | ⟨0, _⟩ => show win2_0.index t (0 : Fin 2) * 1024 + 1 * r.val = _; rw [ht.1, Nat.one_mul]; rfl
  | ⟨1, _⟩ => show win2_0.index t (1 : Fin 2) * 4096 + 1 * k.val = k.val; omega

theorem blk2_1 (t : Fin cfg2.N) (r : Fin 512) (k : Fin 4096) :
    iblk2 V c 1 t (ix2 r k) = V c main_v8 (ix2 r k) := by
  have ht := idx2 t
  show V c main_v8 (((cfg2.win 1).blk t).view.emb (ix2 r k)) = _
  refine congrArg (V c main_v8) (funext fun a => Fin.ext ?_)
  match a with
  | ⟨0, _⟩ => show win2_1.index t (0 : Fin 2) + 1 * r.val = r.val; omega
  | ⟨1, _⟩ => show win2_1.index t (1 : Fin 2) + 1 * k.val = k.val; omega

theorem emb2_2 (t : Fin cfg2.N) (r : Fin 1024) (k : Fin 512) :
    ((cfg2.win 2).blk t).view.emb (ix2 r k) = ix2 ⟨t.val * 1024 + r.val, by
      have : t.val < 8 := t.isLt; omega⟩ k := by
  have ht := idx2 t
  refine funext fun a => Fin.ext ?_
  match a with
  | ⟨0, _⟩ => show win2_2.index t (0 : Fin 2) * 1024 + 1 * r.val = _; rw [ht.2.2.2.2.1, Nat.one_mul]; rfl
  | ⟨1, _⟩ => show win2_2.index t (1 : Fin 2) * 512 + 1 * k.val = k.val; omega

theorem out2 (x : Vec Ideal S1024x4096 .bf16) (w : Vec Ideal S512x4096 .f32) (r : Fin 1024) (k : Fin 512) :
    out2_2 x w (ix2 r k) = ∑ i : Fin 4096, x (ix2 r i) * w (ix2 k i) := by
  unfold out2_2
  rw [View.canon_unit_zero hz, View.ld_unit_zero hz, View.ld_unit_zero hz]
  exact pay2 x w r k

theorem flushed2 (t : Fin cfg2.N) : (dat2 V c).flushed 2 t
    = ((cfg2.win 2).blk t).view.read (Elt Ideal) (lowOf (V c main_v11) (V c main_v8)) := by
  show (cfg2.win 2).cut (grid2.coords t) ((dat2 V c).after 2 t) = _
  rw [after2_2]
  refine funext fun (j : S1024x512.Idx) => ?_
  obtain ⟨r, k, rfl⟩ : ∃ r k, j = ix2 r k := ⟨j 0, j 1, by funext a; fin_cases a <;> rfl⟩
  show out2_2 (iblk2 V c 0 t) (iblk2 V c 1 t) (ix2 r k)
    = lowOf (V c main_v11) (V c main_v8) (((cfg2.win 2).blk t).view.emb (ix2 r k))
  rw [emb2_2, out2]
  simp only [blk2_0, blk2_1]
  rfl

theorem covered2 (i : S8192x512.Idx) :
    ∃ t : Fin cfg2.N, (cfg2.win 2).flush t = true ∧ i ∈ ((cfg2.win 2).blk t).view.set := by
  obtain ⟨r, k, rfl⟩ : ∃ r k, i = ix2 r k := ⟨i 0, i 1, by funext a; fin_cases a <;> rfl⟩
  have hN : r.val / 1024 < cfg2.N := by show _ < 8; omega
  refine ⟨⟨r.val / 1024, hN⟩, flush2_2 _, ?_⟩
  have h := ((cfg2.win 2).blk ⟨r.val / 1024, hN⟩).view.emb_mem_set (ix2 ⟨r.val % 1024, by omega⟩ k)
  rw [emb2_2] at h
  have e : r = ⟨r.val / 1024 * 1024 + r.val % 1024, by omega⟩ :=
    Fin.ext (by show r.val = r.val / 1024 * 1024 + r.val % 1024; omega)
  exact (congrArg₂ ix2 e (rfl : k = k)) ▸ h

theorem final2 : (dat2 V c).arrAt 2 cfg2.N = lowOf (V c main_v11) (V c main_v8) :=
  (dat2 V c).arrAt_eq_of_cover 2 _ (fun t _ => flushed2 V c t) covered2

end Cert.KernelIdeal.Blocks
-- ==== Proof.FrontHost.lean ====
module

public import proofs.«01_k».proof.Proof.FrontBlocks
public import Idealize.ShloMosaic.Lib.StableHlo.ReadAt
public import Idealize.ShloMosaic.Lib.Routing.OpsSet
public import Idealize.ShloMosaic.Lib.Routing.OpsPair

@[expose] public section

set_option maxRecDepth 16384

noncomputable section

/-! What the host operations before each region leave, at an index. -/
namespace Cert.KernelIdeal.Host

open Cert.KernelIdeal Cert.KernelIdeal.Gen Cert.Proof.Front Idealize.ShloMosaic Idealize.ShloMosaic.TcCoe Idealize.SL.Sem

variable (m : (ℓ : Loc nD τ sig) → Buf (Elt Ideal) ℓ) (ρ : Dev nD → PrngReg) (c : Dev nD)

theorem zero_word : (FloatOps.sitofp FTy.f32 (0#32 : BitVec 32) : Ideal .f32) = (0 : EReal) := by
  show ((((0#32 : BitVec 32).toInt : ℝ)) : EReal) = 0
  simp

theorem v0_at (r : Fin 8192) (k : Fin 4096) : W1 m ρ c (Proc.devRef .tc main_v0) (ix2 r k)
    = m ((c : Thread nD τ).loc main_arg0) (ix3 ⟨r.val / 4096, by omega⟩ ⟨r.val % 4096, by omega⟩ k) := by
  unfold W1; after_reads_at

theorem v2_at (r : Fin 20928) (k : Fin 4096) : W1 m ρ c (Proc.devRef .tc main_v2) (ix2 r k)
    = m ((c : Thread nD τ).loc main_arg2) (ix3 0 k r) := by
  unfold W1; after_reads_at

theorem v3_at (r : Fin 96) (k : Fin 4096) : W1 m ρ c (Proc.devRef .tc main_v3) (ix2 r k)
    = m ((c : Thread nD τ).loc main_arg2) (ix3 0 k ⟨6144 + r.val, by omega⟩) := by
  unfold W1; after_reads_at

theorem c_at (j : S_.Idx) : W1 m ρ c (Proc.devRef .tc main_c) j = (0#32 : BitVec 32) := by
  unfold W1; after_reads_at

theorem v4_at (r : Fin 128) (k : Fin 4096) : W2 m ρ c (Proc.devRef .tc main_v4) (ix2 r k)
    = (if h : r.val < 96 then m ((c : Thread nD τ).loc main_arg2) (ix3 0 k ⟨6144 + r.val, by omega⟩) else (0 : EReal)) := by
  have hc := c_at m ρ c
  have h3 := v3_at m ρ c
  unfold W2
  generalize W1 m ρ c = W at hc h3 ⊢
  after_reads_at
  rw [hc]
  simp only [h3, zero_word]

theorem v5_at (r : Fin 96) (k : Fin 4096) : W3 m ρ c (Proc.devRef .tc main_v5) (ix2 r k)
    = m ((c : Thread nD τ).loc main_arg2) (ix3 0 k ⟨6240 + r.val, by omega⟩) := by
  have h2 : ∀ r k, W2 m ρ c (Proc.devRef .tc main_v2) (ix2 r k) = _ := fun r k =>
    (congrFun (W2_of m ρ c main_v2 (by decide)) _).trans (v2_at m ρ c r k)
  unfold W3
  generalize W2 m ρ c = W at h2 ⊢
  after_reads_at
  exact h2 _ _

theorem c_0_at (j : S_.Idx) : W3 m ρ c (Proc.devRef .tc main_c_0) j = (0#32 : BitVec 32) := by
  unfold W3; generalize W2 m ρ c = W; after_reads_at

theorem v6_at (r : Fin 128) (k : Fin 4096) : W4 m ρ c (Proc.devRef .tc main_v6) (ix2 r k)
    = (if h : r.val < 96 then m ((c : Thread nD τ).loc main_arg2) (ix3 0 k ⟨6240 + r.val, by omega⟩) else (0 : EReal)) := by
  have hc := c_0_at m ρ c
  have h3 := v5_at m ρ c
  unfold W4
  generalize W3 m ρ c = W at hc h3 ⊢
  after_reads_at
  rw [hc]
  simp only [h3, zero_word]

theorem v8_at (r : Fin 512) (k : Fin 4096) : W5 m ρ c (Proc.devRef .tc main_v8) (ix2 r k) =
    (if h : r.val < 96 then m ((c : Thread nD τ).loc main_arg2) (ix3 0 k ⟨6144 + r.val, by omega⟩) else if r.val < 128 then (0 : EReal)
    else if h : r.val < 224 then m ((c : Thread nD τ).loc main_arg2) (ix3 0 k ⟨6240 + (r.val - 128), by omega⟩)
    else if r.val < 256 then (0 : EReal) else m ((c : Thread nD τ).loc main_arg2) (ix3 0 k ⟨6336 + (r.val - 256), by omega⟩)) := by
  have h4 : ∀ r k, W4 m ρ c (Proc.devRef .tc main_v4) (ix2 r k) = _ := fun r k =>
    (congrFun ((W4_of m ρ c main_v4 (by decide)).trans (W3_of m ρ c main_v4 (by decide))) _).trans (v4_at m ρ c r k)
  have h6 := v6_at m ρ c
  have h2 : ∀ r k, W4 m ρ c (Proc.devRef .tc main_v2) (ix2 r k) = _ := fun r k =>
    (congrFun (((W4_of m ρ c main_v2 (by decide)).trans (W3_of m ρ c main_v2 (by decide))).trans (W2_of m ρ c main_v2 (by decide))) _).trans
      (v2_at m ρ c r k)
  unfold W5
  generalize W4 m ρ c = W at h4 h6 h2 ⊢
  after_reads_at
  after_reads_at
  have hr := r.isLt
  by_cases h1 : r.val < 96
  · rw [dif_pos (by omega), h4, dif_pos (by exact h1), dif_pos h1]
  rw [dif_neg h1]
  by_cases h7 : r.val < 128
  · rw [dif_pos h7, h4, dif_neg (by exact h1), if_pos h7]
  rw [dif_neg h7, if_neg h7]
  by_cases h3 : r.val < 224
  · rw [dif_pos (by omega), h6, dif_pos (by show r.val - 128 < 96; omega), dif_pos h3]
  rw [dif_neg h3]
  by_cases h5 : r.val < 256
  · rw [dif_pos (by omega), h6, dif_neg (by show ¬ r.val - 128 < 96; omega), if_pos h5]
  rw [dif_neg (by omega), if_neg h5, h2]
  exact congrArg (fun q => m ((c : Thread nD τ).loc main_arg2) (ix3 0 k q))
    (Fin.ext (by show 6336 + (r.val - 128 - 128) = 6336 + (r.val - 256); omega))

theorem v10_at (k : Fin 4096) : W5 m ρ c (Proc.devRef .tc main_v10) (ix2 0 k) = m ((c : Thread nD τ).loc main_arg1) (ix2 0 k) := by
  have h := W4_args m ρ c main_arg1 (by decide)
  unfold W5
  generalize W4 m ρ c = W at h ⊢
  after_reads_at
  rw [h]

theorem resultIdx_at (k : S1x2048.Idx) (i : IVec S1 32) (h : i = fun _ => 6144#32) (q : Fin 20480) :
    scatter_S1x20480_S1_S1x2048_01_n_1_0.resultIdx? k i = some (ix2 0 q) ↔ 6144 + (k 1).val = q.val := by
  subst h
  rw [ix2_eq_valueIdx, Routing.resultIdx?_ix2]
  unfold ScatterDims.start ScatterDims.window
  rw [dif_neg (by decide), dif_pos (by decide), dif_pos (by decide), dif_pos (by decide)]
  have e : (6144#32 : BitVec 32).toInt = 6144 := by decide
  have h0 : (k 0).val = 0 := by have := (k 0).isLt; exact Nat.lt_one_iff.mp this
  show (0 : Int) + ((k 0).val : Int) = ((0 : Fin 1).val : Int) ∧ (6144#32 : BitVec 32).toInt + ((k 1).val : Int) = (q.val : Int) ↔ _
  rw [e, h0]
  simp only [Fin.val_zero, true_and, Nat.cast_zero, add_zero]
  omega

theorem v15_at (k : Fin 20480) : W7 m ρ c (Proc.devRef .tc main_v15) (ix2 0 k) = scaleAt k := by
  unfold W7
  generalize W6 m ρ c = W
  after_reads_at
  by_cases h : 6144 ≤ k.val ∧ k.val < 8192
  · rw [Routing.scatter_set_hit _ _ _ _ _ (Ideal.ofBits FTy.f32 1043900987#32) (fun _ _ => by pointwise)
      (ix2 0 ⟨k.val - 6144, by omega⟩) ((resultIdx_at _ _ (by funext j; pointwise) k).2 (by show 6144 + (k.val - 6144) = k.val; omega))]
    exact (if_pos h).symm
  · rw [Routing.scatter_set_miss _ _ _ _ _ (fun q hq => h (by
      have := (resultIdx_at _ _ (by funext j; pointwise) k).1 hq
      have hq1 : (q 1).val < 2048 := (q 1).isLt
      omega))]
    unfold scaleAt
    rw [if_neg h]
    pointwise

end Cert.KernelIdeal.Host
-- ==== Proof.FrontRef.lean ====
module

public import proofs.«01_k».proof.Proof.Gen.ReferenceIdeal.Read
public import proofs.«01_k».proof.Proof.FrontSpec

@[expose] public section

set_option maxRecDepth 16384

noncomputable section

/-! The reference's two results at an index, over the projection `projAt`. -/
namespace Cert.ReferenceIdeal.At

open Cert.ReferenceIdeal Cert.ReferenceIdeal.Read Cert.Proof.Front Idealize.ShloMosaic Idealize.ShloMosaic.TcCoe Idealize.SL.Sem

variable (x : (⟨S2x4096x4096, .f32⟩ : BufTy).Contents (Elt Ideal)) (g : (⟨S1x4096, .f32⟩ : BufTy).Contents (Elt Ideal))
  (w : (⟨S1x4096x20928, .f32⟩ : BufTy).Contents (Elt Ideal))

/-- The normalised input. -/
theorem v14_at (r : Fin 8192) (k : Fin 4096) : val_main_v14 (F := Ideal) x g (ix2 r k) = hAt x g r k := by
  unfold val_main_v14 val_main_v13 val_main_v12 val_main_v11 val_main_v10 val_main_v9 val_main_v8 val_main_v7 val_main_v6
    val_main_v5 val_main_v4 val_main_v3 val_main_v2 val_main_v1 val_main_v0 val_main_cst_1 val_main_cst_0 val_main_cst
  pointwise
  rfl

/-- The projection. -/
theorem v16_at (r : Fin 8192) (k : Fin 20928) : val_main_v16 (F := Ideal) x g w (ix2 r k) = projAt x g w r k := by
  have h : val_main_v16 (F := Ideal) x g w (ix2 r k) = ∑ j, val_main_v14 (F := Ideal) x g (ix2 r j) * w (ix3 0 j k) := by
    unfold val_main_v16 val_main_v15
    generalize val_main_v14 x g = h
    pointwise
  rw [h]
  exact Finset.sum_congr rfl fun j _ => by rw [v14_at]

/-- The first result: the projection without the low-rank columns, the query columns scaled. -/
theorem v28_at (r : Fin 8192) (k : Fin 20480) :
    val_main_v28 (F := Ideal) x g w (ix2 r k) = projAt x g w r (wrow k) * scaleAt k := by
  rw [← v16_at]
  unfold val_main_v28 val_main_v26 val_main_v24 val_main_v21 val_main_v22 val_main_v17 val_main_v23 val_main_cst_2
  generalize val_main_v16 x g w = h
  have key : h (ix2 r (wrow k)) * scaleAt k = if _ : k.val < 6144 then h (ix2 r ⟨k.val, by omega⟩)
      else if _ : k.val - 6144 < 2048 then h (ix2 r ⟨6592 + (k.val - 6144), by omega⟩) * Ideal.ofBits FTy.f32 1043900987#32
      else h (ix2 r ⟨8640 + (k.val - 6144 - 2048), by omega⟩) := by
    have hk := k.isLt
    by_cases h1 : k.val < 6144
    · have e : wrow k = ⟨k.val, by omega⟩ := Fin.ext (by unfold wrow; simp only [h1, if_true]; omega)
      have s : scaleAt k = 1 := if_neg (by omega)
      rw [dif_pos h1, e, s, mul_one]
    · rw [dif_neg h1]
      by_cases h2 : k.val - 6144 < 2048
      · have e : wrow k = ⟨6592 + (k.val - 6144), by omega⟩ := Fin.ext (by unfold wrow; simp only [h1, if_false]; omega)
        have s : scaleAt k = Ideal.ofBits FTy.f32 1043900987#32 := if_pos (by omega)
        rw [dif_pos h2, e, s]
      · have e : wrow k = ⟨8640 + (k.val - 6144 - 2048), by omega⟩ := Fin.ext (by unfold wrow; simp only [h1, if_false]; omega)
        have s : scaleAt k = 1 := if_neg (by omega)
        rw [dif_neg h2, e, s, mul_one]
  refine Eq.trans ?_ key.symm
  pointwise

/-- The second result: the three low-rank groups of columns, the first two followed by 32 columns of zeros. -/
theorem v29_at (r : Fin 8192) (k : Fin 512) : val_main_v29 (F := Ideal) x g w (ix2 r k) =
    if h : k.val < 96 then projAt x g w r ⟨6144 + k.val, by omega⟩ else if k.val < 128 then 0
    else if h : k.val < 224 then projAt x g w r ⟨6240 + (k.val - 128), by omega⟩ else if k.val < 256 then 0
    else projAt x g w r ⟨6336 + (k.val - 256), by omega⟩ := by
  simp only [← v16_at]
  unfold val_main_v29 val_main_v27 val_main_v18 val_main_v19 val_main_v20 val_main_v25 val_main_cst_3
  generalize val_main_v16 x g w = h
  have key : (if _ : k.val < 96 then h (ix2 r ⟨6144 + k.val, by omega⟩) else if _ : k.val - 96 < 32 then (0 : EReal)
      else if _ : k.val - 96 - 32 < 96 then h (ix2 r ⟨6240 + (k.val - 96 - 32), by omega⟩)
      else if _ : k.val - 96 - 32 - 96 < 32 then (0 : EReal) else h (ix2 r ⟨6336 + (k.val - 96 - 32 - 96 - 32), by omega⟩)) =
      if _ : k.val < 96 then h (ix2 r ⟨6144 + k.val, by omega⟩) else if k.val < 128 then (0 : EReal)
      else if _ : k.val < 224 then h (ix2 r ⟨6240 + (k.val - 128), by omega⟩) else if k.val < 256 then (0 : EReal)
      else h (ix2 r ⟨6336 + (k.val - 256), by omega⟩) := by
    have hk := k.isLt
    by_cases h1 : k.val < 96
    · rw [dif_pos h1, dif_pos h1]
    rw [dif_neg h1, dif_neg h1]
    by_cases h2 : k.val < 128
    · rw [dif_pos (by omega), if_pos h2]
    rw [dif_neg (by omega), if_neg h2]
    by_cases h3 : k.val < 224
    · rw [dif_pos (by omega), dif_pos h3]
      exact congrArg (fun q => h (ix2 r q)) (Fin.ext (by show 6240 + (k.val - 96 - 32) = 6240 + (k.val - 128); omega))
    rw [dif_neg (by omega), dif_neg h3]
    by_cases h4 : k.val < 256
    · rw [dif_pos (by omega), if_pos h4]
    rw [dif_neg (by omega), if_neg h4]
    exact congrArg (fun q => h (ix2 r q)) (Fin.ext (by show 6336 + (k.val - 96 - 32 - 96 - 32) = 6336 + (k.val - 256); omega))
  refine Eq.trans ?_ key
  pointwise

end Cert.ReferenceIdeal.At
-- ==== Proof.FrontRun.lean ====
module

public import proofs.«01_k».proof.Proof.FrontHost
public import proofs.«01_k».proof.Proof.FrontRef

@[expose] public section

set_option maxRecDepth 16384

noncomputable section

/-! The run of the input projection's three calls, every buffer at its contents behind the last of them, and from it the
two results as functions of the arguments. -/
namespace Cert.KernelIdeal.Ran

open Cert.KernelIdeal Cert.KernelIdeal.Gen Cert.Proof.Front
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with each buffer that is not scoped at the contents behind the last call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Run

variable (m : (ℓ : Loc nD τ sig) → Buf (Elt Ideal) ℓ) (ρ : Dev nD → PrngReg) (c : Dev nD)

/-- The normalised input behind the first call. -/
theorem h_at (r : Fin 8192) (k : Fin 4096) : W6 m ρ c (Proc.devRef .tc main_v11) (ix2 r k)
    = hAt (m ((c : Thread nD τ).loc main_arg0)) (m ((c : Thread nD τ).loc main_arg1)) r k := by
  have h0 : ∀ r k, W5 m ρ c (Proc.devRef .tc main_v0) (ix2 r k) = _ := fun r k =>
    (congrFun ((((W5_of m ρ c main_v0 (by decide)).trans (W4_of m ρ c main_v0 (by decide))).trans
      (W3_of m ρ c main_v0 (by decide))).trans (W2_of m ρ c main_v0 (by decide))) _).trans (Host.v0_at m ρ c r k)
  rw [show W6 m ρ c (Proc.devRef .tc main_v11) = _ from (W6_arr m ρ c 2).trans (Blocks.final0 (V5 m ρ) c)]
  show rms (fun k => W5 m ρ c (Proc.devRef .tc main_v0) (ix2 r k)) (W5 m ρ c (Proc.devRef .tc main_v0) (ix2 r k))
    (W5 m ρ c (Proc.devRef .tc main_v10) (ix2 0 k)) = _
  rw [Host.v10_at]
  simp only [h0]
  rfl

/-- The weights' rows as the large product finds them. -/
theorem w_at (r : Fin 20928) (k : Fin 4096) : W7 m ρ c (Proc.devRef .tc main_v2) (ix2 r k)
    = m ((c : Thread nD τ).loc main_arg2) (ix3 0 k r) :=
  (congrFun ((W7_of m ρ c main_v2 (by decide)).trans <| (W6_of m ρ c main_v2 (by decide)).trans <|
    (W5_of m ρ c main_v2 (by decide)).trans <| (W4_of m ρ c main_v2 (by decide)).trans <|
    (W3_of m ρ c main_v2 (by decide)).trans (W2_of m ρ c main_v2 (by decide))) _).trans (Host.v2_at m ρ c r k)

/-- The first result. -/
theorem v16_at (r : Fin 8192) (k : Fin 20480) : W9 m ρ c (Proc.devRef .tc main_v16) (ix2 r k)
    = projAt (m ((c : Thread nD τ).loc main_arg0)) (m ((c : Thread nD τ).loc main_arg1)) (m ((c : Thread nD τ).loc main_arg2)) r (wrow k)
      * scaleAt k := by
  rw [show W9 m ρ c (Proc.devRef .tc main_v16) = _ from
    (W9_of m ρ c main_v16 (by decide)).trans ((W8_arr m ρ c 3).trans (Blocks.final1 (V7 m ρ) c))]
  have h11 : ∀ j, W7 m ρ c (Proc.devRef .tc main_v11) (ix2 r j) = _ := fun j =>
    (congrFun (W7_of m ρ c main_v11 (by decide)) _).trans (h_at m ρ c r j)
  exact Blocks.wideOf_at h11 (w_at m ρ c _) (Host.v15_at m ρ c k)

/-- The second result. -/
theorem v17_at (r : Fin 8192) (k : Fin 512) : W9 m ρ c (Proc.devRef .tc main_v17) (ix2 r k) =
    (if h : k.val < 96 then projAt (m ((c : Thread nD τ).loc main_arg0)) (m ((c : Thread nD τ).loc main_arg1)) (m ((c : Thread nD τ).loc main_arg2)) r ⟨6144 + k.val, by omega⟩
    else if k.val < 128 then 0
    else if h : k.val < 224 then projAt (m ((c : Thread nD τ).loc main_arg0)) (m ((c : Thread nD τ).loc main_arg1)) (m ((c : Thread nD τ).loc main_arg2)) r ⟨6240 + (k.val - 128), by omega⟩
    else if k.val < 256 then 0
    else projAt (m ((c : Thread nD τ).loc main_arg0)) (m ((c : Thread nD τ).loc main_arg1)) (m ((c : Thread nD τ).loc main_arg2)) r ⟨6336 + (k.val - 256), by omega⟩) := by
  rw [show W9 m ρ c (Proc.devRef .tc main_v17) = _ from (W9_arr m ρ c 2).trans (Blocks.final2 (V8 m ρ) c)]
  have h11 : ∀ j, W8 m ρ c (Proc.devRef .tc main_v11) (ix2 r j) = _ := fun j =>
    (congrFun ((W8_of m ρ c main_v11 (by decide)).trans (W7_of m ρ c main_v11 (by decide))) _).trans (h_at m ρ c r j)
  have h8 : ∀ j, W8 m ρ c (Proc.devRef .tc main_v8) (ix2 k j) = _ := fun j =>
    (congrFun ((W8_of m ρ c main_v8 (by decide)).trans ((W7_of m ρ c main_v8 (by decide)).trans (W6_of m ρ c main_v8 (by decide)))) _).trans
      (Host.v8_at m ρ c k j)
  refine (Blocks.lowOf_at h11 h8).trans ?_
  by_cases h1 : k.val < 96
  · simp only [dif_pos h1]; rfl
  simp only [dif_neg h1]
  by_cases h2 : k.val < 128
  · simp only [if_pos h2, mul_zero, Finset.sum_const_zero]
  simp only [if_neg h2]
  by_cases h3 : k.val < 224
  · simp only [dif_pos h3]; rfl
  simp only [dif_neg h3]
  by_cases h4 : k.val < 256
  · simp only [if_pos h4, mul_zero, Finset.sum_const_zero]
  simp only [if_neg h4]
  rfl

end Cert.KernelIdeal.Ran
-- ==== Proof.MixSpec.lean ====
module

public import Idealize.ShloMosaic.Lib.Pointwise
public import Idealize.ShloMosaic.Lib.IdealHost
public import proofs.«01_k».proof.Proof.FrontSpec

@[expose] public section

set_option maxRecDepth 16384

noncomputable section

/-! The mathematics from the two mixers' outputs to the MLP's first product, an entry at a time, on the extended reals. -/
namespace Cert.Proof.Mix

open Idealize.ShloMosaic Cert.Proof.Front

/-- The logistic function as `1 / (1 + exp (-t))`. -/
def logi (t : EReal) : EReal := Ideal.div 1 (1 + Ideal.exp (-t))

theorem half_word : Ideal.ofBits FTy.f32 1056964608#32 = ((1 / 2 : ℝ) : EReal) := by
  simp only [Ideal.ofBits, Ideal.ieee]
  norm_num [Nat.shiftRight_eq_div_pow]
  decide

theorem half_tanh (r : ℝ) : 1 / 2 * Real.tanh (1 / 2 * r) + 1 / 2 = 1 * (1 + Real.exp (-r))⁻¹ := by
  have h1 : 1 + Real.exp (-r) ≠ 0 := by positivity
  rw [Real.tanh_eq_sinh_div_cosh, Real.sinh_eq, Real.cosh_eq]
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add]; simp
  rw [e] at h1 ⊢
  have ha := Real.exp_pos (1 / 2 * r)
  have hb := Real.exp_pos (-(1 / 2 * r))
  generalize Real.exp (1 / 2 * r) = a at *
  generalize Real.exp (-(1 / 2 * r)) = b at *
  have h2 : (a + b) ≠ 0 := by positivity
  field_simp
  linear_combination (2 * b) * p

/-- The logistic function by the hyperbolic tangent of half the argument, on all extended reals. -/
theorem logi_eq (t : EReal) : Ideal.ofBits FTy.f32 1056964608#32 * Ideal.tanh (Ideal.ofBits FTy.f32 1056964608#32 * t)
    + Ideal.ofBits FTy.f32 1056964608#32 = logi t := by
  rw [half_word]
  unfold logi
  induction t with
  | bot =>
    rw [EReal.coe_mul_bot_of_pos (by norm_num), Ideal.tanh_bot, EReal.neg_bot, Ideal.exp_top]
    have : (1 : EReal) + ⊤ = ⊤ := by rfl
    rw [this, Ideal.div, if_neg (by simp), EReal.inv_top, mul_zero]
    rw [show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot, add_zero, mul_one, Ideal.div,
      if_neg (by simp), inv_one, mul_one, ← EReal.coe_add]
    norm_num
  | coe r =>
    have h : (1 + Real.exp (-r)) ≠ 0 := by positivity
    rw [← EReal.coe_mul, Ideal.tanh_coe, ← EReal.coe_neg, Ideal.exp_coe, ← EReal.coe_mul, ← EReal.coe_add,
      show (1 : EReal) + (Real.exp (-r) : EReal) = ((1 + Real.exp (-r) : ℝ) : EReal) from rfl, Ideal.div_coe h,
      half_tanh, one_div, one_mul, one_mul]

/-- The gated sum of the two mixers' outputs through their up-projections, at token `r`, feature `k`. -/
def mixAt (ya yb : (⟨3, ![2, 4096, 2048]⟩ : Shape).Idx → EReal) (wa wb : (⟨3, ![1, 2048, 4096]⟩ : Shape).Idx → EReal)
    (qg : (⟨2, ![8192, 20480]⟩ : Shape).Idx → EReal) (r : Fin 8192) (k : Fin 4096) : EReal :=
  logi (qg (ix2 r ⟨12288 + k.val, by omega⟩))
      * (∑ j : Fin 2048, ya (ix3 ⟨r.val / 4096, by omega⟩ ⟨r.val % 4096, by omega⟩ j) * wa (ix3 0 j k))
    + logi (qg (ix2 r ⟨16384 + k.val, by omega⟩))
      * (∑ j : Fin 2048, yb (ix3 ⟨r.val / 4096, by omega⟩ ⟨r.val % 4096, by omega⟩ j) * wb (ix3 0 j k))

/-- A row of the merged mixers through the output projection. -/
def zAt (mixed : Fin 4096 → EReal) (wo : (⟨3, ![1, 4096, 4096]⟩ : Shape).Idx → EReal) (k : Fin 4096) : EReal :=
  ∑ j : Fin 4096, mixed j * wo (ix3 0 j k)

/-- A row of the residual: the input plus the normalised product. -/
def resAt (x z : Fin 4096 → EReal) (g : (⟨2, ![1, 4096]⟩ : Shape).Idx → EReal) (k : Fin 4096) : EReal :=
  x k + rms z (z k) (g (ix2 0 k))

/-- A row of the MLP's first product, under the squared rectifier. -/
def upAt (x1 : Fin 4096 → EReal) (g : (⟨2, ![1, 4096]⟩ : Shape).Idx → EReal) (w : (⟨3, ![1, 4096, 16384]⟩ : Shape).Idx → EReal)
    (k : Fin 16384) : EReal :=
  max (∑ j : Fin 4096, rms x1 (x1 j) (g (ix2 0 j)) * w (ix3 0 j k)) 0
    * max (∑ j : Fin 4096, rms x1 (x1 j) (g (ix2 0 j)) * w (ix3 0 j k)) 0

/-- The row of the merged mixers that a token has. -/
def x1At (x : (⟨3, ![2, 4096, 4096]⟩ : Shape).Idx → EReal)
    (ya yb : (⟨3, ![2, 4096, 2048]⟩ : Shape).Idx → EReal) (wa wb : (⟨3, ![1, 2048, 4096]⟩ : Shape).Idx → EReal)
    (qg : (⟨2, ![8192, 20480]⟩ : Shape).Idx → EReal) (wo : (⟨3, ![1, 4096, 4096]⟩ : Shape).Idx → EReal)
    (g : (⟨2, ![1, 4096]⟩ : Shape).Idx → EReal) (r : Fin 8192) (k : Fin 4096) : EReal :=
  resAt (fun j => x (ix3 ⟨r.val / 4096, by omega⟩ ⟨r.val % 4096, by omega⟩ j)) (zAt (mixAt ya yb wa wb qg r) wo) g k

end Cert.Proof.Mix
-- ==== Proof.MixBlocks.lean ====
module

public import proofs.«01_k».proof.Proof.Gen.MixIdeal.Frame
public import Idealize.ShloMosaic.Lib.Pipeline.Value
public import proofs.«01_k».proof.Proof.MixSpec

@[expose] public section

set_option maxRecDepth 16384

noncomputable section

/-! What each of the four calls leaves in its output array, as a function of the arrays it is given. -/
namespace Cert.MixIdeal.Blocks

open Cert.MixIdeal Cert.MixIdeal.Gen Cert.Proof.Front Cert.Proof.Mix Idealize.ShloMosaic Idealize.ShloMosaic.TcCoe Idealize.SL.Sem

theorem hz : (![0, 0] : Fin 2 → Nat) = fun _ => 0 := funext fun a => by fin_cases a <;> rfl

/-- The gated merge of the two up-projections. -/
def mixOf (ya yb : Vec Ideal S8192x2048 .bf16) (wa wb : Vec Ideal S2048x4096 .f32) (qg : Vec Ideal S8192x20480 .bf16) :
    Vec Ideal S8192x4096 .bf16 := fun i =>
  logi (qg (ix2 (i 0) ⟨12288 + (i 1).val, by have : (i 1).val < 4096 := (i 1).isLt; omega⟩)) * (∑ j : Fin 2048, ya (ix2 (i 0) j) * wa (ix2 j (i 1)))
    + logi (qg (ix2 (i 0) ⟨16384 + (i 1).val, by have : (i 1).val < 4096 := (i 1).isLt; omega⟩)) * (∑ j : Fin 2048, yb (ix2 (i 0) j) * wb (ix2 j (i 1)))

/-- The output projection. -/
def outOf (h : Vec Ideal S8192x4096 .bf16) (w : Vec Ideal S4096x4096 .f32) : Vec Ideal S8192x4096 .bf16 := fun i =>
  ∑ j : Fin 4096, h (ix2 (i 0) j) * w (ix2 j (i 1))

/-- The residual with its norm. -/
def resOf (x : Vec Ideal S8192x4096 .f32) (z : Vec Ideal S8192x4096 .bf16) (g : Vec Ideal S1x4096 .f32) : Vec Ideal S8192x4096 .f32 :=
  fun i => x (ix2 (i 0) (i 1)) + rms (fun j => z (ix2 (i 0) j)) (z (ix2 (i 0) (i 1))) (g (ix2 0 (i 1)))

/-- The residual, normalised for the MLP. -/
def preOf (x : Vec Ideal S8192x4096 .f32) (z : Vec Ideal S8192x4096 .bf16) (g g2 : Vec Ideal S1x4096 .f32) :
    Vec Ideal S8192x4096 .bf16 := fun i =>
  rms (fun j => resOf x z g (ix2 (i 0) j)) (resOf x z g (ix2 (i 0) (i 1))) (g2 (ix2 0 (i 1)))

/-- The MLP's first product under the squared rectifier. -/
def upOf (h : Vec Ideal S8192x4096 .bf16) (w : Vec Ideal S4096x16384 .f32) : Vec Ideal S8192x16384 .bf16 := fun i =>
  max (∑ j : Fin 4096, h (ix2 (i 0) j) * w (ix2 j (i 1))) 0 * max (∑ j : Fin 4096, h (ix2 (i 0) j) * w (ix2 j (i 1))) 0

/-! ### Each of these arrays an entry at a time -/

theorem mixOf_at {ya yb : Vec Ideal S8192x2048 .bf16} {wa wb : Vec Ideal S2048x4096 .f32} {qg : Vec Ideal S8192x20480 .bf16}
    {r : Fin 8192} {k : Fin 4096} {ya' yb' wa' wb' : Fin 2048 → EReal} {qg' : Fin 20480 → EReal} (h1 : ∀ j, ya (ix2 r j) = ya' j)
    (h2 : ∀ j, yb (ix2 r j) = yb' j) (h3 : ∀ j, wa (ix2 j k) = wa' j) (h4 : ∀ j, wb (ix2 j k) = wb' j) (h5 : ∀ j, qg (ix2 r j) = qg' j) :
    mixOf ya yb wa wb qg (ix2 r k) = logi (qg' ⟨12288 + k.val, by omega⟩) * (∑ j, ya' j * wa' j)
      + logi (qg' ⟨16384 + k.val, by omega⟩) * (∑ j, yb' j * wb' j) := by
  simp only [← h1, ← h2, ← h3, ← h4, ← h5]; rfl

theorem outOf_at {h : Vec Ideal S8192x4096 .bf16} {w : Vec Ideal S4096x4096 .f32} {r : Fin 8192} {k : Fin 4096}
    {h' w' : Fin 4096 → EReal} (h1 : ∀ j, h (ix2 r j) = h' j) (h2 : ∀ j, w (ix2 j k) = w' j) :
    outOf h w (ix2 r k) = ∑ j, h' j * w' j := by
  simp only [← h1, ← h2]; rfl

theorem resOf_at {x : Vec Ideal S8192x4096 .f32} {z : Vec Ideal S8192x4096 .bf16} {g : Vec Ideal S1x4096 .f32} {r : Fin 8192}
    {x' z' g' : Fin 4096 → EReal} (h1 : ∀ j, x (ix2 r j) = x' j) (h2 : ∀ j, z (ix2 r j) = z' j) (h3 : ∀ j, g (ix2 0 j) = g' j)
    (k : Fin 4096) : resOf x z g (ix2 r k) = x' k + rms z' (z' k) (g' k) := by
  rw [show z' = fun j => z (ix2 r j) from funext fun j => (h2 j).symm, ← h1, ← h3]; rfl

theorem preOf_at {x : Vec Ideal S8192x4096 .f32} {z : Vec Ideal S8192x4096 .bf16} {g g2 : Vec Ideal S1x4096 .f32} {r : Fin 8192}
    {k : Fin 4096} {x' : Fin 4096 → EReal} {g' : EReal} (h1 : ∀ j, resOf x z g (ix2 r j) = x' j) (h2 : g2 (ix2 0 k) = g') :
    preOf x z g g2 (ix2 r k) = rms x' (x' k) g' := by
  rw [show x' = fun j => resOf x z g (ix2 r j) from funext fun j => (h1 j).symm, ← h2]; rfl

theorem upOf_at {h : Vec Ideal S8192x4096 .bf16} {w : Vec Ideal S4096x16384 .f32} {r : Fin 8192} {k : Fin 16384}
    {h' w' : Fin 4096 → EReal} (h1 : ∀ j, h (ix2 r j) = h' j) (h2 : ∀ j, w (ix2 j k) = w' j) :
    upOf h w (ix2 r k) = max (∑ j, h' j * w' j) 0 * max (∑ j, h' j * w' j) 0 := by
  simp only [← h1, ← h2]; rfl

/-! ### What one grid point computes from its blocks -/

theorem pay0 (ya yb : Vec Ideal S1024x2048 .bf16) (wa wb : Vec Ideal S2048x512 .f32) (ga gb : Vec Ideal S1024x512 .bf16)
    (r : Fin 1024) (k : Fin 512) : k0_pay1 (F := Ideal) ya wa yb wb ga gb (ix2 r k)
    = logi (ga (ix2 r k)) * (∑ j : Fin 2048, ya (ix2 r j) * wa (ix2 j k))
      + logi (gb (ix2 r k)) * (∑ j : Fin 2048, yb (ix2 r j) * wb (ix2 j k)) := by
  simp only [← logi_eq]
  pointwise [k0_pay1]

theorem pay1 (x : Vec Ideal S2048x4096 .bf16) (w : Vec Ideal S4096x512 .f32) (r : Fin 2048) (k : Fin 512) :
    k1_pay1 (F := Ideal) x w (ix2 r k) = ∑ j : Fin 4096, x (ix2 r j) * w (ix2 j k) := by
  pointwise [k1_pay1]

theorem pay2 (x : Vec Ideal S256x4096 .f32) (z : Vec Ideal S256x4096 .bf16) (g : Vec Ideal S1x4096 .f32) (r : Fin 256) (k : Fin 4096) :
    k2_pay1 (F := Ideal) x z g (ix2 r k) = x (ix2 r k) + rms (fun j => z (ix2 r j)) (z (ix2 r k)) (g (ix2 0 k)) := by
  pointwise [k2_pay1]; rfl

theorem pay2b (x : Vec Ideal S256x4096 .f32) (z : Vec Ideal S256x4096 .bf16) (g g2 : Vec Ideal S1x4096 .f32) (r : Fin 256)
    (k : Fin 4096) : k2_pay2 (F := Ideal) x z g g2 (ix2 r k)
    = rms (fun j => x (ix2 r j) + rms (fun j => z (ix2 r j)) (z (ix2 r j)) (g (ix2 0 j)))
      (x (ix2 r k) + rms (fun j => z (ix2 r j)) (z (ix2 r k)) (g (ix2 0 k))) (g2 (ix2 0 k)) := by
  pointwise [k2_pay2]; simp only [pay2]; rfl

theorem pay3 (x : Vec Ideal S2048x4096 .bf16) (w : Vec Ideal S4096x512 .f32) (r : Fin 2048) (k : Fin 512) :
    k3_pay1 (F := Ideal) x w (ix2 r k)
    = max (∑ j : Fin 4096, x (ix2 r j) * w (ix2 j k)) 0 * max (∑ j : Fin 4096, x (ix2 r j) * w (ix2 j k)) 0 := by
  pointwise [k3_pay1]

/-- Where each window of the gated merge stands at a grid point. -/
theorem idx0 : ∀ t : Fin cfg0.N, win0_0.index t (0 : Fin 2) = t.val / 8
    ∧ win0_0.index t (1 : Fin 2) = 0
    ∧ win0_1.index t (0 : Fin 2) = t.val / 8
    ∧ win0_1.index t (1 : Fin 2) = 0
    ∧ win0_2.index t (0 : Fin 2) = 0
    ∧ win0_2.index t (1 : Fin 2) = t.val % 8
    ∧ win0_3.index t (0 : Fin 2) = 0
    ∧ win0_3.index t (1 : Fin 2) = t.val % 8
    ∧ win0_4.index t (0 : Fin 2) = t.val / 8
    ∧ win0_4.index t (1 : Fin 2) = 24 + t.val % 8
    ∧ win0_5.index t (0 : Fin 2) = t.val / 8
    ∧ win0_5.index t (1 : Fin 2) = 32 + t.val % 8
    ∧ win0_6.index t (0 : Fin 2) = t.val / 8
    ∧ win0_6.index t (1 : Fin 2) = t.val % 8 :=
  (by decide +kernel : ∀ t : Fin grid0.N, _)

/-- Where each window of the output projection stands at a grid point. -/
theorem idx1 : ∀ t : Fin cfg1.N, win1_0.index t (0 : Fin 2) = t.val / 8
    ∧ win1_0.index t (1 : Fin 2) = 0
    ∧ win1_1.index t (0 : Fin 2) = 0
    ∧ win1_1.index t (1 : Fin 2) = t.val % 8
    ∧ win1_2.index t (0 : Fin 2) = t.val / 8
    ∧ win1_2.index t (1 : Fin 2) = t.val % 8 :=
  (by decide +kernel : ∀ t : Fin grid1.N, _)

/-- Where each window of the residual stands at a grid point. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0 :=
  (by decide +kernel : ∀ t : Fin grid2.N, _)

/-- Where each window of the MLP's first product stands at a grid point. -/
theorem idx3 : ∀ t : Fin cfg3.N, win3_0.index t (0 : Fin 2) = t.val / 32
    ∧ win3_0.index t (1 : Fin 2) = 0
    ∧ win3_1.index t (0 : Fin 2) = 0
    ∧ win3_1.index t (1 : Fin 2) = t.val % 32
    ∧ win3_2.index t (0 : Fin 2) = t.val / 32
    ∧ win3_2.index t (1 : Fin 2) = t.val % 32 :=
  (by decide +kernel : ∀ t : Fin grid3.N, _)

variable (V : (c : Dev nD) → (b : Ref sig .tc) → Buf (Elt Ideal) ((c : Thread nD τ).loc b)) (c : Dev nD)

/-! ### The gated merge -/

theorem blk0_0 (t : Fin cfg0.N) (r : Fin 1024) (k : Fin 2048) : iblk0 V c 0 t (ix2 r k)
    = V c main_v1 (ix2 ⟨t.val / 8 * 1024 + r.val, by have : t.val < 64 := t.isLt; omega⟩ k) := by
  have ht := idx0 t
  show V c main_v1 (((cfg0.win 0).blk t).view.emb (ix2 r k)) = _
  refine congrArg (V c main_v1) (funext fun a => Fin.ext ?_)
  match a with
  | ⟨0, _⟩ => show win0_0.index t (0 : Fin 2) * 1024 + 1 * r.val = _; rw [ht.1, Nat.one_mul]; rfl
  | ⟨1, _⟩ => show win0_0.index t (1 : Fin 2) * 2048 + 1 * k.val = k.val; rw [ht.2.1]; omega

theorem blk0_1 (t : Fin cfg0.N) (r : Fin 1024) (k : Fin 2048) : iblk0 V c 1 t (ix2 r k)
    = V c main_v2 (ix2 ⟨t.val / 8 * 1024 + r.val, by have : t.val < 64 := t.isLt; omega⟩ k) := by
  have ht := idx0 t
  show V c main_v2 (((cfg0.win 1).blk t).view.emb (ix2 r k)) = _
  refine congrArg (V c main_v2) (funext fun a => Fin.ext ?_)
  match a with
  | ⟨0, _⟩ => show win0_1.index t (0 : Fin 2) * 1024 + 1 * r.val = _; rw [ht.2.2.1, Nat.one_mul]; rfl
  | ⟨1, _⟩ => show win0_1.index t (1 : Fin 2) * 2048 + 1 * k.val = k.val; rw [ht.2.2.2.1]; omega

theorem blk0_2 (t : Fin cfg0.N) (r : Fin 2048) (k : Fin 512) : iblk0 V c 2 t (ix2 r k)
    = V c main_v3 (ix2 r ⟨t.val % 8 * 512 + k.val, by have : t.val < 64 := t.isLt; omega⟩) := by
  have ht := idx0 t
  show V c main_v3 (((cfg0.win 2).blk t).view.emb (ix2 r k)) = _
  refine congrArg (V c main_v3) (funext fun a => Fin.ext ?_)
  match a with
  | ⟨0, _⟩ => show win0_2.index t (0 : Fin 2) * 2048 + 1 * r.val = r.val; rw [ht.2.2.2.2.1]; omega
  | ⟨1, _⟩ => show win0_2.index t (1 : Fin 2) * 512 + 1 * k.val = _; rw [ht.2.2.2.2.2.1, Nat.one_mul]; rfl

theorem blk0_3 (t : Fin cfg0.N) (r : Fin 2048) (k : Fin 512) : iblk0 V c 3 t (ix2 r k)
    = V c main_v4 (ix2 r ⟨t.val % 8 * 512 + k.val, by have : t.val < 64 := t.isLt; omega⟩) := by
  have ht := idx0 t
  show V c main_v4 (((cfg0.win 3).blk t).view.emb (ix2 r k)) = _
  refine congrArg (V c main_v4) (funext fun a => Fin.ext ?_)
  match a with
  | ⟨0, _⟩ => show win0_3.index t (0 : Fin 2) * 2048 + 1 * r.val = r.val; rw [ht.2.2.2.2.2.2.1]; omega
  | ⟨1, _⟩ => show win0_3.index t (1 : Fin 2) * 512 + 1 * k.val = _; rw [ht.2.2.2.2.2.2.2.1, Nat.one_mul]; rfl

theorem blk0_4 (t : Fin cfg0.N) (r : Fin 1024) (k : Fin 512) : iblk0 V c 4 t (ix2 r k)
    = V c main_arg5 (ix2 ⟨t.val / 8 * 1024 + r.val, by have : t.val < 64 := t.isLt; omega⟩ ⟨12288 + (t.val % 8 * 512 + k.val), by omega⟩) := by
  have ht := idx0 t
  show V c main_arg5 (((cfg0.win 4).blk t).view.emb (ix2 r k)) = _
  refine congrArg (V c main_arg5) (funext fun a => Fin.ext ?_)
  match a with
  | ⟨0, _⟩ => show win0_4.index t (0 : Fin 2) * 1024 + 1 * r.val = _; rw [ht.2.2.2.2.2.2.2.2.1, Nat.one_mul]; rfl
  | ⟨1, _⟩ => show win0_4.index t (1 : Fin 2) * 512 + 1 * k.val = 12288 + (t.val % 8 * 512 + k.val); rw [ht.2.2.2.2.2.2.2.2.2.1]; omega

theorem blk0_5 (t : Fin cfg0.N) (r : Fin 1024) (k : Fin 512) : iblk0 V c 5 t (ix2 r k)
    = V c main_arg5 (ix2 ⟨t.val / 8 * 1024 + r.val, by have : t.val < 64 := t.isLt; omega⟩ ⟨16384 + (t.val % 8 * 512 + k.val), by omega⟩) := by
  have ht := idx0 t
  show V c main_arg5 (((cfg0.win 5).blk t).view.emb (ix2 r k)) = _
  refine congrArg (V c main_arg5) (funext fun a => Fin.ext ?_)
  match a with
  | ⟨0, _⟩ => show win0_5.index t (0 : Fin 2) * 1024 + 1 * r.val = _; rw [ht.2.2.2.2.2.2.2.2.2.2.1, Nat.one_mul]; rfl
  | ⟨1, _⟩ => show win0_5.index t (1 : Fin 2) * 512 + 1 * k.val = 16384 + (t.val % 8 * 512 + k.val); rw [ht.2.2.2.2.2.2.2.2.2.2.2.1]; omega

theorem emb0_6 (t : Fin cfg0.N) (r : Fin 1024) (k : Fin 512) : ((cfg0.win 6).blk t).view.emb (ix2 r k)
    = ix2 ⟨t.val / 8 * 1024 + r.val, by have : t.val < 64 := t.isLt; omega⟩ ⟨t.val % 8 * 512 + k.val, by have : t.val < 64 := t.isLt; omega⟩ := by
  have ht := idx0 t
  refine funext fun a => Fin.ext ?_
  match a with
  | ⟨0, _⟩ => show win0_6.index t (0 : Fin 2) * 1024 + 1 * r.val = _; rw [ht.2.2.2.2.2.2.2.2.2.2.2.2.1, Nat.one_mul]; rfl
  | ⟨1, _⟩ => show win0_6.index t (1 : Fin 2) * 512 + 1 * k.val = _; rw [ht.2.2.2.2.2.2.2.2.2.2.2.2.2, Nat.one_mul]; rfl

theorem out0 (ya yb : Vec Ideal S1024x2048 .bf16) (wa wb : Vec Ideal S2048x512 .f32) (ga gb : Vec Ideal S1024x512 .bf16)
    (r : Fin 1024) (k : Fin 512) : out0_6 ya yb wa wb ga gb (ix2 r k)
    = logi (ga (ix2 r k)) * (∑ j : Fin 2048, ya (ix2 r j) * wa (ix2 j k))
      + logi (gb (ix2 r k)) * (∑ j : Fin 2048, yb (ix2 r j) * wb (ix2 j k)) := by
  unfold out0_6
  rw [View.canon_unit_zero hz]
  repeat rw [View.ld_unit_zero hz]
  exact pay0 ya yb wa wb ga gb r k

theorem flushed0 (t : Fin cfg0.N) : (dat0 V c).flushed 6 t
    = ((cfg0.win 6).blk t).view.read (Elt Ideal) (mixOf (V c main_v1) (V c main_v2) (V c main_v3) (V c main_v4) (V c main_arg5)) := by
  show (cfg0.win 6).cut (grid0.coords t) ((dat0 V c).after 6 t) = _
  rw [after0_6]
  refine funext fun (j : S1024x512.Idx) => ?_
  obtain ⟨r, k, rfl⟩ : ∃ r k, j = ix2 r k := ⟨j 0, j 1, by funext a; fin_cases a <;> rfl⟩
  show out0_6 (iblk0 V c 0 t) (iblk0 V c 1 t) (iblk0 V c 2 t) (iblk0 V c 3 t) (iblk0 V c 4 t) (iblk0 V c 5 t) (ix2 r k)
    = mixOf (V c main_v1) (V c main_v2) (V c main_v3) (V c main_v4) (V c main_arg5) (((cfg0.win 6).blk t).view.emb (ix2 r k))
  rw [emb0_6, out0]
  simp only [blk0_0, blk0_1, blk0_2, blk0_3, blk0_4, blk0_5]
  rfl

theorem covered0 (i : S8192x4096.Idx) :
    ∃ t : Fin cfg0.N, (cfg0.win 6).flush t = true ∧ i ∈ ((cfg0.win 6).blk t).view.set := by
  obtain ⟨r, k, rfl⟩ : ∃ r k, i = ix2 r k := ⟨i 0, i 1, by funext a; fin_cases a <;> rfl⟩
  have hN : r.val / 1024 * 8 + k.val / 512 < cfg0.N := by show _ < 64; omega
  refine ⟨⟨r.val / 1024 * 8 + k.val / 512, hN⟩, flush0_6 _, ?_⟩
  have h := ((cfg0.win 6).blk ⟨r.val / 1024 * 8 + k.val / 512, hN⟩).view.emb_mem_set (ix2 ⟨r.val % 1024, by omega⟩ ⟨k.val % 512, by omega⟩)
  rw [emb0_6] at h
  have er : r = ⟨(r.val / 1024 * 8 + k.val / 512) / 8 * 1024 + r.val % 1024, by omega⟩ := Fin.ext (by
    show r.val = (r.val / 1024 * 8 + k.val / 512) / 8 * 1024 + r.val % 1024; omega)
  have ek : k = ⟨(r.val / 1024 * 8 + k.val / 512) % 8 * 512 + k.val % 512, by omega⟩ := Fin.ext (by
    show k.val = (r.val / 1024 * 8 + k.val / 512) % 8 * 512 + k.val % 512; omega)
  exact (congrArg₂ ix2 er ek) ▸ h

theorem final0 : (dat0 V c).arrAt 6 cfg0.N = mixOf (V c main_v1) (V c main_v2) (V c main_v3) (V c main_v4) (V c main_arg5) :=
  (dat0 V c).arrAt_eq_of_cover 6 _ (fun t _ => flushed0 V c t) covered0

/-! ### The output projection -/

theorem blk1_0 (t : Fin cfg1.N) (r : Fin 2048) (k : Fin 4096) : iblk1 V c 0 t (ix2 r k)
    = V c main_v5 (ix2 ⟨t.val / 8 * 2048 + r.val, by have : t.val < 32 := t.isLt; omega⟩ k) := by
  have ht := idx1 t
  show V c main_v5 (((cfg1.win 0).blk t).view.emb (ix2 r k)) = _
  refine congrArg (V c main_v5) (funext fun a => Fin.ext ?_)
  match a with
  | ⟨0, _⟩ => show win1_0.index t (0 : Fin 2) * 2048 + 1 * r.val = _; rw [ht.1, Nat.one_mul]; rfl
  | ⟨1, _⟩ => show win1_0.index t (1 : Fin 2) * 4096 + 1 * k.val = k.val; rw [ht.2.1]; omega

theorem blk1_1 (t : Fin cfg1.N) (r : Fin 4096) (k : Fin 512) : iblk1 V c 1 t (ix2 r k)
    = V c main_v6 (ix2 r ⟨t.val % 8 * 512 + k.val, by have : t.val < 32 := t.isLt; omega⟩) := by
  have ht := idx1 t
  show V c main_v6 (((cfg1.win 1).blk t).view.emb (ix2 r k)) = _
  refine congrArg (V c main_v6) (funext fun a => Fin.ext ?_)
  match a with
  | ⟨0, _⟩ => show win1_1.index t (0 : Fin 2) * 4096 + 1 * r.val = r.val; rw [ht.2.2.1]; omega
  | ⟨1, _⟩ => show win1_1.index t (1 : Fin 2) * 512 + 1 * k.val = _; rw [ht.2.2.2.1, Nat.one_mul]; rfl

theorem emb1_2 (t : Fin cfg1.N) (r : Fin 2048) (k : Fin 512) : ((cfg1.win 2).blk t).view.emb (ix2 r k)
    = ix2 ⟨t.val / 8 * 2048 + r.val, by have : t.val < 32 := t.isLt; omega⟩ ⟨t.val % 8 * 512 + k.val, by have : t.val < 32 := t.isLt; omega⟩ := by
  have ht := idx1 t
  refine funext fun a => Fin.ext ?_
  match a with
  | ⟨0, _⟩ => show win1_2.index t (0 : Fin 2) * 2048 + 1 * r.val = _; rw [ht.2.2.2.2.1, Nat.one_mul]; rfl
  | ⟨1, _⟩ => show win1_2.index t (1 : Fin 2) * 512 + 1 * k.val = _; rw [ht.2.2.2.2.2, Nat.one_mul]; rfl

theorem out1 (x : Vec Ideal S2048x4096 .bf16) (w : Vec Ideal S4096x512 .f32) (r : Fin 2048) (k : Fin 512) :
    out1_2 x w (ix2 r k) = ∑ j : Fin 4096, x (ix2 r j) * w (ix2 j k) := by
  unfold out1_2
  rw [View.canon_unit_zero hz]
  repeat rw [View.ld_unit_zero hz]
  exact pay1 x w r k

theorem flushed1 (t : Fin cfg1.N) : (dat1 V c).flushed 2 t
    = ((cfg1.win 2).blk t).view.read (Elt Ideal) (outOf (V c main_v5) (V c main_v6)) := by
  show (cfg1.win 2).cut (grid1.coords t) ((dat1 V c).after 2 t) = _
  rw [after1_2]
  refine funext fun (j : S2048x512.Idx) => ?_
  obtain ⟨r, k, rfl⟩ : ∃ r k, j = ix2 r k := ⟨j 0, j 1, by funext a; fin_cases a <;> rfl⟩
  show out1_2 (iblk1 V c 0 t) (iblk1 V c 1 t) (ix2 r k)
    = outOf (V c main_v5) (V c main_v6) (((cfg1.win 2).blk t).view.emb (ix2 r k))
  rw [emb1_2, out1]
  simp only [blk1_0, blk1_1]
  rfl

theorem covered1 (i : S8192x4096.Idx) :
    ∃ t : Fin cfg1.N, (cfg1.win 2).flush t = true ∧ i ∈ ((cfg1.win 2).blk t).view.set := by
  obtain ⟨r, k, rfl⟩ : ∃ r k, i = ix2 r k := ⟨i 0, i 1, by funext a; fin_cases a <;> rfl⟩
  have hN : r.val / 2048 * 8 + k.val / 512 < cfg1.N := by show _ < 32; omega
  refine ⟨⟨r.val / 2048 * 8 + k.val / 512, hN⟩, flush1_2 _, ?_⟩
  have h := ((cfg1.win 2).blk ⟨r.val / 2048 * 8 + k.val / 512, hN⟩).view.emb_mem_set (ix2 ⟨r.val % 2048, by omega⟩ ⟨k.val % 512, by omega⟩)
  rw [emb1_2] at h
  have er : r = ⟨(r.val / 2048 * 8 + k.val / 512) / 8 * 2048 + r.val % 2048, by omega⟩ := Fin.ext (by
    show r.val = (r.val / 2048 * 8 + k.val / 512) / 8 * 2048 + r.val % 2048; omega)
  have ek : k = ⟨(r.val / 2048 * 8 + k.val / 512) % 8 * 512 + k.val % 512, by omega⟩ := Fin.ext (by
    show k.val = (r.val / 2048 * 8 + k.val / 512) % 8 * 512 + k.val % 512; omega)
  exact (congrArg₂ ix2 er ek) ▸ h

theorem final1 : (dat1 V c).arrAt 2 cfg1.N = outOf (V c main_v5) (V c main_v6) :=
  (dat1 V c).arrAt_eq_of_cover 2 _ (fun t _ => flushed1 V c t) covered1

/-! ### The residual, and its norm for the MLP -/

theorem blk2_0 (t : Fin cfg2.N) (r : Fin 256) (k : Fin 4096) : iblk2 V c 0 t (ix2 r k)
    = V c main_v0 (ix2 ⟨t.val * 256 + r.val, by have : t.val < 32 := t.isLt; omega⟩ k) := by
  have ht := idx2 t
  show V c main_v0 (((cfg2.win 0).blk t).view.emb (ix2 r k)) = _
  refine congrArg (V c main_v0) (funext fun a => Fin.ext ?_)
  match a with
  | ⟨0, _⟩ => show win2_0.index t (0 : Fin 2) * 256 + 1 * r.val = _; rw [ht.1, Nat.one_mul]; rfl
  | ⟨1, _⟩ => show win2_0.index t (1 : Fin 2) * 4096 + 1 * k.val = k.val; rw [ht.2.1]; omega

theorem blk2_1 (t : Fin cfg2.N) (r : Fin 256) (k : Fin 4096) : iblk2 V c 1 t (ix2 r k)
    = V c main_v7 (ix2 ⟨t.val * 256 + r.val, by have : t.val < 32 := t.isLt; omega⟩ k) := by
  have ht := idx2 t
  show V c main_v7 (((cfg2.win 1).blk t).view.emb (ix2 r k)) = _
  refine congrArg (V c main_v7) (funext fun a => Fin.ext ?_)
  match a with
  | ⟨0, _⟩ => show win2_1.index t (0 : Fin 2) * 256 + 1 * r.val = _; rw [ht.2.2.1, Nat.one_mul]; rfl
  | ⟨1, _⟩ => show win2_1.index t (1 : Fin 2) * 4096 + 1 * k.val = k.val; rw [ht.2.2.2.1]; omega

theorem blk2_2 (t : Fin cfg2.N) (k : Fin 4096) : iblk2 V c 2 t (ix2 0 k)
    = V c main_v10 (ix2 0 k) := by
  have ht := idx2 t
  show V c main_v10 (((cfg2.win 2).blk t).view.emb (ix2 0 k)) = _
  refine congrArg (V c main_v10) (funext fun a => Fin.ext ?_)
  match a with
  | ⟨0, _⟩ => show win2_2.index t (0 : Fin 2) * 1 + 1 * 0 = 0; rw [ht.2.2.2.2.1]
  | ⟨1, _⟩ => show win2_2.index t (1 : Fin 2) * 4096 + 1 * k.val = k.val; rw [ht.2.2.2.2.2.1]; omega

theorem blk2_3 (t : Fin cfg2.N) (k : Fin 4096) : iblk2 V c 3 t (ix2 0 k)
    = V c main_v11 (ix2 0 k) := by
  have ht := idx2 t
  show V c main_v11 (((cfg2.win 3).blk t).view.emb (ix2 0 k)) = _
  refine congrArg (V c main_v11) (funext fun a => Fin.ext ?_)
  match a with
  | ⟨0, _⟩ => show win2_3.index t (0 : Fin 2) * 1 + 1 * 0 = 0; rw [ht.2.2.2.2.2.2.1]
  | ⟨1, _⟩ => show win2_3.index t (1 : Fin 2) * 4096 + 1 * k.val = k.val; rw [ht.2.2.2.2.2.2.2.1]; omega

theorem emb2_4 (t : Fin cfg2.N) (r : Fin 256) (k : Fin 4096) : ((cfg2.win 4).blk t).view.emb (ix2 r k)
    = ix2 ⟨t.val * 256 + r.val, by have : t.val < 32 := t.isLt; omega⟩ k := by
  have ht := idx2 t
  refine funext fun a => Fin.ext ?_
  match a with
  | ⟨0, _⟩ => show win2_4.index t (0 : Fin 2) * 256 + 1 * r.val = _; rw [ht.2.2.2.2.2.2.2.2.1, Nat.one_mul]; rfl
  | ⟨1, _⟩ => show win2_4.index t (1 : Fin 2) * 4096 + 1 * k.val = k.val; rw [ht.2.2.2.2.2.2.2.2.2.1]; omega

theorem emb2_5 (t : Fin cfg2.N) (r : Fin 256) (k : Fin 4096) : ((cfg2.win 5).blk t).view.emb (ix2 r k)
    = ix2 ⟨t.val * 256 + r.val, by have : t.val < 32 := t.isLt; omega⟩ k := by
  have ht := idx2 t
  refine funext fun a => Fin.ext ?_
  match a with
  | ⟨0, _⟩ => show win2_5.index t (0 : Fin 2) * 256 + 1 * r.val = _; rw [ht.2.2.2.2.2.2.2.2.2.2.1, Nat.one_mul]; rfl
  | ⟨1, _⟩ => show win2_5.index t (1 : Fin 2) * 4096 + 1 * k.val = k.val; rw [ht.2.2.2.2.2.2.2.2.2.2.2]; omega

theorem out2 (x : Vec Ideal S256x4096 .f32) (z : Vec Ideal S256x4096 .bf16) (g g2 : Vec Ideal S1x4096 .f32) (r : Fin 256)
    (k : Fin 4096) : out2_4 x z g g2 (ix2 r k) = x (ix2 r k) + rms (fun j => z (ix2 r j)) (z (ix2 r k)) (g (ix2 0 k)) := by
  unfold out2_4
  rw [View.canon_unit_zero hz]
  repeat rw [View.ld_unit_zero hz]
  exact pay2 x z g r k

theorem out2b (x : Vec Ideal S256x4096 .f32) (z : Vec Ideal S256x4096 .bf16) (g g2 : Vec Ideal S1x4096 .f32) (r : Fin 256)
    (k : Fin 4096) : out2_5 x z g g2 (ix2 r k)
    = rms (fun j => x (ix2 r j) + rms (fun j => z (ix2 r j)) (z (ix2 r j)) (g (ix2 0 j)))
      (x (ix2 r k) + rms (fun j => z (ix2 r j)) (z (ix2 r k)) (g (ix2 0 k))) (g2 (ix2 0 k)) := by
  unfold out2_5
  rw [View.canon_unit_zero hz]
  repeat rw [View.ld_unit_zero hz]
  exact pay2b x z g g2 r k

theorem flushed2 (t : Fin cfg2.N) : (dat2 V c).flushed 4 t
    = ((cfg2.win 4).blk t).view.read (Elt Ideal) (resOf (V c main_v0) (V c main_v7) (V c main_v10)) := by
  show (cfg2.win 4).cut (grid2.coords t) ((dat2 V c).after 4 t) = _
  rw [after2_4]
  refine funext fun (j : S256x4096.Idx) => ?_
  obtain ⟨r, k, rfl⟩ : ∃ r k, j = ix2 r k := ⟨j 0, j 1, by funext a; fin_cases a <;> rfl⟩
  show out2_4 (iblk2 V c 0 t) (iblk2 V c 1 t) (iblk2 V c 2 t) (iblk2 V c 3 t) (ix2 r k)
    = resOf (V c main_v0) (V c main_v7) (V c main_v10) (((cfg2.win 4).blk t).view.emb (ix2 r k))
  rw [emb2_4, out2]
  simp only [blk2_0, blk2_1, blk2_2, blk2_3]
  rfl

theorem covered2 (i : S8192x4096.Idx) :
    ∃ t : Fin cfg2.N, (cfg2.win 4).flush t = true ∧ i ∈ ((cfg2.win 4).blk t).view.set := by
  obtain ⟨r, k, rfl⟩ : ∃ r k, i = ix2 r k := ⟨i 0, i 1, by funext a; fin_cases a <;> rfl⟩
  have hN : r.val / 256 < cfg2.N := by show _ < 32; omega
  refine ⟨⟨r.val / 256, hN⟩, flush2_4 _, ?_⟩
  have h := ((cfg2.win 4).blk ⟨r.val / 256, hN⟩).view.emb_mem_set (ix2 ⟨r.val % 256, by omega⟩ k)
  rw [emb2_4] at h
  have er : r = ⟨(r.val / 256) * 256 + r.val % 256, by omega⟩ := Fin.ext (by
    show r.val = (r.val / 256) * 256 + r.val % 256; omega)
  exact (congrArg₂ ix2 er (rfl : k = k)) ▸ h

theorem final2 : (dat2 V c).arrAt 4 cfg2.N = resOf (V c main_v0) (V c main_v7) (V c main_v10) :=
  (dat2 V c).arrAt_eq_of_cover 4 _ (fun t _ => flushed2 V c t) covered2

theorem flushed2b (t : Fin cfg2.N) : (dat2 V c).flushed 5 t
    = ((cfg2.win 5).blk t).view.read (Elt Ideal) (preOf (V c main_v0) (V c main_v7) (V c main_v10) (V c main_v11)) := by
  show (cfg2.win 5).cut (grid2.coords t) ((dat2 V c).after 5 t) = _
  rw [after2_5]
  refine funext fun (j : S256x4096.Idx) => ?_
  obtain ⟨r, k, rfl⟩ : ∃ r k, j = ix2 r k := ⟨j 0, j 1, by funext a; fin_cases a <;> rfl⟩
  show out2_5 (iblk2 V c 0 t) (iblk2 V c 1 t) (iblk2 V c 2 t) (iblk2 V c 3 t) (ix2 r k)
    = preOf (V c main_v0) (V c main_v7) (V c main_v10) (V c main_v11) (((cfg2.win 5).blk t).view.emb (ix2 r k))
  rw [emb2_5, out2b]
  simp only [blk2_0, blk2_1, blk2_2, blk2_3]
  rfl

theorem covered2b (i : S8192x4096.Idx) :
    ∃ t : Fin cfg2.N, (cfg2.win 5).flush t = true ∧ i ∈ ((cfg2.win 5).blk t).view.set := by
  obtain ⟨r, k, rfl⟩ : ∃ r k, i = ix2 r k := ⟨i 0, i 1, by funext a; fin_cases a <;> rfl⟩
  have hN : r.val / 256 < cfg2.N := by show _ < 32; omega
  refine ⟨⟨r.val / 256, hN⟩, flush2_5 _, ?_⟩
  have h := ((cfg2.win 5).blk ⟨r.val / 256, hN⟩).view.emb_mem_set (ix2 ⟨r.val % 256, by omega⟩ k)
  rw [emb2_5] at h
  have er : r = ⟨(r.val / 256) * 256 + r.val % 256, by omega⟩ := Fin.ext (by
    show r.val = (r.val / 256) * 256 + r.val % 256; omega)
  exact (congrArg₂ ix2 er (rfl : k = k)) ▸ h

theorem final2b : (dat2 V c).arrAt 5 cfg2.N = preOf (V c main_v0) (V c main_v7) (V c main_v10) (V c main_v11) :=
  (dat2 V c).arrAt_eq_of_cover 5 _ (fun t _ => flushed2b V c t) covered2b

/-! ### The MLP's first product -/

theorem blk3_0 (t : Fin cfg3.N) (r : Fin 2048) (k : Fin 4096) : iblk3 V c 0 t (ix2 r k)
    = V c main_v12_1 (ix2 ⟨t.val / 32 * 2048 + r.val, by have : t.val < 128 := t.isLt; omega⟩ k) := by
  have ht := idx3 t
  show V c main_v12_1 (((cfg3.win 0).blk t).view.emb (ix2 r k)) = _
  refine congrArg (V c main_v12_1) (funext fun a => Fin.ext ?_)
  match a with
  | ⟨0, _⟩ => show win3_0.index t (0 : Fin 2) * 2048 + 1 * r.val = _; rw [ht.1, Nat.one_mul]; rfl
  | ⟨1, _⟩ => show win3_0.index t (1 : Fin 2) * 4096 + 1 * k.val = k.val; rw [ht.2.1]; omega

theorem blk3_1 (t : Fin cfg3.N) (r : Fin 4096) (k : Fin 512) : iblk3 V c 1 t (ix2 r k)
    = V c main_v13 (ix2 r ⟨t.val % 32 * 512 + k.val, by have : t.val < 128 := t.isLt; omega⟩) := by
  have ht := idx3 t
  show V c main_v13 (((cfg3.win 1).blk t).view.emb (ix2 r k)) = _
  refine congrArg (V c main_v13) (funext fun a => Fin.ext ?_)
  match a with
  | ⟨0, _⟩ => show win3_1.index t (0 : Fin 2) * 4096 + 1 * r.val = r.val; rw [ht.2.2.1]; omega
  | ⟨1, _⟩ => show win3_1.index t (1 : Fin 2) * 512 + 1 * k.val = _; rw [ht.2.2.2.1, Nat.one_mul]; rfl

theorem emb3_2 (t : Fin cfg3.N) (r : Fin 2048) (k : Fin 512) : ((cfg3.win 2).blk t).view.emb (ix2 r k)
    = ix2 ⟨t.val / 32 * 2048 + r.val, by have : t.val < 128 := t.isLt; omega⟩ ⟨t.val % 32 * 512 + k.val, by have : t.val < 128 := t.isLt; omega⟩ := by
  have ht := idx3 t
  refine funext fun a => Fin.ext ?_
  match a with
  | ⟨0, _⟩ => show win3_2.index t (0 : Fin 2) * 2048 + 1 * r.val = _; rw [ht.2.2.2.2.1, Nat.one_mul]; rfl
  | ⟨1, _⟩ => show win3_2.index t (1 : Fin 2) * 512 + 1 * k.val = _; rw [ht.2.2.2.2.2, Nat.one_mul]; rfl

theorem out3 (x : Vec Ideal S2048x4096 .bf16) (w : Vec Ideal S4096x512 .f32) (r : Fin 2048) (k : Fin 512) :
    out3_2 x w (ix2 r k) = max (∑ j : Fin 4096, x (ix2 r j) * w (ix2 j k)) 0 * max (∑ j : Fin 4096, x (ix2 r j) * w (ix2 j k)) 0 := by
  unfold out3_2
  rw [View.canon_unit_zero hz]
  repeat rw [View.ld_unit_zero hz]
  exact pay3 x w r k

theorem flushed3 (t : Fin cfg3.N) : (dat3 V c).flushed 2 t
    = ((cfg3.win 2).blk t).view.read (Elt Ideal) (upOf (V c main_v12_1) (V c main_v13)) := by
  show (cfg3.win 2).cut (grid3.coords t) ((dat3 V c).after 2 t) = _
  rw [after3_2]
  refine funext fun (j : S2048x512.Idx) => ?_
  obtain ⟨r, k, rfl⟩ : ∃ r k, j = ix2 r k := ⟨j 0, j 1, by funext a; fin_cases a <;> rfl⟩
  show out3_2 (iblk3 V c 0 t) (iblk3 V c 1 t) (ix2 r k)
    = upOf (V c main_v12_1) (V c main_v13) (((cfg3.win 2).blk t).view.emb (ix2 r k))
  rw [emb3_2, out3]
  simp only [blk3_0, blk3_1]
  rfl

theorem covered3 (i : S8192x16384.Idx) :
    ∃ t : Fin cfg3.N, (cfg3.win 2).flush t = true ∧ i ∈ ((cfg3.win 2).blk t).view.set := by
  obtain ⟨r, k, rfl⟩ : ∃ r k, i = ix2 r k := ⟨i 0, i 1, by funext a; fin_cases a <;> rfl⟩
  have hN : r.val / 2048 * 32 + k.val / 512 < cfg3.N := by show _ < 128; omega
  refine ⟨⟨r.val / 2048 * 32 + k.val / 512, hN⟩, flush3_2 _, ?_⟩
  have h := ((cfg3.win 2).blk ⟨r.val / 2048 * 32 + k.val / 512, hN⟩).view.emb_mem_set (ix2 ⟨r.val % 2048, by omega⟩ ⟨k.val % 512, by omega⟩)
  rw [emb3_2] at h
  have er : r = ⟨(r.val / 2048 * 32 + k.val / 512) / 32 * 2048 + r.val % 2048, by omega⟩ := Fin.ext (by
    show r.val = (r.val / 2048 * 32 + k.val / 512) / 32 * 2048 + r.val % 2048; omega)
  have ek : k = ⟨(r.val / 2048 * 32 + k.val / 512) % 32 * 512 + k.val % 512, by omega⟩ := Fin.ext (by
    show k.val = (r.val / 2048 * 32 + k.val / 512) % 32 * 512 + k.val % 512; omega)
  exact (congrArg₂ ix2 er ek) ▸ h

theorem final3 : (dat3 V c).arrAt 2 cfg3.N = upOf (V c main_v12_1) (V c main_v13) :=
  (dat3 V c).arrAt_eq_of_cover 2 _ (fun t _ => flushed3 V c t) covered3

end Cert.MixIdeal.Blocks
-- ==== Proof.MixRun.lean ====
module

public import proofs.«01_k».proof.Proof.MixBlocks
public import Idealize.ShloMosaic.Lib.StableHlo.ReadAt

@[expose] public section

set_option maxRecDepth 16384

noncomputable section

/-! The run of the four calls, every buffer at its contents behind the last of them, and from it the two results as
functions of the arguments. -/
namespace Cert.MixIdeal.Ran

open Cert.MixIdeal Cert.MixIdeal.Gen Cert.Proof.Front Cert.Proof.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with each buffer that is not scoped at the contents behind the last call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Run

variable (m : (ℓ : Loc nD τ sig) → Buf (Elt Ideal) ℓ) (ρ : Dev nD → PrngReg) (c : Dev nD)

/-! ### What the host operations before each call leave -/

theorem v0_at (r : Fin 8192) (k : Fin 4096) : W1 m ρ c (Proc.devRef .tc main_v0) (ix2 r k)
    = m ((c : Thread nD τ).loc main_arg0) (ix3 ⟨r.val / 4096, by omega⟩ ⟨r.val % 4096, by omega⟩ k) := by
  unfold W1; after_reads_at

theorem v1_at (r : Fin 8192) (k : Fin 2048) : W1 m ρ c (Proc.devRef .tc main_v1) (ix2 r k)
    = m ((c : Thread nD τ).loc main_arg1) (ix3 ⟨r.val / 4096, by omega⟩ ⟨r.val % 4096, by omega⟩ k) := by
  unfold W1; after_reads_at

theorem v2_at (r : Fin 8192) (k : Fin 2048) : W1 m ρ c (Proc.devRef .tc main_v2) (ix2 r k)
    = m ((c : Thread nD τ).loc main_arg2) (ix3 ⟨r.val / 4096, by omega⟩ ⟨r.val % 4096, by omega⟩ k) := by
  unfold W1; after_reads_at

theorem v3_at (r : Fin 2048) (k : Fin 4096) : W1 m ρ c (Proc.devRef .tc main_v3) (ix2 r k)
    = m ((c : Thread nD τ).loc main_arg3) (ix3 0 r k) := by
  unfold W1; after_reads_at

theorem v4_at (r : Fin 2048) (k : Fin 4096) : W1 m ρ c (Proc.devRef .tc main_v4) (ix2 r k)
    = m ((c : Thread nD τ).loc main_arg4) (ix3 0 r k) := by
  unfold W1; after_reads_at

theorem v6_at (r : Fin 4096) (k : Fin 4096) : W3 m ρ c (Proc.devRef .tc main_v6) (ix2 r k)
    = m ((c : Thread nD τ).loc main_arg6) (ix3 0 r k) := by
  have h := W2_args m ρ c main_arg6 (by decide)
  unfold W3
  generalize W2 m ρ c = W at h ⊢
  after_reads_at
  rw [h]

theorem v10_at (k : Fin 4096) : W5 m ρ c (Proc.devRef .tc main_v10) (ix2 0 k) = m ((c : Thread nD τ).loc main_arg7) (ix2 0 k) := by
  have h := W4_args m ρ c main_arg7 (by decide)
  unfold W5
  generalize W4 m ρ c = W at h ⊢
  after_reads_at
  rw [h]

theorem v11_at (k : Fin 4096) : W5 m ρ c (Proc.devRef .tc main_v11) (ix2 0 k) = m ((c : Thread nD τ).loc main_arg8) (ix2 0 k) := by
  have h := W4_args m ρ c main_arg8 (by decide)
  unfold W5
  generalize W4 m ρ c = W at h ⊢
  after_reads_at
  rw [h]

theorem v13_at (r : Fin 4096) (k : Fin 16384) : W7 m ρ c (Proc.devRef .tc main_v13) (ix2 r k)
    = m ((c : Thread nD τ).loc main_arg9) (ix3 0 r k) := by
  have h := W6_args m ρ c main_arg9 (by decide)
  unfold W7
  generalize W6 m ρ c = W at h ⊢
  after_reads_at
  rw [h]

/-! ### What each call leaves -/

/-- The gated merge behind the first call. -/
theorem mixed_at (r : Fin 8192) (k : Fin 4096) : W2 m ρ c (Proc.devRef .tc main_v5) (ix2 r k)
    = mixAt (m ((c : Thread nD τ).loc main_arg1)) (m ((c : Thread nD τ).loc main_arg2)) (m ((c : Thread nD τ).loc main_arg3)) (m ((c : Thread nD τ).loc main_arg4)) (m ((c : Thread nD τ).loc main_arg5)) r k := by
  rw [show W2 m ρ c (Proc.devRef .tc main_v5) = _ from (W2_arr m ρ c 6).trans (Blocks.final0 (V1 m ρ) c)]
  exact Blocks.mixOf_at (v1_at m ρ c r) (v2_at m ρ c r) (fun j => v3_at m ρ c j k) (fun j => v4_at m ρ c j k)
    (fun j => congrFun (W1_args m ρ c main_arg5 (by decide)) (ix2 r j))

/-- The output projection behind the second call. -/
theorem z_at (r : Fin 8192) (k : Fin 4096) : W4 m ρ c (Proc.devRef .tc main_v7) (ix2 r k)
    = zAt (mixAt (m ((c : Thread nD τ).loc main_arg1)) (m ((c : Thread nD τ).loc main_arg2)) (m ((c : Thread nD τ).loc main_arg3)) (m ((c : Thread nD τ).loc main_arg4)) (m ((c : Thread nD τ).loc main_arg5)) r) (m ((c : Thread nD τ).loc main_arg6)) k := by
  rw [show W4 m ρ c (Proc.devRef .tc main_v7) = _ from (W4_arr m ρ c 2).trans (Blocks.final1 (V3 m ρ) c)]
  exact Blocks.outOf_at (fun j => (congrFun (W3_of m ρ c main_v5 (by decide)) _).trans (mixed_at m ρ c r j)) (fun j => v6_at m ρ c j k)

theorem x_mid (r : Fin 8192) (k : Fin 4096) : W5 m ρ c (Proc.devRef .tc main_v0) (ix2 r k)
    = m ((c : Thread nD τ).loc main_arg0) (ix3 ⟨r.val / 4096, by omega⟩ ⟨r.val % 4096, by omega⟩ k) :=
  (congrFun ((W5_of m ρ c main_v0 (by decide)).trans <| (W4_of m ρ c main_v0 (by decide)).trans <|
    (W3_of m ρ c main_v0 (by decide)).trans (W2_of m ρ c main_v0 (by decide))) _).trans (v0_at m ρ c r k)

theorem z_mid (r : Fin 8192) (k : Fin 4096) : W5 m ρ c (Proc.devRef .tc main_v7) (ix2 r k)
    = zAt (mixAt (m ((c : Thread nD τ).loc main_arg1)) (m ((c : Thread nD τ).loc main_arg2)) (m ((c : Thread nD τ).loc main_arg3)) (m ((c : Thread nD τ).loc main_arg4)) (m ((c : Thread nD τ).loc main_arg5)) r) (m ((c : Thread nD τ).loc main_arg6)) k :=
  (congrFun (W5_of m ρ c main_v7 (by decide)) _).trans (z_at m ρ c r k)

/-- The residual behind the third call. -/
theorem x1_at (r : Fin 8192) (k : Fin 4096) : W6 m ρ c (Proc.devRef .tc main_v12_0) (ix2 r k)
    = x1At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r k := by
  rw [show W6 m ρ c (Proc.devRef .tc main_v12_0) = _ from (W6_arr m ρ c 4).trans (Blocks.final2 (V5 m ρ) c)]
  exact Blocks.resOf_at (x_mid m ρ c r) (z_mid m ρ c r) (v10_at m ρ c) k

/-- The residual's norm behind the third call. -/
theorem h_at (r : Fin 8192) (k : Fin 4096) : W6 m ρ c (Proc.devRef .tc main_v12_1) (ix2 r k)
    = rms (x1At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r) (x1At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r k) ((m ((c : Thread nD τ).loc main_arg8)) (ix2 0 k)) := by
  rw [show W6 m ρ c (Proc.devRef .tc main_v12_1) = _ from (W6_arr m ρ c 5).trans (Blocks.final2b (V5 m ρ) c)]
  exact Blocks.preOf_at (Blocks.resOf_at (x_mid m ρ c r) (z_mid m ρ c r) (v10_at m ρ c)) (v11_at m ρ c k)

/-- The first result. -/
theorem first_at (r : Fin 8192) (k : Fin 4096) : W8 m ρ c (Proc.devRef .tc main_v12_0) (ix2 r k)
    = x1At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r k :=
  (congrFun ((W8_of m ρ c main_v12_0 (by decide)).trans (W7_of m ρ c main_v12_0 (by decide))) _).trans (x1_at m ρ c r k)

/-- The second result. -/
theorem second_at (r : Fin 8192) (k : Fin 16384) : W8 m ρ c (Proc.devRef .tc main_v14) (ix2 r k)
    = upAt (x1At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r) (m ((c : Thread nD τ).loc main_arg8)) (m ((c : Thread nD τ).loc main_arg9)) k := by
  rw [show W8 m ρ c (Proc.devRef .tc main_v14) = _ from (W8_arr m ρ c 2).trans (Blocks.final3 (V7 m ρ) c)]
  exact Blocks.upOf_at (fun j => (congrFun (W7_of m ρ c main_v12_1 (by decide)) _).trans (h_at m ρ c r j)) (fun j => v13_at m ρ c j k)

end Cert.MixIdeal.Ran
-- ==== Proof.MixRef.lean ====
module

public import proofs.«01_k».proof.Proof.Gen.MixReferenceIdeal.Read
public import proofs.«01_k».proof.Proof.MixSpec

@[expose] public section

set_option maxRecDepth 16384

noncomputable section

/-! The reference's two results at an index. -/
namespace Cert.MixReferenceIdeal.At

open Cert.MixReferenceIdeal Cert.MixReferenceIdeal.Read Cert.Proof.Front Cert.Proof.Mix Idealize.ShloMosaic Idealize.ShloMosaic.TcCoe
  Idealize.SL.Sem

variable (x : (⟨S2x4096x4096, .f32⟩ : BufTy).Contents (Elt Ideal)) (ya yb : (⟨S2x4096x2048, .bf16⟩ : BufTy).Contents (Elt Ideal))
  (wa wb : (⟨S1x2048x4096, .f32⟩ : BufTy).Contents (Elt Ideal)) (qg : (⟨S8192x20480, .bf16⟩ : BufTy).Contents (Elt Ideal))
  (wo : (⟨S1x4096x4096, .f32⟩ : BufTy).Contents (Elt Ideal)) (g g2 : (⟨S1x4096, .f32⟩ : BufTy).Contents (Elt Ideal))
  (w : (⟨S1x4096x16384, .f32⟩ : BufTy).Contents (Elt Ideal))

/-- A gate of the first mixer. -/
theorem v14_at (r : Fin 8192) (k : Fin 4096) : val_main_v14 (F := Ideal) qg (ix2 r k) = logi (qg (ix2 r ⟨12288 + k.val, by omega⟩)) := by
  unfold val_main_v14 val_main_v13 val_main_v12 val_main_v11 val_main_v10 val_main_v9 val_main_v7 val_main_v6 val_main_v5
    val_main_cst val_main_cst_0
  pointwise
  rfl

/-- A gate of the second mixer. -/
theorem v23_at (r : Fin 8192) (k : Fin 4096) : val_main_v23 (F := Ideal) qg (ix2 r k) = logi (qg (ix2 r ⟨16384 + k.val, by omega⟩)) := by
  unfold val_main_v23 val_main_v22 val_main_v21 val_main_v20 val_main_v19 val_main_v18 val_main_v8 val_main_v6 val_main_v5
    val_main_cst_1 val_main_cst_2
  have e : (⟨16384 + k.val, by omega⟩ : Fin 20480) = ⟨12288 + (4096 + k.val), by omega⟩ := Fin.ext (by show 16384 + k.val = 12288 + (4096 + k.val); omega)
  rw [e]
  pointwise
  rfl

/-- The gated merge. -/
theorem v27_at (r : Fin 8192) (k : Fin 4096) : val_main_v27 (F := Ideal) ya yb wa wb qg (ix2 r k) = mixAt ya yb wa wb qg r k := by
  unfold mixAt
  rw [← v14_at, ← v23_at]
  unfold val_main_v27 val_main_v26 val_main_v25 val_main_v24 val_main_v4 val_main_v3 val_main_v17 val_main_v16 val_main_v15
    val_main_v2 val_main_v1
  generalize val_main_v14 qg = ga
  generalize val_main_v23 qg = gb
  pointwise

/-- The output projection. -/
theorem v29_at (r : Fin 8192) (k : Fin 4096) :
    val_main_v29 (F := Ideal) ya yb wa wb qg wo (ix2 r k) = zAt (mixAt ya yb wa wb qg r) wo k := by
  rw [show mixAt ya yb wa wb qg r = fun j => val_main_v27 (F := Ideal) ya yb wa wb qg (ix2 r j) from
    funext fun j => (v27_at ya yb wa wb qg r j).symm]
  unfold val_main_v29 val_main_v28 zAt
  generalize val_main_v27 ya yb wa wb qg = h
  pointwise

/-- The residual, the first result. -/
theorem v44_at (r : Fin 8192) (k : Fin 4096) : val_main_v44 (F := Ideal) x ya yb wa wb qg wo g (ix2 r k)
    = x1At x ya yb wa wb qg wo g r k := by
  unfold x1At
  rw [show zAt (mixAt ya yb wa wb qg r) wo = fun j => val_main_v29 (F := Ideal) ya yb wa wb qg wo (ix2 r j) from
    funext fun j => (v29_at ya yb wa wb qg wo r j).symm]
  unfold val_main_v44 val_main_v43 val_main_v42 val_main_v41 val_main_v40 val_main_v39 val_main_v38 val_main_v37 val_main_v36
    val_main_v35 val_main_v34 val_main_v33 val_main_v32 val_main_v31 val_main_v30 val_main_v0 val_main_cst_3 val_main_cst_4
    val_main_cst_5
  generalize val_main_v29 ya yb wa wb qg wo = z
  unfold resAt rms
  pointwise

/-- The residual's norm. -/
theorem v58_at (r : Fin 8192) (k : Fin 4096) : val_main_v58 (F := Ideal) x ya yb wa wb qg wo g g2 (ix2 r k)
    = rms (x1At x ya yb wa wb qg wo g r) (x1At x ya yb wa wb qg wo g r k) (g2 (ix2 0 k)) := by
  rw [show x1At x ya yb wa wb qg wo g r = fun j => val_main_v44 (F := Ideal) x ya yb wa wb qg wo g (ix2 r j) from
    funext fun j => (v44_at x ya yb wa wb qg wo g r j).symm]
  unfold val_main_v58 val_main_v57 val_main_v56 val_main_v55 val_main_v54 val_main_v53 val_main_v52 val_main_v51 val_main_v50
    val_main_v49 val_main_v48 val_main_v47 val_main_v46 val_main_v45 val_main_cst_6 val_main_cst_7 val_main_cst_8
  generalize val_main_v44 x ya yb wa wb qg wo g = z
  unfold rms
  pointwise

/-- The MLP's first product under the squared rectifier, the second result. -/
theorem v63_at (r : Fin 8192) (k : Fin 16384) : val_main_v63 (F := Ideal) x ya yb wa wb qg wo g g2 w (ix2 r k)
    = upAt (x1At x ya yb wa wb qg wo g r) g2 w k := by
  unfold upAt
  simp only [← v58_at]
  unfold val_main_v63 val_main_v62 val_main_v61 val_main_v60 val_main_v59 val_main_call0_v0 val_main_call0_cst
  generalize val_main_v58 x ya yb wa wb qg wo g g2 = z
  pointwise

end Cert.MixReferenceIdeal.At
-- ==== Proof.MlpOutValue.lean ====
module

public import proofs.«01_k».proof.Proof.Gen.MlpOutIdeal.Value
public import Idealize.ShloMosaic.Lib.StableHlo.ReadAt
public import Idealize.ShloMosaic.Lib.Pointwise

@[expose] public section

set_option maxRecDepth 16384

noncomputable section

/-! The MLP's second product: the accumulator after each grid point is a partial sum of the contraction, and the result
array holds the whole of it. -/
namespace Cert.MlpOutIdeal.Acc

open Cert.MlpOutIdeal Cert.MlpOutIdeal.Gen Cert.MlpOutIdeal.Value Idealize.ShloMosaic Idealize.ShloMosaic.TcCoe Idealize.SL.Sem

theorem hz : (![0, 0] : Fin 2 → Nat) = fun _ => 0 := funext fun a => by fin_cases a <;> rfl

/-! ### What one point leaves, in each of its three cases -/

section Cases

variable {F : FTy → Type} [FloatOps F]

/-- At the first point of a run the accumulator starts from zero. -/
theorem first (c : Dev nD) (i : grid0.Coords) (a3 : Memref sig .tc .vmem S1024x2048 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x : Vec F S1024x2048 .bf16) (w : Vec F S2048x1024 .f32) :
    sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

/-- At a point in the middle of a run it adds the block's product to what the point before left. -/
theorem middle (c : Dev nD) (i : grid0.Coords) (a3 : Memref sig .tc .vmem S1024x2048 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i)
    (x : Vec F S1024x2048 .bf16) (w : Vec F S2048x1024 .f32) (xs : Vec F S1024x1024 .f32) :
    sout0_B_0 c i a3 h3 a4 h4 a5 h5 a6 h6 hc0 hc1 x w xs = k0_pay2 xs x w := by
  unfold sout0_B_0
  rw [View.read_writes_eq_canon _ _ _ (scover0_B_0 c i a3 h3 a4 h4 a5 h5 a6 h6 hc0 hc1 x w xs)]
  unfold kernelRun0_B
  dsimp only
  sl_unfold_words
  rw [View.canon_unit_zero hz]
  simp only [View.readAt_eq_ld, h3.read_unread, h4.read_unread, h6.read_unread, View.ld_unit_zero (S := S1024x2048) hz,
    View.ld_unit_zero (S := S2048x1024) hz, View.ld_unit_zero (S := S1024x1024) hz]

/-- At a run's last point too. -/
theorem last (c : Dev nD) (i : grid0.Coords) (a3 : Memref sig .tc .vmem S1024x2048 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x : Vec F S1024x2048 .bf16) (w : Vec F S2048x1024 .f32) (xs : Vec F S1024x1024 .f32) :
    sout0_C_0 c i a3 h3 a4 h4 a5 h5 a6 h6 hc0 hc1 x w xs = k0_pay2 xs x w := by
  unfold sout0_C_0
  rw [View.read_writes_eq_canon _ _ _ (scover0_C_0 c i a3 h3 a4 h4 a5 h5 a6 h6 hc0 hc1 x w xs)]
  unfold kernelRun0_C
  dsimp only
  sl_unfold_words
  rw [View.canon_unit_zero hz]
  simp only [View.readAt_eq_ld, h3.read_unread, h4.read_unread, h6.read_unread, View.ld_unit_zero (S := S1024x2048) hz,
    View.ld_unit_zero (S := S2048x1024) hz, View.ld_unit_zero (S := S1024x1024) hz]

/-- And there the accumulator is written out. -/
theorem written (c : Dev nD) (i : grid0.Coords) (a3 : Memref sig .tc .vmem S1024x2048 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x : Vec F S1024x2048 .bf16) (w : Vec F S2048x1024 .f32) (xs : Vec F S1024x1024 .f32) :
    out0_C_2 c i a3 h3 a4 h4 a5 h5 a6 h6 hc0 hc1 x w xs = k0_pay3 (k0_pay2 xs x w) := by
  unfold out0_C_2
  rw [View.read_writes_eq_canon _ _ _ (cover0_C_2 c i a3 h3 a4 h4 a5 h5 a6 h6 hc0 hc1 x w xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz,
    View.ld_unit_zero (S := S2048x1024) hz, View.ld_unit_zero (S := S1024x1024) hz]

end Cases

/-! ### The payloads at an index -/

theorem pay1 (r k : Fin 1024) : k0_pay1 (F := Ideal) (ix2 r k) = 0 := by
  pointwise [k0_pay1]

theorem pay2 (xs : Vec Ideal S1024x1024 .f32) (x : Vec Ideal S1024x2048 .bf16) (w : Vec Ideal S2048x1024 .f32) (r k : Fin 1024) :
    k0_pay2 (F := Ideal) xs x w (ix2 r k) = xs (ix2 r k) + ∑ j : Fin 2048, x (ix2 r j) * w (ix2 j k) := by
  pointwise [k0_pay2]

theorem pay3 (xs : Vec Ideal S1024x1024 .f32) (r k : Fin 1024) : k0_pay3 (F := Ideal) xs (ix2 r k) = xs (ix2 r k) := by
  pointwise [k0_pay3]

/-- Where each window stands at a grid point: the contraction runs fastest. -/
theorem idx0 : ∀ t : Fin cfg0.N, win0_0.index t (0 : Fin 2) = t.val / 32
    ∧ win0_0.index t (1 : Fin 2) = t.val % 8
    ∧ win0_1.index t (0 : Fin 2) = t.val % 8
    ∧ win0_1.index t (1 : Fin 2) = t.val / 8 % 4
    ∧ win0_2.index t (0 : Fin 2) = t.val / 32
    ∧ win0_2.index t (1 : Fin 2) = t.val / 8 % 4 :=
  (by decide +kernel : ∀ t : Fin grid0.N, _)

variable (m : (ℓ : Loc nD τ sig) → Buf (Elt Ideal) ℓ) (ρ : Dev nD → PrngReg) (c : Dev nD)

theorem blk0_0 (t : Fin cfg0.N) (r : Fin 1024) (k : Fin 2048) : iblk m c 0 t (ix2 r k)
    = V m c main_arg0 (ix2 ⟨t.val / 32 * 1024 + r.val, by have : t.val < 256 := t.isLt; omega⟩ ⟨t.val % 8 * 2048 + k.val, by have : t.val < 256 := t.isLt; omega⟩) := by
  have ht := idx0 t
  show V m c main_arg0 (((cfg0.win 0).blk t).view.emb (ix2 r k)) = _
  refine congrArg (V m c main_arg0) (funext fun a => Fin.ext ?_)
  match a with
  | ⟨0, _⟩ => show win0_0.index t (0 : Fin 2) * 1024 + 1 * r.val = _; rw [ht.1, Nat.one_mul]; rfl
  | ⟨1, _⟩ => show win0_0.index t (1 : Fin 2) * 2048 + 1 * k.val = _; rw [ht.2.1, Nat.one_mul]; rfl

theorem blk0_1 (t : Fin cfg0.N) (r : Fin 2048) (k : Fin 1024) : iblk m c 1 t (ix2 r k)
    = V m c main_v0 (ix2 ⟨t.val % 8 * 2048 + r.val, by have : t.val < 256 := t.isLt; omega⟩ ⟨t.val / 8 % 4 * 1024 + k.val, by have : t.val < 256 := t.isLt; omega⟩) := by
  have ht := idx0 t
  show V m c main_v0 (((cfg0.win 1).blk t).view.emb (ix2 r k)) = _
  refine congrArg (V m c main_v0) (funext fun a => Fin.ext ?_)
  match a with
  | ⟨0, _⟩ => show win0_1.index t (0 : Fin 2) * 2048 + 1 * r.val = _; rw [ht.2.2.1, Nat.one_mul]; rfl
  | ⟨1, _⟩ => show win0_1.index t (1 : Fin 2) * 1024 + 1 * k.val = _; rw [ht.2.2.2.1, Nat.one_mul]; rfl

/-- The weights as the call finds them. -/
theorem v0_at (r : Fin 16384) (k : Fin 4096) : V m c main_v0 (ix2 r k) = m ((c : Thread nD τ).loc main_arg1) (ix3 0 r k) := by
  unfold V; after_reads_at

/-- The product that the contraction's index `i` adds to entry `(r, k)`; nothing past the last index. -/
def term (u : (⟨2, ![8192, 16384]⟩ : Shape).Idx → EReal) (w : (⟨3, ![1, 16384, 4096]⟩ : Shape).Idx → EReal) (r : Fin 8192) (k : Fin 4096)
    (i : ℕ) : EReal :=
  if h : i < 16384 then u (ix2 r ⟨i, h⟩) * w (ix3 0 ⟨i, h⟩ k) else 0

/-- The rows of the result that the point `n` works on, and its columns. -/
def rowOf (n : ℕ) (h : n < 256) (r : Fin 1024) : Fin 8192 := ⟨n / 32 * 1024 + r.val, by omega⟩
def colOf (n : ℕ) (k : Fin 1024) : Fin 4096 := ⟨n / 8 % 4 * 1024 + k.val, by omega⟩

/-- One point's step adds the next 2048 of these products. -/
theorem step_at (t : Fin cfg0.N) (xs : Vec Ideal S1024x1024 .f32) (r k : Fin 1024) :
    k0_pay2 (F := Ideal) xs (iblk m c 0 t) (iblk m c 1 t) (ix2 r k) = xs (ix2 r k)
      + ∑ j ∈ Finset.range 2048, term (m ((c : Thread nD τ).loc main_arg0)) (m ((c : Thread nD τ).loc main_arg1)) (rowOf t.val t.isLt r) (colOf t.val k) (2048 * (t.val % 8) + j) := by
  rw [pay2, Finset.sum_range]
  refine congrArg _ (Finset.sum_congr rfl fun j _ => ?_)
  rw [blk0_0, blk0_1, v0_at]
  unfold term
  rw [dif_pos (by omega)]
  have e : (⟨t.val % 8 * 2048 + j.val, by omega⟩ : Fin 16384) = ⟨2048 * (t.val % 8) + j.val, by omega⟩ :=
    Fin.ext (by show t.val % 8 * 2048 + j.val = 2048 * (t.val % 8) + j.val; omega)
  rw [e]
  rfl

theorem outs_first (t : Fin cfg0.N) (h0 : t.val % 8 = 0) :
    (outsAt0 m c t.val t.isLt).2 = k0_pay2 k0_pay1 (iblk m c 0 t) (iblk m c 1 t) := by
  rw [outsAt0_A m c t h0 (by omega)]
  dsimp only
  rw [first]

theorem outs_next (n : ℕ) (h : n + 1 < cfg0.N) (h0 : ¬(n + 1) % 8 = 0) : (outsAt0 m c (n + 1) h).2
    = k0_pay2 (outsAt0 m c n (Nat.lt_of_succ_lt h)).2 (iblk m c 0 ⟨n + 1, h⟩) (iblk m c 1 ⟨n + 1, h⟩) := by
  by_cases h7 : (n + 1) % 8 = 7
  · refine (congrArg Prod.snd (outsAt0_C m c ⟨n + 1, h⟩ h0 h7)).trans ?_
    dsimp only
    rw [last]
    rfl
  · refine (congrArg Prod.snd (outsAt0_B m c ⟨n + 1, h⟩ h0 h7)).trans ?_
    dsimp only
    rw [middle]
    rfl

theorem outs_written (t : Fin cfg0.N) (h7 : t.val % 8 = 7) : (outsAt0 m c t.val t.isLt).1 = k0_pay3 (outsAt0 m c t.val t.isLt).2 := by
  rw [outsAt0_C m c t (by omega) h7]
  dsimp only
  rw [written, last]

/-- THE ACCUMULATOR after a point: the sum over the contraction's indices up to the end of the point's own. -/
theorem acc_at (r k : Fin 1024) : ∀ (n : ℕ) (h : n < cfg0.N), (outsAt0 m c n h).2 (ix2 r k)
    = ∑ i ∈ Finset.range (2048 * (n % 8 + 1)), term (m ((c : Thread nD τ).loc main_arg0)) (m ((c : Thread nD τ).loc main_arg1)) (rowOf n h r) (colOf n k) i
  | 0, h => by
    rw [outs_first m c ⟨0, h⟩ rfl, step_at, pay1, zero_add]
    exact Finset.sum_congr rfl fun j _ => congrArg _ (by show 2048 * (0 % 8) + j = j; omega)
  | n + 1, h => by
    have hn : n + 1 < 256 := h
    by_cases h0 : (n + 1) % 8 = 0
    · rw [outs_first m c ⟨n + 1, h⟩ h0, step_at, pay1, zero_add, show 2048 * ((n + 1) % 8 + 1) = 2048 by omega]
      exact Finset.sum_congr rfl fun j _ => congrArg _ (by show 2048 * ((n + 1) % 8) + j = j; omega)
    · have e1 : rowOf n (Nat.lt_of_succ_lt h) r = rowOf (n + 1) h r := Fin.ext (by
        show n / 32 * 1024 + r.val = (n + 1) / 32 * 1024 + r.val; omega)
      have e2 : colOf n k = colOf (n + 1) k := Fin.ext (by
        show n / 8 % 4 * 1024 + k.val = (n + 1) / 8 % 4 * 1024 + k.val; omega)
      rw [outs_next m c n h h0, step_at, acc_at r k n, e1, e2, show 2048 * ((n + 1) % 8 + 1) = 2048 * (n % 8 + 1) + 2048 by omega,
        Finset.sum_range_add]
      refine congrArg _ (Finset.sum_congr rfl fun j _ => congrArg _ ?_)
      show 2048 * ((n + 1) % 8) + j = 2048 * (n % 8 + 1) + j
      omega

/-- THE WRITTEN BLOCK at a run's last point: the whole contraction. -/
theorem out_at (r k : Fin 1024) (t : Fin cfg0.N) (h7 : t.val % 8 = 7) : (outsAt0 m c t.val t.isLt).1 (ix2 r k)
    = ∑ i ∈ Finset.range 16384, term (m ((c : Thread nD τ).loc main_arg0)) (m ((c : Thread nD τ).loc main_arg1)) (rowOf t.val t.isLt r) (colOf t.val k) i := by
  rw [outs_written m c t h7, pay3, acc_at, show 2048 * (t.val % 8 + 1) = 16384 by omega]

/-- An entry of the product. -/
def prodAt (u : (⟨2, ![8192, 16384]⟩ : Shape).Idx → EReal) (w : (⟨3, ![1, 16384, 4096]⟩ : Shape).Idx → EReal) (r : Fin 8192)
    (k : Fin 4096) : EReal := ∑ i : Fin 16384, u (ix2 r i) * w (ix3 0 i k)

theorem sum_term (u : (⟨2, ![8192, 16384]⟩ : Shape).Idx → EReal) (w : (⟨3, ![1, 16384, 4096]⟩ : Shape).Idx → EReal) (r : Fin 8192)
    (k : Fin 4096) : ∑ i ∈ Finset.range 16384, term u w r k i = prodAt u w r k := by
  rw [Finset.sum_range]
  exact Finset.sum_congr rfl fun i _ => dif_pos i.isLt

/-- THE RESULT at an entry. -/
theorem result_at (r : Fin 8192) (k : Fin 4096) : G2 m c (ix2 r k) = prodAt (m ((c : Thread nD τ).loc main_arg0)) (m ((c : Thread nD τ).loc main_arg1)) r k := by
  have hp : pt2Of (ix2 r k) = 8 * (4 * (r.val / 1024) + k.val / 1024) + 7 := by
    show 8 * (4 * (r.val / 1024 - 0) + 1 * (k.val / 1024 - 0)) + 7 = _; omega
  have hlt : 8 * (4 * (r.val / 1024) + k.val / 1024) + 7 < cfg0.N := by show _ < 256; omega
  have hl : loc2Of (ix2 r k) = ix2 ⟨r.val % 1024, by omega⟩ ⟨k.val % 1024, by omega⟩ := by funext a; fin_cases a <;> rfl
  have key := out_at m c ⟨r.val % 1024, by omega⟩ ⟨k.val % 1024, by omega⟩ ⟨_, hlt⟩
    (by show (8 * (4 * (r.val / 1024) + k.val / 1024) + 7) % 8 = 7; omega)
  have er : rowOf (8 * (4 * (r.val / 1024) + k.val / 1024) + 7) hlt ⟨r.val % 1024, by omega⟩ = r :=
    Fin.ext (by show (8 * (4 * (r.val / 1024) + k.val / 1024) + 7) / 32 * 1024 + r.val % 1024 = r.val; omega)
  have ek : colOf (8 * (4 * (r.val / 1024) + k.val / 1024) + 7) ⟨k.val % 1024, by omega⟩ = k :=
    Fin.ext (by show (8 * (4 * (r.val / 1024) + k.val / 1024) + 7) / 8 % 4 * 1024 + k.val % 1024 = k.val; omega)
  dsimp only at key
  rw [er, ek, sum_term] at key
  unfold G2
  rw [dif_pos (by rw [hp]; exact hlt), hl, fold0_congr m c _ _ (8 * (4 * (r.val / 1024) + k.val / 1024) + 7) (by omega) hp,
    ← outsAt0_sweep m c _ hlt]
  exact key

end Cert.MlpOutIdeal.Acc
-- ==== Proof.LastValue.lean ====
module

public import proofs.«01_k».proof.Proof.Gen.LastIdeal.Frame
public import Idealize.ShloMosaic.Lib.Pipeline.Value
public import Idealize.ShloMosaic.Lib.StableHlo.ReadAt
public import proofs.«01_k».proof.Proof.FrontSpec

@[expose] public section

set_option maxRecDepth 16384

noncomputable section

/-! The last residual: what the call leaves in its output array, and the program's result at an index. -/
namespace Cert.LastIdeal.Result

open Cert.LastIdeal Cert.LastIdeal.Gen Cert.Proof.Front Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := funext fun a => by fin_cases a <;> rfl

/-- The residual with its norm. -/
def resOf (x : Vec Ideal S8192x4096 .f32) (z : Vec Ideal S8192x4096 .bf16) (g : Vec Ideal S1x4096 .f32) : Vec Ideal S8192x4096 .f32 :=
  fun i => x (ix2 (i 0) (i 1)) + rms (fun j => z (ix2 (i 0) j)) (z (ix2 (i 0) (i 1))) (g (ix2 0 (i 1)))

/-- One grid point's block of it. -/
theorem pay (x : Vec Ideal S256x4096 .f32) (z : Vec Ideal S256x4096 .bf16) (g : Vec Ideal S1x4096 .f32) (r : Fin 256) (k : Fin 4096) :
    k0_pay1 (F := Ideal) x z g (ix2 r k) = x (ix2 r k) + rms (fun j => z (ix2 r j)) (z (ix2 r k)) (g (ix2 0 k)) := by
  pointwise [k0_pay1]; rfl

/-- The blocks the windows stage at each grid point. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

theorem blk0_0 (t : Fin cfg0.N) (r : Fin 256) (k : Fin 4096) : iblk m c 0 t (ix2 r k)
    = V m c main_arg0 (ix2 ⟨t.val * 256 + r.val, by have : t.val < 32 := t.isLt; omega⟩ k) := by
  have ht := idx0 t
  show V m c main_arg0 (((cfg0.win 0).blk t).view.emb (ix2 r k)) = _
  refine congrArg (V m c main_arg0) (funext fun a => Fin.ext ?_)
  match a with
  | ⟨0, _⟩ => show win0_0.index t (0 : Fin 2) * 256 + 1 * r.val = _; rw [ht.1, Nat.one_mul]; rfl
  | ⟨1, _⟩ => show win0_0.index t (1 : Fin 2) * 4096 + 1 * k.val = k.val; rw [ht.2.1]; omega

theorem blk0_1 (t : Fin cfg0.N) (r : Fin 256) (k : Fin 4096) : iblk m c 1 t (ix2 r k)
    = V m c main_arg1 (ix2 ⟨t.val * 256 + r.val, by have : t.val < 32 := t.isLt; omega⟩ k) := by
  have ht := idx0 t
  show V m c main_arg1 (((cfg0.win 1).blk t).view.emb (ix2 r k)) = _
  refine congrArg (V m c main_arg1) (funext fun a => Fin.ext ?_)
  match a with
  | ⟨0, _⟩ => show win0_1.index t (0 : Fin 2) * 256 + 1 * r.val = _; rw [ht.2.2.1, Nat.one_mul]; rfl
  | ⟨1, _⟩ => show win0_1.index t (1 : Fin 2) * 4096 + 1 * k.val = k.val; rw [ht.2.2.2.1]; omega

theorem blk0_2 (t : Fin cfg0.N) (k : Fin 4096) : iblk m c 2 t (ix2 0 k)
    = V m c main_v1 (ix2 0 k) := by
  have ht := idx0 t
  show V m c main_v1 (((cfg0.win 2).blk t).view.emb (ix2 0 k)) = _
  refine congrArg (V m c main_v1) (funext fun a => Fin.ext ?_)
  match a with
  | ⟨0, _⟩ => show win0_2.index t (0 : Fin 2) * 1 + 1 * 0 = 0; rw [ht.2.2.2.2.1]
  | ⟨1, _⟩ => show win0_2.index t (1 : Fin 2) * 4096 + 1 * k.val = k.val; rw [ht.2.2.2.2.2.1]; omega

theorem emb0_3 (t : Fin cfg0.N) (r : Fin 256) (k : Fin 4096) : ((cfg0.win 3).blk t).view.emb (ix2 r k)
    = ix2 ⟨t.val * 256 + r.val, by have : t.val < 32 := t.isLt; omega⟩ k := by
  have ht := idx0 t
  refine funext fun a => Fin.ext ?_
  match a with
  | ⟨0, _⟩ => show win0_3.index t (0 : Fin 2) * 256 + 1 * r.val = _; rw [ht.2.2.2.2.2.2.1, Nat.one_mul]; rfl
  | ⟨1, _⟩ => show win0_3.index t (1 : Fin 2) * 4096 + 1 * k.val = k.val; rw [ht.2.2.2.2.2.2.2]; omega

theorem out0 (x : Vec Ideal S256x4096 .f32) (z : Vec Ideal S256x4096 .bf16) (g : Vec Ideal S1x4096 .f32) (r : Fin 256) (k : Fin 4096) :
    out0_3 x z g (ix2 r k) = x (ix2 r k) + rms (fun j => z (ix2 r j)) (z (ix2 r k)) (g (ix2 0 k)) := by
  unfold out0_3
  rw [View.canon_unit_zero hz]
  repeat rw [View.ld_unit_zero hz]
  exact pay x z g r k

theorem flushed0 (t : Fin cfg0.N) : (dats m 0 c).flushed 3 t
    = ((cfg0.win 3).blk t).view.read (Elt Ideal) (resOf (V m c main_arg0) (V m c main_arg1) (V m c main_v1)) := by
  show (cfg0.win 3).cut (grid0.coords t) ((dats m 0 c).after 3 t) = _
  rw [after0_3]
  refine funext fun (j : S256x4096.Idx) => ?_
  obtain ⟨r, k, rfl⟩ : ∃ r k, j = ix2 r k := ⟨j 0, j 1, by funext a; fin_cases a <;> rfl⟩
  show out0_3 (iblk m c 0 t) (iblk m c 1 t) (iblk m c 2 t) (ix2 r k)
    = resOf (V m c main_arg0) (V m c main_arg1) (V m c main_v1) (((cfg0.win 3).blk t).view.emb (ix2 r k))
  rw [emb0_3, out0]
  simp only [blk0_0, blk0_1, blk0_2]
  rfl

theorem covered0 (i : S8192x4096.Idx) :
    ∃ t : Fin cfg0.N, (cfg0.win 3).flush t = true ∧ i ∈ ((cfg0.win 3).blk t).view.set := by
  obtain ⟨r, k, rfl⟩ : ∃ r k, i = ix2 r k := ⟨i 0, i 1, by funext a; fin_cases a <;> rfl⟩
  have hN : r.val / 256 < cfg0.N := by show _ < 32; omega
  refine ⟨⟨r.val / 256, hN⟩, flush0_3 _, ?_⟩
  have h := ((cfg0.win 3).blk ⟨r.val / 256, hN⟩).view.emb_mem_set (ix2 ⟨r.val % 256, by omega⟩ k)
  rw [emb0_3] at h
  have er : r = ⟨(r.val / 256) * 256 + r.val % 256, by omega⟩ := Fin.ext (by
    show r.val = (r.val / 256) * 256 + r.val % 256; omega)
  exact (congrArg₂ ix2 er (rfl : k = k)) ▸ h

/-- THE CALL'S ARRAY. -/
theorem final0 : (dats m 0 c).arrAt 3 cfg0.N = resOf (V m c main_arg0) (V m c main_arg1) (V m c main_v1) :=
  (dats m 0 c).arrAt_eq_of_cover 3 _ (fun t _ => flushed0 m c t) covered0

/-- The gains as the call finds them. -/
theorem v1_at (k : Fin 4096) : V m c main_v1 (ix2 0 k) = m ((c : Thread nD τ).loc main_arg2) (ix2 0 k) := by
  unfold V; after_reads_at

/-- The result array: the call's, reshaped. -/
def G (b : Ref sig .tc) : Buf (Elt Ideal) ((c : Thread nD τ).loc b) := Pipeline.afterTail₀ cfgs (dats m) 0 (V0 m) [hostOps1] c b

theorem G_eq : (G m c main_v3 : Vec Ideal S2x4096x4096 .f32)
    = shapeCast S2x4096x4096 (resOf (V m c main_arg0) (V m c main_arg1) (V m c main_v1)) shapeCasts_S8192x4096_S2x4096x4096 := by
  rw [← final0]
  unfold G Pipeline.afterTail₀
  have h := Pipeline.withArrays_arr (Val := Elt Ideal) spec0 (by decide) c (V0 m c) (fun w => (dats m 0 c).arrAt w cfg0.N) 3
  simp only [hostOps1, List.flatten_cons, List.flatten_nil, List.append_nil]
  after_results
  exact congrArg (fun y => shapeCast S2x4096x4096 y shapeCasts_S8192x4096_S2x4096x4096) h

/-- The layer's last residual at an entry. -/
def resAt (x : (⟨2, ![8192, 4096]⟩ : Shape).Idx → EReal) (z : (⟨2, ![8192, 4096]⟩ : Shape).Idx → EReal)
    (g : (⟨2, ![1, 4096]⟩ : Shape).Idx → EReal) (r : Fin 8192) (k : Fin 4096) : EReal :=
  x (ix2 r k) + rms (fun j => z (ix2 r j)) (z (ix2 r k)) (g (ix2 0 k))

/-- THE RESULT at an entry. -/
theorem result_at (b : Fin 2) (t k : Fin 4096) : G m c main_v3 (ix3 b t k)
    = resAt (m ((c : Thread nD τ).loc main_arg0)) (m ((c : Thread nD τ).loc main_arg1)) (m ((c : Thread nD τ).loc main_arg2))
      ⟨b.val * 4096 + t.val, by omega⟩ k := by
  refine (congrFun (G_eq m c) _).trans ?_
  have e : ∀ y : Vec Ideal S8192x4096 .f32, shapeCast S2x4096x4096 y shapeCasts_S8192x4096_S2x4096x4096 (ix3 b t k)
      = y (ix2 ⟨b.val * 4096 + t.val, by omega⟩ k) := fun y => by pointwise
  rw [e, V_main_arg0, V_main_arg1]
  unfold resAt
  rw [← v1_at m c]
  rfl

variable (ρ : Dev nD → PrngReg)

/-- The program's run: its result array, and its arguments as launched. -/
theorem run : θ_run defs (onTc (τ := τ) (main (F := Ideal))) ⟨m, fun _ => 0, ρ⟩ fun r => ∀ c : Dev nD,
      r.2.mem ((c : Thread nD τ).loc main_v3) = G m c main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).2 main_v3 (Pipeline.mem_restRefs_of main_v3 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.LastIdeal.Result
-- ==== Proof.BackRef.lean ====
module

public import proofs.«01_k».proof.Proof.Gen.MlpOutReferenceIdeal.Read
public import proofs.«01_k».proof.Proof.Gen.LastReferenceIdeal.Read
public import proofs.«01_k».proof.Proof.MlpOutValue
public import proofs.«01_k».proof.Proof.LastValue

@[expose] public section

set_option maxRecDepth 16384

noncomputable section

/-! The two references' results at an index. -/
namespace Cert.Proof.Back

open Cert.Proof.Front Idealize.ShloMosaic Idealize.ShloMosaic.TcCoe Idealize.SL.Sem

open Cert.MlpOutReferenceIdeal Cert.MlpOutReferenceIdeal.Read in
/-- The MLP's second product. -/
theorem out_at (u : (⟨S8192x16384, .bf16⟩ : BufTy).Contents (Elt Ideal)) (w : (⟨S1x16384x4096, .f32⟩ : BufTy).Contents (Elt Ideal))
    (r : Fin 8192) (k : Fin 4096) : val_main_v3 (F := Ideal) u w (ix2 r k) = Cert.MlpOutIdeal.Acc.prodAt u w r k := by
  unfold val_main_v3 val_main_v2 val_main_v1 val_main_v0 Cert.MlpOutIdeal.Acc.prodAt
  pointwise

open Cert.LastReferenceIdeal Cert.LastReferenceIdeal.Read in
/-- The last residual. -/
theorem last_at (x : (⟨S8192x4096, .f32⟩ : BufTy).Contents (Elt Ideal)) (z : (⟨S8192x4096, .bf16⟩ : BufTy).Contents (Elt Ideal))
    (g : (⟨S1x4096, .f32⟩ : BufTy).Contents (Elt Ideal)) (b : Fin 2) (t k : Fin 4096) :
    val_main_v17 (F := Ideal) x z g (ix3 b t k) = Cert.LastIdeal.Result.resAt x z g ⟨b.val * 4096 + t.val, by omega⟩ k := by
  unfold val_main_v17 val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst
    val_main_cst_0 val_main_cst_1 Cert.LastIdeal.Result.resAt rms
  pointwise

end Cert.Proof.Back
-- ==== Proof.AttnMath.lean ====
module

public import Idealize.ShloMosaic.Lib.Pointwise
public import Mathlib.Analysis.SpecialFunctions.Pow.Real

@[expose] public section

set_option maxRecDepth 16384

noncomputable section

/-! The mathematics of the differential attention on real scores. A softmax does not change when one number is taken from all
    scores of a query, so it does not matter which; and it can be taken to base 2 of the scores over `log 2`. -/
namespace Cert.Proof.Attn

open Idealize.ShloMosaic

/-- The extended real of a finite sum of reals is the sum of the extended reals. -/
theorem coe_sum {ι : Type} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ (by simp) ?_
  intro a s ha h
  rw [Finset.sum_insert ha, Finset.sum_insert ha, EReal.coe_add, h]

/-- The softmax of the scores `s`, at key `k`. -/
def soft (s : Fin 4096 → ℝ) (k : Fin 4096) : ℝ := Real.exp (s k) / ∑ j, Real.exp (s j)

theorem sum_exp_pos (s : Fin 4096 → ℝ) : 0 < ∑ j, Real.exp (s j) :=
  Finset.sum_pos (fun j _ => Real.exp_pos (s j)) ⟨0, Finset.mem_univ 0⟩

/-- Any number may be taken from all scores. -/
theorem soft_shift (s : Fin 4096 → ℝ) (M : ℝ) (k : Fin 4096) :
    Real.exp (s k - M) / ∑ j, Real.exp (s j - M) = soft s k := by
  unfold soft
  simp only [Real.exp_sub, ← Finset.sum_div]
  have h := (sum_exp_pos s).ne'
  have h2 := (Real.exp_pos M).ne'
  field_simp

/-- A power of two is an exponential. -/
theorem two_pow (x : ℝ) : Real.rpow 2 x = Real.exp (x * Real.log 2) := by
  show (2 : ℝ) ^ x = _
  rw [Real.rpow_def_of_pos (by norm_num), mul_comm]

/-- The differential attention of one query for one feature of the values: the values' mean under the first softmax less `lam`
    times their mean under the second. -/
def diff (s0 s1 v : Fin 4096 → ℝ) (lam : ℝ) : ℝ := ∑ k, v k * (soft s0 k - lam * soft s1 k)

/-- The attention by the reference's steps: scores less their maximum, exponentials over their sum, and the weights' product
    with the values. -/
theorem diff_of_softmax (S0 S1 V : Fin 4096 → EReal) (s0 s1 v : Fin 4096 → ℝ) (M0 M1 L : EReal) (m0 m1 lam : ℝ)
    (h0 : ∀ k, S0 k = s0 k) (h1 : ∀ k, S1 k = s1 k) (hv : ∀ k, V k = v k) (hm0 : M0 = m0) (hm1 : M1 = m1) (hl : L = lam) :
    ∑ k, V k * (Ideal.div (Ideal.exp (S0 k - M0)) (∑ j, Ideal.exp (S0 j - M0))
      - L * Ideal.div (Ideal.exp (S1 k - M1)) (∑ j, Ideal.exp (S1 j - M1))) = (diff s0 s1 v lam : EReal) := by
  have hp : ∀ (s : Fin 4096 → ℝ) (m : ℝ), (∑ j, Real.exp (s j - m)) ≠ 0 := fun s m => (sum_exp_pos fun j => s j - m).ne'
  have e : ∀ (s : Fin 4096 → ℝ) (m : ℝ) (k : Fin 4096),
      Ideal.div (Ideal.exp ((s k : EReal) - m)) (∑ j, Ideal.exp ((s j : EReal) - m)) = (soft s k : EReal) := by
    intro s m k
    simp only [← EReal.coe_sub, Ideal.exp_coe, ← coe_sum]
    rw [Ideal.div_coe (hp s m), ← EReal.coe_mul, ← soft_shift s m k]
    congr 1
    ring
  subst hm0 hm1 hl
  simp only [h0, h1, hv, e]
  unfold diff
  rw [coe_sum]
  simp only [EReal.coe_mul, EReal.coe_sub]

/-- The attention by the kernel's steps: scores to base 2 less one number per query, the powers' products with the values and
    with ones, each map's product over its sum, the second scaled by `lam`. -/
theorem diff_of_powers (T0 T1 V : Fin 4096 → EReal) (s0 s1 v : Fin 4096 → ℝ) (M0 M1 L : EReal) (m0 m1 lam : ℝ)
    (h0 : ∀ k, T0 k = (s0 k / Real.log 2 : ℝ)) (h1 : ∀ k, T1 k = (s1 k / Real.log 2 : ℝ)) (hv : ∀ k, V k = v k) (hm0 : M0 = m0)
    (hm1 : M1 = m1) (hl : L = lam) :
    (∑ k, V k * Ideal.exp2 (T0 k - M0)) * Ideal.div 1 (∑ j, Ideal.exp2 (T0 j - M0))
      - (∑ k, V k * Ideal.exp2 (T1 k - M1)) * Ideal.div L (∑ j, Ideal.exp2 (T1 j - M1)) = (diff s0 s1 v lam : EReal) := by
  have hlog : Real.log 2 ≠ 0 := (Real.log_pos (by norm_num)).ne'
  have hp : ∀ (s : Fin 4096 → ℝ) (m : ℝ), (∑ j, Real.exp (s j - m)) ≠ 0 := fun s m => (sum_exp_pos fun j => s j - m).ne'
  have e : ∀ (s : Fin 4096 → ℝ) (m : ℝ) (k : Fin 4096),
      Ideal.exp2 (((s k / Real.log 2 : ℝ) : EReal) - m) = (Real.exp (s k - m * Real.log 2) : ℝ) := by
    intro s m k
    rw [← EReal.coe_sub, Ideal.exp2_coe, two_pow, sub_mul, div_mul_cancel₀ _ hlog]
  have a : ∀ (s : Fin 4096 → ℝ) (m : ℝ) (c : ℝ), (∑ k, (v k : EReal) * Ideal.exp2 (((s k / Real.log 2 : ℝ) : EReal) - m))
      * Ideal.div c (∑ j, Ideal.exp2 (((s j / Real.log 2 : ℝ) : EReal) - m)) = ((∑ k, v k * (c * soft s k) : ℝ) : EReal) := by
    intro s m c
    simp only [e, ← EReal.coe_mul, ← coe_sum]
    rw [Ideal.div_coe (hp s _), ← EReal.coe_mul, ← EReal.coe_mul, Finset.sum_mul]
    congr 1
    refine Finset.sum_congr rfl fun k _ => ?_
    rw [← soft_shift s (m * Real.log 2) k]
    ring
  subst hm0 hm1 hl
  simp only [h0, h1, hv]
  rw [← EReal.coe_one, a s0 m0 1, a s1 m1 lam, ← EReal.coe_sub, ← Finset.sum_sub_distrib]
  unfold diff
  congr 1
  refine Finset.sum_congr rfl fun k _ => ?_
  ring

/-! ### Numbers -/

/-- Every entry is a number. -/
def Num {s : Shape} (x : s.Idx → EReal) : Prop := ∀ i, ∃ r : ℝ, x i = r

theorem num_max {a b : EReal} (ha : ∃ r : ℝ, a = r) (hb : ∃ r : ℝ, b = r) : ∃ r : ℝ, max a b = r := by
  rcases max_choice a b with h | h <;> rw [h] <;> assumption

/-- The greatest of finitely many numbers, one at least, is a number. -/
theorem num_sup {n : Nat} (f : Fin (n + 1) → EReal) (h : ∀ i, ∃ r : ℝ, f i = r) :
    ∃ r : ℝ, Finset.univ.sup f = r := by
  obtain ⟨i, -, hi⟩ := Finset.exists_mem_eq_sup Finset.univ ⟨0, Finset.mem_univ 0⟩ f
  rw [hi]
  exact h i

/-- A sum over 4096 keys by quarters. -/
theorem sum_quarters (f : Fin 4096 → EReal) :
    (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) = ∑ k, f k := by
  have h := Fin.sum_univ_add (a := 3072) (b := 1024) (f := fun k : Fin (3072 + 1024) => f k)
  have h2 := Fin.sum_univ_add (a := 2048) (b := 1024) (f := fun k : Fin (2048 + 1024) => f ⟨k.val, by omega⟩)
  have h3 := Fin.sum_univ_add (a := 1024) (b := 1024) (f := fun k : Fin (1024 + 1024) => f ⟨k.val, by omega⟩)
  exact ((h.trans (congrArg (· + _) (h2.trans (congrArg (· + _) h3)))).symm)

end Cert.Proof.Attn
-- ==== Proof.AttnBlocks.lean ====
module

public import proofs.«01_k».proof.Proof.Gen.AttnIdeal.Skeleton
public import Idealize.ShloMosaic.Lib.Pipeline.Value
public import Idealize.ShloMosaic.Lib.Pipeline.ValueKit.Tiles
public import Idealize.ShloMosaic.Lib.Pointwise
public import proofs.«01_k».proof.Proof.AttnMath

@[expose] public section

set_option maxRecDepth 16384

noncomputable section

/-! The steps of the attention kernel's body on one block of queries, each an entry at a time. -/
namespace Cert.AttnIdeal.Blocks

open Cert.AttnIdeal Cert.AttnIdeal.Gen Cert.Proof.Attn Idealize.ShloMosaic Idealize.ShloMosaic.TcCoe Idealize.SL.Sem

/-! ### Stores of rows, in order -/

section Rows

/-- The writes `L` left the entries of `G` on the rows from `a` up to `b`. -/
def Filled (a b : ℕ) (L : List (View.Piece (Elt Ideal) S4096x512 .bf16)) (G : Fin 4096 → Fin 512 → EReal) : Prop :=
  ∀ (k : Fin 4096) (j : Fin 512), a ≤ k.val → k.val < b → View.canon L (ix2 k j) = G k j

theorem filled_start (a : ℕ) (L : List (View.Piece (Elt Ideal) S4096x512 .bf16)) (G : Fin 4096 → Fin 512 → EReal) : Filled a a L G :=
  fun k j h1 h2 => absurd h2 (by omega)

/-- One more store of the 32 rows that follow. -/
theorem filled_step {a o b : ℕ} {L : List (View.Piece (Elt Ideal) S4096x512 .bf16)} {G : Fin 4096 → Fin 512 → EReal}
    {inb : ∀ x, (![o, 0] : Fin 2 → ℕ) x + S32x512.size x ≤ S4096x512.size x} {w : Vec Ideal S32x512 .bf16}
    (hb : o + 32 = b) (hw : ∀ (r : Fin 32) (j : Fin 512) (h : o + r.val < 4096), w (ix2 r j) = G ⟨o + r.val, h⟩ j)
    (h : Filled a o L G) : Filled a b (⟨Rect.unit ![o, 0] S32x512.size inb, w⟩ :: L) G := by
  intro k j h1 h2
  by_cases hk : o ≤ k.val
  · have e : ix2 k j = (Rect.unit (s := S4096x512) ![o, 0] S32x512.size inb).emb (ix2 ⟨k.val - o, by omega⟩ j) := by
      funext x
      fin_cases x
      · exact Fin.ext (by show k.val = o + 1 * (k.val - o); omega)
      · exact Fin.ext (by show j.val = 0 + 1 * j.val; omega)
    rw [e, View.canon_cons_emb, hw _ _ (by show o + (k.val - o) < 4096; omega)]
    exact congrArg (G · j) (Fin.ext (by show o + (k.val - o) = k.val; omega))
  · rw [View.canon_cons_of_not_mem, h k j h1 (by omega)]
    intro hm
    obtain ⟨x, hx⟩ := (Rect.unit (s := S4096x512) ![o, 0] S32x512.size inb).exists_idx_of_mem hm
    have := congrArg (fun y : S4096x512.Idx => (y 0).val) hx
    have h3 : o + 1 * (x 0).val = k.val := this
    omega

variable (v : View sig .tc .vmem S2x4096x512 .f32) (f : v.ty.Contents (Elt Ideal))

/-- The buffer after the writes `L` over `f` has the entries of `G` on slot `s`, on the rows before `b`. -/
def Filled3 (s : Fin 2) (b : ℕ) (L : List (View.Piece (Elt Ideal) S2x4096x512 .f32)) (G : Fin 4096 → Fin 512 → EReal) : Prop :=
  ∀ (k : Fin 4096) (j : Fin 512), k.val < b → v.read (Elt Ideal) (v.writes (Elt Ideal) f L) (ix3 s k j) = G k j

theorem filled3_start {s : Fin 2} {L : List (View.Piece (Elt Ideal) S2x4096x512 .f32)} {G : Fin 4096 → Fin 512 → EReal} : Filled3 v f s 0 L G :=
  fun k j h2 => absurd h2 (by omega)

theorem filled3_kept {s : Fin 2} : Filled3 v f s 4096 [] (fun k j => v.read (Elt Ideal) f (ix3 s k j)) := fun _ _ _ => rfl

variable {v f}

/-- One more store of the 512 rows that follow. -/
theorem filled3_step {s : Fin 2} {o b : ℕ} {L : List (View.Piece (Elt Ideal) S2x4096x512 .f32)} {G : Fin 4096 → Fin 512 → EReal}
    {inb : ∀ x, (![s.val, o, 0] : Fin 3 → ℕ) x + S1x512x512.size x ≤ S2x4096x512.size x} {w : Vec Ideal S1x512x512 .f32}
    (hb : o + 512 = b) (hw : ∀ (r : Fin 512) (j : Fin 512) (h : o + r.val < 4096), w (ix3 0 r j) = G ⟨o + r.val, h⟩ j)
    (h : Filled3 v f s o L G) : Filled3 v f s b (⟨Rect.unit ![s.val, o, 0] S1x512x512.size inb, w⟩ :: L) G := by
  intro k j h2
  by_cases hk : o ≤ k.val
  · have e : ix3 s k j = (Rect.unit (s := S2x4096x512) ![s.val, o, 0] S1x512x512.size inb).emb (ix3 0 ⟨k.val - o, by omega⟩ j) := by
      funext x
      fin_cases x
      · exact Fin.ext (by show s.val = s.val + 1 * 0; omega)
      · exact Fin.ext (by show k.val = o + 1 * (k.val - o); omega)
      · exact Fin.ext (by show j.val = 0 + 1 * j.val; omega)
    rw [e, View.read_writes_cons_emb, hw _ _ (by show o + (k.val - o) < 4096; omega)]
    exact congrArg (G · j) (Fin.ext (by show o + (k.val - o) = k.val; omega))
  · rw [View.writes_cons, View.read_slice_write_of_not_mem _ _ _ _ (fun hm => ?_), h k j (by omega)]
    rw [Rect.map_emb_univ] at hm
    obtain ⟨x, hx⟩ := (Rect.unit (s := S2x4096x512) ![s.val, o, 0] S1x512x512.size inb).exists_idx_of_mem hm
    have := congrArg (fun y : S2x4096x512.Idx => (y 1).val) hx
    have h3 : o + 1 * (x 1).val = k.val := this
    omega

/-- A store to the other slot changes nothing in this one. -/
theorem filled3_skip {s u : Fin 2} {o b : ℕ} {L : List (View.Piece (Elt Ideal) S2x4096x512 .f32)} {G : Fin 4096 → Fin 512 → EReal}
    {inb : ∀ x, (![u.val, o, 0] : Fin 3 → ℕ) x + S1x512x512.size x ≤ S2x4096x512.size x} {w : Vec Ideal S1x512x512 .f32}
    (hu : u ≠ s) (h : Filled3 v f s b L G) : Filled3 v f s b (⟨Rect.unit ![u.val, o, 0] S1x512x512.size inb, w⟩ :: L) G := by
  intro k j h2
  rw [View.writes_cons, View.read_slice_write_of_not_mem _ _ _ _ (fun hm => ?_), h k j h2]
  rw [Rect.map_emb_univ] at hm
  obtain ⟨x, hx⟩ := (Rect.unit (s := S2x4096x512) ![u.val, o, 0] S1x512x512.size inb).exists_idx_of_mem hm
  have := congrArg (fun y : S2x4096x512.Idx => (y 0).val) hx
  have h3 : u.val + 1 * (x 0).val = s.val := this
  have h4 : (x 0).val < 1 := (x 0).isLt
  exact hu (Fin.ext (by omega))

end Rows

/-! ### A group of 32 rows of the scores: read, folded into the running maximum, and made into weights -/

/-- `x` is rows `o` to `o + 31` of `T`. -/
def Tile (x : Vec Ideal S32x512 .f32) (T : Fin 4096 → Fin 512 → EReal) (o : ℕ) : Prop :=
  ∀ (r : Fin 32) (j : Fin 512) (h : o + r.val < 4096), x (ix2 r j) = T ⟨o + r.val, h⟩ j

/-- A load of 32 rows of one slot. -/
theorem tile_ld {s o : ℕ} {inb : ∀ x, (![s, o, 0] : Fin 3 → ℕ) x + S1x32x512.size x ≤ S2x4096x512.size x} {y : Vec Ideal S1x32x512 .f32}
    {f : S2x4096x512.Idx → EReal} (s' : Fin 2) (hs : s'.val = s)
    (hy : y = fun x => f ((Rect.unit (s := S2x4096x512) ![s, o, 0] S1x32x512.size inb).emb x)) : Tile (shapeCast S32x512 y shapeCasts_S1x32x512_S32x512) (fun k j => f (ix3 s' k j)) o := by
  intro r j h
  subst hy
  have e : (Rect.unit (s := S2x4096x512) ![s, o, 0] S1x32x512.size inb).emb (ix3 0 r j) = ix3 s' ⟨o + r.val, h⟩ j := by
    funext x
    fin_cases x
    · exact Fin.ext (by show s + 1 * 0 = s'.val; omega)
    · exact Fin.ext (by show o + 1 * r.val = o + r.val; omega)
    · exact Fin.ext (by show 0 + 1 * j.val = j.val; omega)
  refine Eq.trans ?_ (congrArg f e)
  pointwise

theorem eta2 (i : S32x512.Idx) : i = ix2 (i 0) (i 1) := funext fun a => by fin_cases a <;> rfl

theorem num_tile {x : Vec Ideal S32x512 .f32} {T : Fin 4096 → Fin 512 → EReal} {o : ℕ} (ho : o + 32 ≤ 4096)
    (hT : ∀ k j, ∃ r : ℝ, T k j = r) (h : Tile x T o) : Num x := by
  intro i
  have hi : o + (i 0).val < 4096 := by have : (i 0).val < 32 := (i 0).isLt; omega
  obtain ⟨r, hr⟩ := hT ⟨o + (i 0).val, hi⟩ (i 1)
  exact ⟨r, ((congrArg x (eta2 i)).trans (h (i 0) (i 1) hi)).trans hr⟩

/-- The first group's maximum over its four tiles of 8 rows. -/
theorem num_first {x : Vec Ideal S32x512 .f32} (hx : Num x) :
    Num (s := S8x512) (maximumf (F := Ideal) (φ := .f32) (maximumf (maximumf (extractStridedSlice S8x512 ![0, 0] x slices_S32x512_o0_0_S8x512)
      (extractStridedSlice S8x512 ![8, 0] x slices_S32x512_o8_0_S8x512)) (extractStridedSlice S8x512 ![16, 0] x slices_S32x512_o16_0_S8x512)) (extractStridedSlice S8x512 ![24, 0] x slices_S32x512_o24_0_S8x512)) :=
  fun i => num_max (num_max (num_max (hx _) (hx _)) (hx _)) (hx _)

/-- A further group's four tiles folded in. -/
theorem num_next {a : Vec Ideal S8x512 .f32} {x : Vec Ideal S32x512 .f32} (hx : Num x) (ha : Num a) :
    Num (s := S8x512) (maximumf (F := Ideal) (φ := .f32) (maximumf (maximumf (maximumf a (extractStridedSlice S8x512 ![0, 0] x slices_S32x512_o0_0_S8x512))
      (extractStridedSlice S8x512 ![8, 0] x slices_S32x512_o8_0_S8x512)) (extractStridedSlice S8x512 ![16, 0] x slices_S32x512_o16_0_S8x512)) (extractStridedSlice S8x512 ![24, 0] x slices_S32x512_o24_0_S8x512)) :=
  fun i => num_max (num_max (num_max (num_max (ha i) (hx _)) (hx _)) (hx _)) (hx _)

theorem bot_bits : Ideal.ofBits FTy.f32 4286578688#32 = ⊥ := by
  show Ideal.ieee 8 23 4286578688#32 = ⊥
  have h1 : (BitVec.extractLsb' 23 8 4286578688#32).toNat = 2 ^ 8 - 1 := by decide
  have h2 : (BitVec.extractLsb' 0 23 4286578688#32).toNat = 0 := by decide
  have h3 : (BitVec.extractLsb' (8 + 23) 1 4286578688#32 == 1#1) = true := by decide
  unfold Ideal.ieee
  simp only [h1, h2, h3, if_true]

/-- The maximum over the last 8 rows. -/
theorem num_rows {a : Vec Ideal S8x512 .f32} (ha : Num a) :
    Num (s := S1x512) (shapeCast S1x512 (multiReduction (F := Ideal) .maximumf [0] S512 a 0xFF800000#32 reduces_S8x512_S512 (.inl rfl) rfl) shapeCasts_S512_S1x512) := by
  intro i
  obtain ⟨j, rfl⟩ : ∃ j : Fin 512, i = ix2 0 j :=
    ⟨i 1, funext fun x => by fin_cases x; exact Subsingleton.elim (α := Fin 1) _ _; rfl⟩
  have e : shapeCast S1x512 (multiReduction (F := Ideal) .maximumf [0] S512 a 0xFF800000#32 reduces_S8x512_S512 (.inl rfl) rfl) shapeCasts_S512_S1x512 (ix2 0 j)
      = Finset.univ.sup fun r : Fin 8 => a (ix2 r j) := by
    pointwise
    rw [show Ideal.ofBits FTy.f32 4286578688#32 = ⊥ from bot_bits]
    rfl
  rw [e]
  exact num_sup (n := 7) _ fun r => ha _

/-- The weights of a group: two to the power of the score less the maximum. -/
theorem weights {x : Vec Ideal S32x512 .f32} {M : Vec Ideal S1x512 .f32} {T : Fin 4096 → Fin 512 → EReal} {o : ℕ}
    (hx : Tile x T o) (r : Fin 32) (j : Fin 512) (h : o + r.val < 4096) :
    shapeCast S32x512 (truncf (F := Ideal) .bf16 (exp2 (subf x (broadcastTo S32x512 M broadcasts_S1x512_S32x512))) bitsLt_bf16_f32) shapeCasts_S32x512_S32x512 (ix2 r j)
      = Ideal.exp2 (T ⟨o + r.val, h⟩ j - M (ix2 0 j)) := by
  rw [← hx r j h]
  pointwise
  rfl

/-! ### The scores of a block of queries against 512 keys -/

/-- The queries of a block, stacked: the first feature half and then the second, the other half zero. -/
def stack (q : Fin 256 → Fin 128 → EReal) (j : Fin 512) (d : Fin 128) : EReal :=
  if h : j.val < 256 then (if d.val < 64 then q ⟨j.val, h⟩ d else 0) else (if 64 ≤ d.val then q ⟨j.val - 256, by omega⟩ d else 0)

/-- A key's score against a stacked query: their product and the bias. -/
def score (K : Fin 4096 → Fin 128 → EReal) (q : Fin 256 → Fin 128 → EReal) (B : Fin 4096 → Fin 256 → EReal) (k : Fin 4096) (j : Fin 512) : EReal :=
  (∑ d : Fin 128, K k d * stack q j d) + B k ⟨j.val % 256, by omega⟩

theorem stacked (q : Vec Ideal S1x256x128 .bf16) (j : Fin 512) (d : Fin 128) :
    concatenate (α := Ideal .bf16) S512x128 0 [⟨S256x128, select (cmpi .slt (iota .tc S256x128 32 [1] iota_S256x128_d1_w32) (broadcast S256x128 64#32))
      (shapeCast S256x128 q shapeCasts_S1x256x128_S256x128) (broadcast S256x128 (Scalar.ofBits (F := Ideal) .bf16 0x0000#16))⟩,
      ⟨S256x128, select (cmpi .sge (iota .tc S256x128 32 [1] iota_S256x128_d1_w32) (broadcast S256x128 64#32))
      (shapeCast S256x128 q shapeCasts_S1x256x128_S256x128) (broadcast S256x128 (Scalar.ofBits (F := Ideal) .bf16 0x0000#16))⟩]
      concatenates_S256x128_S256x128_S512x128_d0 (ix2 j d) = stack (fun r d => q (ix3 0 r d)) j d := by
  have h1 : ∀ d : Fin 128, IntOp.cmpi CmpIPredicate.slt (BitVec.ofNat 32 d.val) 64#32 = if d.val < 64 then 1#1 else 0#1 := by decide
  have h2 : ∀ d : Fin 128, IntOp.cmpi CmpIPredicate.sge (BitVec.ofNat 32 d.val) 64#32 = if 64 ≤ d.val then 1#1 else 0#1 := by decide
  have s1 : ∀ x : EReal, Scalar.select (IntOp.cmpi CmpIPredicate.slt (BitVec.ofNat 32 d.val) 64#32) x 0 = if d.val < 64 then x else 0 := by
    intro x; rw [h1]; split <;> rfl
  have s2 : ∀ x : EReal, Scalar.select (IntOp.cmpi CmpIPredicate.sge (BitVec.ofNat 32 d.val) 64#32) x 0 = if 64 ≤ d.val then x else 0 := by
    intro x; rw [h2]; split <;> rfl
  unfold stack
  pointwise
  by_cases hj : j.val < 256
  · rw [dif_pos hj, dif_pos hj]; exact s1 _
  · rw [dif_neg hj, dif_neg hj]; exact s2 _

theorem product (v : Vec Ideal S144x1024 .bf16) (e : Vec Ideal S1024x512 .bf16) (r : Fin 144) (j : Fin 512) :
    matmul (F := Ideal) (φ₁ := .bf16) (φ₂ := .bf16) dot_S144x1024_S1024x512_S144x512_1_0_0_1_n_n none v e (constant S144x512 .f32 0x00000000#32) (ix2 r j)
      = ∑ k : Fin 1024, v (ix2 r k) * e (ix2 k j) := by
  pointwise

theorem chunk (k : Vec Ideal S1x512x128 .bf16) (qq : Vec Ideal S512x128 .bf16) (b : Vec Ideal S512x256 .f32) (r j : Fin 512) :
    shapeCast S1x512x512 (addf (F := Ideal) (φ := .f32) (matmul (φ₁ := .bf16) (φ₂ := .bf16) dot_S512x128_S512x128_S512x512_1_1_0_0_n_n none
      (shapeCast S512x128 k shapeCasts_S1x512x128_S512x128) qq (constant S512x512 .f32 0x00000000#32))
      (concatenate S512x512 1 [⟨S512x256, b⟩, ⟨S512x256, b⟩] concatenates_S512x256_S512x256_S512x512_d1)) shapeCasts_S512x512_S1x512x512 (ix3 0 r j)
      = (∑ d : Fin 128, k (ix3 0 r d) * qq (ix2 j d)) + b (ix2 r ⟨j.val % 256, by omega⟩) := by
  pointwise
  congr 1
  split
  · exact congrArg (fun x => b (ix2 r x)) (Fin.ext (by show j.val = j.val % 256; omega))
  · exact congrArg (fun x => b (ix2 r x)) (Fin.ext (by show j.val - 256 = j.val % 256; omega))

/-- Where the biases of the next block of queries start in their table. -/
def start (i : grid0.Coords) : ℕ := 3840 - min ((i 2).val + 1) 15 * 256

theorem off_at (i : grid0.Coords) (c : Fin 8) : k0_off1 i (BitVec.ofNat 32 (512 * c.val)) 0 = start i + 512 * c.val := by
  have h : ∀ (n : Fin 16) (c : Fin 8), (Scalar.indexCast (Scalar.addi (Scalar.subi 3840#32 (Scalar.muli (Scalar.minsi
      (Scalar.addi (BitVec.ofNat 32 n.val) 1#32) 15#32) 256#32)) (BitVec.ofNat 32 (512 * c.val)))).toNat = 3840 - min (n.val + 1) 15 * 256 + 512 * c.val := by
    decide
  exact h (i 2) c

/-- Rows `o` to `o + 511` of a block of keys. -/
theorem ld_keys {a : Memref sig .tc .vmem S1x4096x128 .bf16} (h : a.IsWhole) (x : Vec Ideal S1x4096x128 .bf16) {o : ℕ}
    (inb : ∀ y, (![0, o, 0] : Fin 3 → ℕ) y + S1x512x128.size y ≤ S1x4096x128.size y) (r : Fin 512) (d : Fin 128) (hr : o + r.val < 4096) :
    View.readAt (Elt Ideal) a.view (Rect.unit (s := S1x4096x128) ![0, o, 0] S1x512x128.size inb).toLoadRect (h.unread x) (ix3 0 r d) = x (ix3 0 ⟨o + r.val, hr⟩ d) := by
  rw [View.readAt_eq_ld, h.read_unread]
  refine congrArg x (funext fun y => Fin.ext ?_)
  fin_cases y
  · rfl
  · show o + 1 * r.val = o + r.val; omega
  · show 0 + 1 * d.val = d.val; omega

/-- 512 rows of the table of biases, from row `o`. -/
theorem ld_bias (x : Vec Ideal S7936x256 .f32) {off : Fin 2 → ℕ} (inb : ∀ y, off y + S512x256.size y ≤ S7936x256.size y) (h1 : off 1 = 0)
    (r : Fin 512) (j : Fin 256) (hr : off 0 + r.val < 7936) :
    x ((Rect.unit (s := S7936x256) off S512x256.size inb).emb (ix2 r j)) = x (ix2 ⟨off 0 + r.val, hr⟩ j) := by
  refine congrArg x (funext fun y => Fin.ext ?_)
  fin_cases y
  · show off 0 + 1 * r.val = off 0 + r.val; omega
  · show off 1 + 1 * j.val = j.val; omega

theorem chunk_score {k : Vec Ideal S1x512x128 .bf16} {qq : Vec Ideal S512x128 .bf16} {b : Vec Ideal S512x256 .f32} {K : Fin 4096 → Fin 128 → EReal}
    {q : Fin 256 → Fin 128 → EReal} {B : Fin 4096 → Fin 256 → EReal} {o : ℕ} (hq : ∀ j d, qq (ix2 j d) = stack q j d)
    (hk : ∀ (r : Fin 512) (d : Fin 128) (h : o + r.val < 4096), k (ix3 0 r d) = K ⟨o + r.val, h⟩ d)
    (hb : ∀ (r : Fin 512) (j : Fin 256) (h : o + r.val < 4096), b (ix2 r j) = B ⟨o + r.val, h⟩ j) (r j : Fin 512) (h : o + r.val < 4096) :
    shapeCast S1x512x512 (addf (F := Ideal) (φ := .f32) (matmul (φ₁ := .bf16) (φ₂ := .bf16) dot_S512x128_S512x128_S512x512_1_1_0_0_n_n none
      (shapeCast S512x128 k shapeCasts_S1x512x128_S512x128) qq (constant S512x512 .f32 0x00000000#32))
      (concatenate S512x512 1 [⟨S512x256, b⟩, ⟨S512x256, b⟩] concatenates_S512x256_S512x256_S512x512_d1)) shapeCasts_S512x512_S1x512x512 (ix3 0 r j)
      = score K q B ⟨o + r.val, h⟩ j := by
  rw [chunk]
  unfold score
  rw [← hb r _ h]
  exact congrArg (· + _) (Finset.sum_congr rfl fun d _ => by rw [hk r d h, hq])

/-- The weights of a quarter of the keys, read back. -/
theorem ld_weights {v : View sig .tc .vmem S4096x512 .bf16} {L : List (View.Piece (Elt Ideal) S4096x512 .bf16)} {a : ℕ}
    {G : Fin 4096 → Fin 512 → EReal} (h : Filled a (a + 1024) L G)
    (inb : ∀ y, (![a, 0] : Fin 2 → ℕ) y + S1024x512.size y ≤ S4096x512.size y) (k : Fin 1024) (j : Fin 512) (hk : a + k.val < 4096) :
    v.readCov L (Rect.unit (s := S4096x512) ![a, 0] S1024x512.size inb).toLoadRect (ix2 k j) = G ⟨a + k.val, hk⟩ j := by
  rw [View.readCov_eq_canon']
  refine Eq.trans ?_ (h ⟨a + k.val, hk⟩ j (by show a ≤ a + k.val; omega) (by show a + k.val < a + 1024; omega))
  refine congrArg (View.canon L) (funext fun y => Fin.ext ?_)
  fin_cases y
  · show a + 1 * k.val = a + k.val; omega
  · show 0 + 1 * j.val = j.val; omega

/-- A quarter of the columns of the values. -/
theorem ld_values (x : Vec Ideal S144x4096 .bf16) {a : ℕ} (inb : ∀ y, (![0, a] : Fin 2 → ℕ) y + S144x1024.size y ≤ S144x4096.size y)
    (r : Fin 144) (k : Fin 1024) (hk : a + k.val < 4096) :
    x ((Rect.unit (s := S144x4096) ![0, a] S144x1024.size inb).emb (ix2 r k)) = x (ix2 r ⟨a + k.val, hk⟩) := by
  refine congrArg x (funext fun y => Fin.ext ?_)
  fin_cases y
  · show 0 + 1 * r.val = r.val; omega
  · show a + 1 * k.val = a + k.val; omega

/-- The weighted sums over all keys, a quarter at a time. -/
theorem quarters {v0 v1 v2 v3 : Vec Ideal S144x1024 .bf16} {e0 e1 e2 e3 : Vec Ideal S1024x512 .bf16} {W : Fin 144 → Fin 4096 → EReal}
    {G : Fin 4096 → Fin 512 → EReal} (hv0 : ∀ r (k : Fin 1024), v0 (ix2 r k) = W r ⟨k.val, by omega⟩)
    (hv1 : ∀ r (k : Fin 1024), v1 (ix2 r k) = W r ⟨1024 + k.val, by omega⟩) (hv2 : ∀ r (k : Fin 1024), v2 (ix2 r k) = W r ⟨2048 + k.val, by omega⟩)
    (hv3 : ∀ r (k : Fin 1024), v3 (ix2 r k) = W r ⟨3072 + k.val, by omega⟩) (he0 : ∀ (k : Fin 1024) j, e0 (ix2 k j) = G ⟨k.val, by omega⟩ j)
    (he1 : ∀ (k : Fin 1024) j, e1 (ix2 k j) = G ⟨1024 + k.val, by omega⟩ j) (he2 : ∀ (k : Fin 1024) j, e2 (ix2 k j) = G ⟨2048 + k.val, by omega⟩ j)
    (he3 : ∀ (k : Fin 1024) j, e3 (ix2 k j) = G ⟨3072 + k.val, by omega⟩ j) (r : Fin 144) (j : Fin 512) :
    addf (F := Ideal) (φ := .f32) (addf (matmul (φ₁ := .bf16) (φ₂ := .bf16) dot_S144x1024_S1024x512_S144x512_1_0_0_1_n_n none v0 e0 (constant S144x512 .f32 0x00000000#32))
      (matmul (φ₁ := .bf16) (φ₂ := .bf16) dot_S144x1024_S1024x512_S144x512_1_0_0_1_n_n none v1 e1 (constant S144x512 .f32 0x00000000#32)))
      (matmul (φ₁ := .bf16) (φ₂ := .bf16) dot_S144x1024_S1024x512_S144x512_1_0_0_1_n_n none v2 e2 (constant S144x512 .f32 0x00000000#32)) (ix2 r j)
      + ∑ k : Fin 1024, v3 (ix2 r k) * e3 (ix2 k j) = ∑ k : Fin 4096, W r k * G k j := by
  rw [← sum_quarters fun k => W r k * G k j]
  simp only [← hv0, ← hv1, ← hv2, ← hv3, ← he0, ← he1, ← he2, ← he3]
  exact congrArg (· + _) (congrArg₂ (· + ·) (congrArg₂ (· + ·) (product v0 e0 r j) (product v1 e1 r j)) (product v2 e2 r j))

/-! ### The end of the body -/

/-- One entry of a row of 128 normalised by the row's root mean square, with gain `g`, and scaled. -/
def norm (o : Fin 128 → EReal) (d : Fin 128) (g : EReal) : EReal :=
  o d * Ideal.rsqrt (Ideal.div (∑ k, o k * o k) (Ideal.ofBits FTy.f32 0x43000000#32) + Ideal.ofBits FTy.f32 0x3727C5AC#32) * g
    * Ideal.ofBits FTy.f32 0x3F4CCCCD#32

/-- The difference of the two weighted means, each over its sum of weights in row 128. -/
def outT (L : EReal) (A : Fin 144 → Fin 512 → EReal) (q : Fin 256) (d : Fin 128) : EReal :=
  A ⟨d.val, by omega⟩ ⟨q.val, by omega⟩ * Ideal.div 1 (A 128 ⟨q.val, by omega⟩)
    - A ⟨d.val, by omega⟩ ⟨256 + q.val, by omega⟩ * Ideal.div L (A 128 ⟨256 + q.val, by omega⟩)

theorem outPay (L : Vec Ideal S1x1 .f32) (a : Vec Ideal S144x512 .f32) (v : Vec Ideal S144x1024 .bf16) (e : Vec Ideal S1024x512 .bf16)
    (g : Vec Ideal S1x128 .f32) (q : Fin 256) (d : Fin 128) : k0_pay235 (F := Ideal) L a v e g (ix3 0 q d)
    = norm (fun d => outT (L (ix2 0 0)) (fun r j => a (ix2 r j) + ∑ k : Fin 1024, v (ix2 r k) * e (ix2 k j)) q d) d (g (ix2 0 d)) := by
  unfold norm outT
  pointwise [k0_pay235]

/-- The same end, as the points of the other parity have it. -/
theorem outPay' (L : Vec Ideal S1x1 .f32) (a : Vec Ideal S144x512 .f32) (v : Vec Ideal S144x1024 .bf16) (e : Vec Ideal S1024x512 .bf16)
    (g : Vec Ideal S1x128 .f32) (q : Fin 256) (d : Fin 128) : k0_pay457 (F := Ideal) L a v e g (ix3 0 q d)
    = norm (fun d => outT (L (ix2 0 0)) (fun r j => a (ix2 r j) + ∑ k : Fin 1024, v (ix2 r k) * e (ix2 k j)) q d) d (g (ix2 0 d)) :=
  outPay L a v e g q d

theorem norm_congr {L L' g g' : EReal} {A A' : Fin 144 → Fin 512 → EReal} (hL : L = L') (hA : ∀ r j, A r j = A' r j) (hg : g = g')
    (q : Fin 256) (d : Fin 128) : norm (fun d => outT L A q d) d g = norm (fun d => outT L' A' q d) d g' := by
  rw [hL, hg, show A = A' from funext fun r => funext fun j => hA r j]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole of a buffer whose contents are known. -/
theorem ld_whole {S : Shape} {e : EltTy} {a : Memref sig .tc .vmem S e} (h : a.IsWhole) (x : Vec Ideal S e) {off : Fin S.rank → ℕ}
    (hz : off = fun _ => 0) (inb : ∀ y, off y + S.size y ≤ S.size y) :
    View.readAt (Elt Ideal) a.view (Rect.unit off S.size inb).toLoadRect (h.unread x) = x := by
  rw [View.readAt_eq_ld, h.read_unread, View.ld_unit_zero hz]

/-- 32 rows of a slot, loaded from scores that an earlier point left. -/
theorem tile_at {a : Memref sig .tc .vmem S2x4096x512 .f32} (h : a.IsWhole) (x : Vec Ideal S2x4096x512 .f32) {s o : ℕ} (s' : Fin 2) (hs : s'.val = s)
    (inb : ∀ y, (![s, o, 0] : Fin 3 → ℕ) y + S1x32x512.size y ≤ S2x4096x512.size y) :
    Tile (shapeCast S32x512 (View.readAt (Elt Ideal) a.view (Rect.unit (s := S2x4096x512) ![s, o, 0] S1x32x512.size inb).toLoadRect (h.unread x)) shapeCasts_S1x32x512_S32x512)
      (fun k j => x (ix3 s' k j)) o := by
  refine tile_ld (inb := inb) (f := x) s' hs ?_
  rw [View.readAt_eq_ld, h.read_unread]
  rfl

/-- A quarter of the columns of the values, loaded from what an earlier point left. -/
theorem values_at {b : Memref sig .tc .vmem S144x4096 .bf16} (h : b.IsWhole) (x : Vec Ideal S144x4096 .bf16) {a : ℕ}
    (inb : ∀ y, (![0, a] : Fin 2 → ℕ) y + S144x1024.size y ≤ S144x4096.size y) (r : Fin 144) (k : Fin 1024) (hk : a + k.val < 4096) :
    View.readAt (Elt Ideal) b.view (Rect.unit (s := S144x4096) ![0, a] S144x1024.size inb).toLoadRect (h.unread x) (ix2 r k) = x (ix2 r ⟨a + k.val, hk⟩) := by
  rw [View.readAt_eq_ld, h.read_unread]
  exact ld_values x inb r k hk

/-- Biases of 512 keys for the next block of queries, loaded from the table an earlier point left. -/
theorem bias_at {b : Memref sig .tc .vmem S7936x256 .f32} (h : b.IsWhole) (x : Vec Ideal S7936x256 .f32) (i : grid0.Coords) (c : Fin 8) {w : BitVec 32} {o : ℕ}
    (hw : w = BitVec.ofNat 32 (512 * c.val)) (ho : o = 512 * c.val)
    (inb : ∀ y, k0_off1 i w y + S512x256.size y ≤ S7936x256.size y) (r : Fin 512) (j : Fin 256) (hr : o + r.val < 4096) :
    View.readAt (Elt Ideal) b.view (Rect.unit (s := S7936x256) (k0_off1 i w) S512x256.size inb).toLoadRect (h.unread x) (ix2 r j)
      = x (ix2 ⟨start i + (o + r.val), by unfold start; omega⟩ j) := by
  subst hw ho
  have e := off_at i c
  have hs : start i + 512 * c.val + r.val < 7936 := by unfold start; omega
  rw [View.readAt_eq_ld, h.read_unread]
  refine (ld_bias x inb rfl r j (by omega)).trans ?_
  exact congrArg x (funext fun y => Fin.ext (by
    fin_cases y
    · show k0_off1 i (BitVec.ofNat 32 (512 * c.val)) 0 + r.val = start i + (512 * c.val + r.val); omega
    · rfl))

/-- A block of queries, loaded and stacked. -/
theorem stacked_at {b : Memref sig .tc .vmem S1x256x128 .bf16} (h : b.IsWhole) (x : Vec Ideal S1x256x128 .bf16)
    (inb : ∀ y, (![0, 0, 0] : Fin 3 → ℕ) y + S1x256x128.size y ≤ S1x256x128.size y) (j : Fin 512) (d : Fin 128) :
    concatenate (α := Ideal .bf16) S512x128 0 [⟨S256x128, select (cmpi .slt (iota .tc S256x128 32 [1] iota_S256x128_d1_w32) (broadcast S256x128 64#32))
      (shapeCast S256x128 (View.readAt (Elt Ideal) b.view (Rect.unit (s := S1x256x128) ![0, 0, 0] S1x256x128.size inb).toLoadRect (h.unread x)) shapeCasts_S1x256x128_S256x128) (broadcast S256x128 (Scalar.ofBits (F := Ideal) .bf16 0x0000#16))⟩,
      ⟨S256x128, select (cmpi .sge (iota .tc S256x128 32 [1] iota_S256x128_d1_w32) (broadcast S256x128 64#32))
      (shapeCast S256x128 (View.readAt (Elt Ideal) b.view (Rect.unit (s := S1x256x128) ![0, 0, 0] S1x256x128.size inb).toLoadRect (h.unread x)) shapeCasts_S1x256x128_S256x128) (broadcast S256x128 (Scalar.ofBits (F := Ideal) .bf16 0x0000#16))⟩]
      concatenates_S256x128_S256x128_S512x128_d0 (ix2 j d) = stack (fun r d => x (ix3 0 r d)) j d := by
  rw [ld_whole h x hz3]
  exact stacked x j d

/-! ### The first point of a head: what it loads, it has just stored -/

theorem tile_cov {v : View sig .tc .vmem S2x4096x512 .f32} {L : List (View.Piece (Elt Ideal) S2x4096x512 .f32)} {G : Fin 4096 → Fin 512 → EReal} {s' : Fin 2}
    (h : Filled3 v v.junk s' 4096 L G) {s o : ℕ} (hs : s'.val = s) (inb : ∀ y, (![s, o, 0] : Fin 3 → ℕ) y + S1x32x512.size y ≤ S2x4096x512.size y) :
    Tile (shapeCast S32x512 (v.readCov L (Rect.unit (s := S2x4096x512) ![s, o, 0] S1x32x512.size inb).toLoadRect) shapeCasts_S1x32x512_S32x512) G o := by
  intro r j hr
  exact (tile_ld (inb := inb) (f := v.read (Elt Ideal) (v.writes (Elt Ideal) v.junk L)) s' hs rfl r j hr).trans (h _ _ hr)

/-- The values with their features as rows, ones in row 128 and zeros below. -/
def valueRows (x : Vec Ideal S1x4096x128 .bf16) (r : Fin 144) (k : Fin 4096) : EReal :=
  if h : r.val < 128 then x (ix3 0 k ⟨r.val, h⟩) else if r.val = 128 then 1 else 0

theorem pay2_at (x : Vec Ideal S1x4096x128 .bf16) (r : Fin 128) (k : Fin 4096) : k0_pay2 (F := Ideal) x (ix2 r k) = x (ix3 0 k r) := by
  pointwise [k0_pay2]

theorem pay3_at (r : Fin 16) (k : Fin 4096) : k0_pay3 (F := Ideal) (ix2 r k) = if r.val = 0 then 1 else 0 := by
  have h1 : ∀ r : Fin 16, IntOp.cmpi CmpIPredicate.eq (BitVec.ofNat 32 r.val) 0#32 = if r.val = 0 then 1#1 else 0#1 := by decide
  have e : k0_pay3 (F := Ideal) (ix2 r k) = Scalar.select (IntOp.cmpi CmpIPredicate.eq (BitVec.ofNat 32 r.val) 0#32) (1 : EReal) 0 := by
    pointwise [k0_pay3]
  rw [e, h1]
  split <;> rfl

theorem values_canon (x : Vec Ideal S1x4096x128 .bf16) {inb1 : ∀ y, (![128, 0] : Fin 2 → ℕ) y + S16x4096.size y ≤ S144x4096.size y}
    {inb0 : ∀ y, (![0, 0] : Fin 2 → ℕ) y + S128x4096.size y ≤ S144x4096.size y} (r : Fin 144) (k : Fin 4096) :
    View.canon [(⟨Rect.unit ![128, 0] S16x4096.size inb1, k0_pay3 (F := Ideal)⟩ : View.Piece (Elt Ideal) S144x4096 .bf16),
      ⟨Rect.unit ![0, 0] S128x4096.size inb0, k0_pay2 (F := Ideal) x⟩] (ix2 r k) = valueRows x r k := by
  unfold valueRows
  by_cases hr : r.val < 128
  · have e : ix2 r k = (Rect.unit (s := S144x4096) ![0, 0] S128x4096.size inb0).emb (ix2 ⟨r.val, hr⟩ k) := by
      funext y
      fin_cases y
      · exact Fin.ext (by show r.val = 0 + 1 * r.val; omega)
      · exact Fin.ext (by show k.val = 0 + 1 * k.val; omega)
    rw [dif_pos hr, View.canon_cons_of_not_mem, e, View.canon_cons_emb, pay2_at]
    intro hm
    obtain ⟨y, hy⟩ := (Rect.unit (s := S144x4096) ![128, 0] S16x4096.size inb1).exists_idx_of_mem hm
    have := congrArg (fun z : S144x4096.Idx => (z 0).val) hy
    have h3 : 128 + 1 * (y 0).val = r.val := this
    omega
  · have e : ix2 r k = (Rect.unit (s := S144x4096) ![128, 0] S16x4096.size inb1).emb (ix2 ⟨r.val - 128, by omega⟩ k) := by
      funext y
      fin_cases y
      · exact Fin.ext (by show r.val = 128 + 1 * (r.val - 128); omega)
      · exact Fin.ext (by show k.val = 0 + 1 * k.val; omega)
    rw [dif_neg hr, e, View.canon_cons_emb, pay3_at]
    exact if_congr (show r.val - 128 = 0 ↔ r.val = 128 by omega) rfl rfl

/-- The values' rows, just stored from a load of the whole block. -/
theorem values_stored {b : Memref sig .tc .vmem S1x4096x128 .bf16} (hb : b.IsWhole) (x : Vec Ideal S1x4096x128 .bf16)
    {inb1 : ∀ y, (![128, 0] : Fin 2 → ℕ) y + S16x4096.size y ≤ S144x4096.size y} {inb0 : ∀ y, (![0, 0] : Fin 2 → ℕ) y + S128x4096.size y ≤ S144x4096.size y}
    {inbx : ∀ y, (![0, 0, 0] : Fin 3 → ℕ) y + S1x4096x128.size y ≤ S1x4096x128.size y} {L : List (View.Piece (Elt Ideal) S144x4096 .bf16)}
    (hL : L = [⟨Rect.unit ![128, 0] S16x4096.size inb1, k0_pay3 (F := Ideal)⟩,
      ⟨Rect.unit ![0, 0] S128x4096.size inb0, k0_pay2 (F := Ideal) (View.readAt (Elt Ideal) b.view (Rect.unit (s := S1x4096x128) ![0, 0, 0] S1x4096x128.size inbx).toLoadRect (hb.unread x))⟩])
    (r : Fin 144) (k : Fin 4096) : View.canon L (ix2 r k) = valueRows x r k := by
  rw [hL, ld_whole hb x hz3]
  exact values_canon x r _

/-- A quarter of the columns of the values, just stored. -/
theorem values_cov {v : View sig .tc .vmem S144x4096 .bf16} {b : Memref sig .tc .vmem S1x4096x128 .bf16} (hb : b.IsWhole) (x : Vec Ideal S1x4096x128 .bf16)
    {inb1 : ∀ y, (![128, 0] : Fin 2 → ℕ) y + S16x4096.size y ≤ S144x4096.size y} {inb0 : ∀ y, (![0, 0] : Fin 2 → ℕ) y + S128x4096.size y ≤ S144x4096.size y}
    {inbx : ∀ y, (![0, 0, 0] : Fin 3 → ℕ) y + S1x4096x128.size y ≤ S1x4096x128.size y} {L : List (View.Piece (Elt Ideal) S144x4096 .bf16)}
    (hL : L = [⟨Rect.unit ![128, 0] S16x4096.size inb1, k0_pay3 (F := Ideal)⟩,
      ⟨Rect.unit ![0, 0] S128x4096.size inb0, k0_pay2 (F := Ideal) (View.readAt (Elt Ideal) b.view (Rect.unit (s := S1x4096x128) ![0, 0, 0] S1x4096x128.size inbx).toLoadRect (hb.unread x))⟩])
    {a : ℕ} (inb : ∀ y, (![0, a] : Fin 2 → ℕ) y + S144x1024.size y ≤ S144x4096.size y) (r : Fin 144) (k : Fin 1024) (hk : a + k.val < 4096) :
    v.readCov L (Rect.unit (s := S144x4096) ![0, a] S144x1024.size inb).toLoadRect (ix2 r k) = valueRows x r ⟨a + k.val, hk⟩ := by
  rw [View.readCov_eq_canon']
  exact (ld_values (View.canon L) inb r k hk).trans (values_stored hb x hL r _)

/-- Biases of 512 keys for the first block of queries, from the table just stored. -/
theorem bias_first {v : View sig .tc .vmem S7936x256 .f32} {w : Vec Ideal S7936x256 .f32} {L : List (View.Piece (Elt Ideal) S7936x256 .f32)}
    {inb0 : ∀ y, (![0, 0] : Fin 2 → ℕ) y + S7936x256.size y ≤ S7936x256.size y} (hL : L = [⟨Rect.unit ![0, 0] S7936x256.size inb0, w⟩]) {o p : ℕ} (hp : p = 3840 + o)
    (inb : ∀ y, (![p, 0] : Fin 2 → ℕ) y + S512x256.size y ≤ S7936x256.size y) (r : Fin 512) (j : Fin 256) (hr : o + r.val < 4096) :
    v.readCov L (Rect.unit (s := S7936x256) ![p, 0] S512x256.size inb).toLoadRect (ix2 r j) = w (ix2 ⟨3840 + (o + r.val), by omega⟩ j) := by
  subst hp
  rw [View.readCov_eq_canon', hL, View.canon_unit_zero (S := S7936x256) hz2]
  refine (ld_bias w inb rfl r j (by show 3840 + o + r.val < 7936; omega)).trans ?_
  exact congrArg w (funext fun y => Fin.ext (by
    fin_cases y
    · show 3840 + o + r.val = 3840 + (o + r.val); omega
    · rfl))

/-- Biases of 512 keys for the second block of queries, from the table just stored. -/
theorem bias_next {v : View sig .tc .vmem S7936x256 .f32} {w : Vec Ideal S7936x256 .f32} {L : List (View.Piece (Elt Ideal) S7936x256 .f32)}
    {inb0 : ∀ y, (![0, 0] : Fin 2 → ℕ) y + S7936x256.size y ≤ S7936x256.size y} (hL : L = [⟨Rect.unit ![0, 0] S7936x256.size inb0, w⟩])
    (i : grid0.Coords) (c : Fin 8) {z : BitVec 32} {o : ℕ} (hw : z = BitVec.ofNat 32 (512 * c.val)) (ho : o = 512 * c.val)
    (inb : ∀ y, k0_off1 i z y + S512x256.size y ≤ S7936x256.size y) (r : Fin 512) (j : Fin 256) (hr : o + r.val < 4096) :
    View.readAt (Elt Ideal) v (Rect.unit (s := S7936x256) (k0_off1 i z) S512x256.size inb).toLoadRect (v.writes (Elt Ideal) v.junk L) (ix2 r j)
      = w (ix2 ⟨start i + (o + r.val), by unfold start; omega⟩ j) := by
  subst hw ho
  have e := off_at i c
  have hs : start i + 512 * c.val + r.val < 7936 := by unfold start; omega
  rw [View.readAt_eq_ld, View.read_writes_junk_eq_canon, hL, View.canon_unit_zero (S := S7936x256) hz2]
  refine (ld_bias w inb rfl r j (by omega)).trans ?_
  exact congrArg w (funext fun y => Fin.ext (by
    fin_cases y
    · show k0_off1 i (BitVec.ofNat 32 (512 * c.val)) 0 + r.val = start i + (512 * c.val + r.val); omega
    · rfl))

end Cert.AttnIdeal.Blocks
-- ==== Proof.AttnStepA.lean ====
module

public import proofs.«01_k».proof.Proof.Gen.AttnIdeal.Frame
public import proofs.«01_k».proof.Proof.AttnBlocks

@[expose] public section

set_option maxRecDepth 65536
set_option maxHeartbeats 4000000

noncomputable section

/-! What the attention kernel's body leaves at the first block of queries of a head: the table of biases, the values' rows, the block's output out of the scores
    it has put in slot 0, and the next block's scores in slot 1. -/
namespace Cert.AttnIdeal.Blocks

open Cert.AttnIdeal Cert.AttnIdeal.Gen Cert.Proof.Attn Idealize.ShloMosaic Idealize.ShloMosaic.TcCoe Idealize.SL.Sem

/-- The table of biases of a head. -/
def table (i : grid0.Coords) : Vec Ideal S7936x256 .f32 := k0_pay1 (F := Ideal) (BitVec.ofNat 32 (i 1).val)

/-- The scores of the first block of queries. -/
def first (x0 : Vec Ideal S1x256x128 .bf16) (x2 : Vec Ideal S1x4096x128 .bf16) (i : grid0.Coords) : Fin 4096 → Fin 512 → EReal :=
  score (fun k d => x2 (ix3 0 k d)) (fun r d => x0 (ix3 0 r d)) (fun k q => table i (ix2 ⟨3840 + k.val, by omega⟩ q))

variable (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S7936x256 .f32) (harg13 : arg13.IsWhole) (arg14 : Memref sig .tc .vmem S144x4096 .bf16) (harg14 : arg14.IsWhole) (arg15 : Memref sig .tc .vmem S2x4096x512 .f32) (harg15 : arg15.IsWhole) (arg16 : Memref sig .tc .vmem S4096x512 .bf16) (harg16 : arg16.IsWhole) (hc0 : cond0_0 i) (hc1 : cond0_1 i) (hc2 : ¬cond0_2 i)
    (x0 : Vec Ideal S1x256x128 .bf16) (x1 : Vec Ideal S1x256x128 .bf16) (x2 : Vec Ideal S1x4096x128 .bf16) (x3 : Vec Ideal S1x4096x128 .bf16) (x4 : Vec Ideal S1x64 .f32) (x5 : Vec Ideal S1x64 .f32) (x6 : Vec Ideal S1x64 .f32) (x7 : Vec Ideal S1x64 .f32) (x8 : Vec Ideal S1x128 .f32)

theorem filled_A (v : View sig .tc .vmem S2x4096x512 .f32) (f : v.ty.Contents (Elt Ideal)) : Filled3 v f 0 4096 (kernelRun0_A.sl.HS2_9 (F := Ideal) c i arg3 harg3 arg4 harg4 arg5 harg5 arg13 hc1 x0 x1 x2) (first x0 x2 i) := by
  refine filled3_skip (u := 1) (by decide) ?_
  refine filled3_step (s := 0) (o := 3584) rfl (chunk_score (stacked_at harg3 x0 _) (ld_keys harg5 x2 _) (bias_first (w := table i) rfl rfl _)) ?_
  refine filled3_step (s := 0) (o := 3072) rfl (chunk_score (stacked_at harg3 x0 _) (ld_keys harg5 x2 _) (bias_first (w := table i) rfl rfl _)) ?_
  refine filled3_step (s := 0) (o := 2560) rfl (chunk_score (stacked_at harg3 x0 _) (ld_keys harg5 x2 _) (bias_first (w := table i) rfl rfl _)) ?_
  refine filled3_step (s := 0) (o := 2048) rfl (chunk_score (stacked_at harg3 x0 _) (ld_keys harg5 x2 _) (bias_first (w := table i) rfl rfl _)) ?_
  refine filled3_step (s := 0) (o := 1536) rfl (chunk_score (stacked_at harg3 x0 _) (ld_keys harg5 x2 _) (bias_first (w := table i) rfl rfl _)) ?_
  refine filled3_step (s := 0) (o := 1024) rfl (chunk_score (stacked_at harg3 x0 _) (ld_keys harg5 x2 _) (bias_first (w := table i) rfl rfl _)) ?_
  refine filled3_step (s := 0) (o := 512) rfl (chunk_score (stacked_at harg3 x0 _) (ld_keys harg5 x2 _) (bias_first (w := table i) rfl rfl _)) ?_
  refine filled3_step (s := 0) (o := 0) rfl (chunk_score (stacked_at harg3 x0 _) (ld_keys harg5 x2 _) (bias_first (w := table i) rfl rfl _)) ?_
  exact filled3_start _ _

/-- Each column's maximum is a real number. -/
theorem max_A (hT : ∀ k j, ∃ r : ℝ, first x0 x2 i k j = r) : Num (s := S1x512) (kernelRun0_A.sl.v1398 (F := Ideal) c i arg3 harg3 arg4 harg4 arg5 harg5 arg13 arg15 hc1 x0 x1 x2) := by
  have g9 : Filled3 arg15.view arg15.view.junk 0 4096 (kernelRun0_A.sl.HS2_9 (F := Ideal) c i arg3 harg3 arg4 harg4 arg5 harg5 arg13 hc1 x0 x1 x2) (first x0 x2 i) := filled_A _ _ _ _ _ _ _ _ _ _ _ _ _ _ _
  have g10 : Filled3 arg15.view arg15.view.junk 0 4096 (kernelRun0_A.sl.HS2_10 (F := Ideal) c i arg3 harg3 arg4 harg4 arg5 harg5 arg13 hc1 x0 x1 x2) (first x0 x2 i) := filled3_skip (u := 1) (by decide) g9
  have g11 : Filled3 arg15.view arg15.view.junk 0 4096 (kernelRun0_A.sl.HS2_11 (F := Ideal) c i arg3 harg3 arg4 harg4 arg5 harg5 arg13 hc1 x0 x1 x2) (first x0 x2 i) := filled3_skip (u := 1) (by decide) g10
  have g12 : Filled3 arg15.view arg15.view.junk 0 4096 (kernelRun0_A.sl.HS2_12 (F := Ideal) c i arg3 harg3 arg4 harg4 arg5 harg5 arg13 hc1 x0 x1 x2) (first x0 x2 i) := filled3_skip (u := 1) (by decide) g11
  have g13 : Filled3 arg15.view arg15.view.junk 0 4096 (kernelRun0_A.sl.HS2_13 (F := Ideal) c i arg3 harg3 arg4 harg4 arg5 harg5 arg13 hc1 x0 x1 x2) (first x0 x2 i) := filled3_skip (u := 1) (by decide) g12
  have g14 : Filled3 arg15.view arg15.view.junk 0 4096 (kernelRun0_A.sl.HS2_14 (F := Ideal) c i arg3 harg3 arg4 harg4 arg5 harg5 arg13 hc1 x0 x1 x2) (first x0 x2 i) := filled3_skip (u := 1) (by decide) g13
  have g15 : Filled3 arg15.view arg15.view.junk 0 4096 (kernelRun0_A.sl.HS2_15 (F := Ideal) c i arg3 harg3 arg4 harg4 arg5 harg5 arg13 hc1 x0 x1 x2) (first x0 x2 i) := filled3_skip (u := 1) (by decide) g14
  have g16 : Filled3 arg15.view arg15.view.junk 0 4096 (kernelRun0_A.sl.HS2_16 (F := Ideal) c i arg3 harg3 arg4 harg4 arg5 harg5 arg13 hc1 x0 x1 x2) (first x0 x2 i) := filled3_skip (u := 1) (by decide) g15
  refine num_rows ?_
  iterate 127 refine num_next (num_tile (T := first x0 x2 i) (by norm_num) hT (tile_cov (s' := 0) (by with_reducible assumption) rfl _)) ?_
  exact num_first (num_tile (T := first x0 x2 i) (by norm_num) hT (tile_cov (s' := 0) (by with_reducible assumption) rfl _))

/-- The block of the output. -/
theorem out_A (hT : ∀ k j, ∃ r : ℝ, first x0 x2 i k j = r) : ∃ M : Fin 512 → EReal, (∀ j, ∃ r : ℝ, M j = r) ∧ ∀ q d,
    out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix3 0 q d)
      = norm (fun d => outT (k0_pay459 (F := Ideal) x4 x5 x6 x7 (ix2 0 0)) (fun r j => ∑ k : Fin 4096, valueRows x3 r k * Ideal.exp2 (first x0 x2 i k j - M j)) q d) d (x8 (ix2 0 d)) := by
  have g9 : Filled3 arg15.view arg15.view.junk 0 4096 (kernelRun0_A.sl.HS2_9 (F := Ideal) c i arg3 harg3 arg4 harg4 arg5 harg5 arg13 hc1 x0 x1 x2) (first x0 x2 i) := filled_A _ _ _ _ _ _ _ _ _ _ _ _ _ _ _
  have g10 : Filled3 arg15.view arg15.view.junk 0 4096 (kernelRun0_A.sl.HS2_10 (F := Ideal) c i arg3 harg3 arg4 harg4 arg5 harg5 arg13 hc1 x0 x1 x2) (first x0 x2 i) := filled3_skip (u := 1) (by decide) g9
  have g11 : Filled3 arg15.view arg15.view.junk 0 4096 (kernelRun0_A.sl.HS2_11 (F := Ideal) c i arg3 harg3 arg4 harg4 arg5 harg5 arg13 hc1 x0 x1 x2) (first x0 x2 i) := filled3_skip (u := 1) (by decide) g10
  have g12 : Filled3 arg15.view arg15.view.junk 0 4096 (kernelRun0_A.sl.HS2_12 (F := Ideal) c i arg3 harg3 arg4 harg4 arg5 harg5 arg13 hc1 x0 x1 x2) (first x0 x2 i) := filled3_skip (u := 1) (by decide) g11
  have g13 : Filled3 arg15.view arg15.view.junk 0 4096 (kernelRun0_A.sl.HS2_13 (F := Ideal) c i arg3 harg3 arg4 harg4 arg5 harg5 arg13 hc1 x0 x1 x2) (first x0 x2 i) := filled3_skip (u := 1) (by decide) g12
  have g14 : Filled3 arg15.view arg15.view.junk 0 4096 (kernelRun0_A.sl.HS2_14 (F := Ideal) c i arg3 harg3 arg4 harg4 arg5 harg5 arg13 hc1 x0 x1 x2) (first x0 x2 i) := filled3_skip (u := 1) (by decide) g13
  have g15 : Filled3 arg15.view arg15.view.junk 0 4096 (kernelRun0_A.sl.HS2_15 (F := Ideal) c i arg3 harg3 arg4 harg4 arg5 harg5 arg13 hc1 x0 x1 x2) (first x0 x2 i) := filled3_skip (u := 1) (by decide) g14
  have g16 : Filled3 arg15.view arg15.view.junk 0 4096 (kernelRun0_A.sl.HS2_16 (F := Ideal) c i arg3 harg3 arg4 harg4 arg5 harg5 arg13 hc1 x0 x1 x2) (first x0 x2 i) := filled3_skip (u := 1) (by decide) g15
  refine ⟨fun j => kernelRun0_A.sl.v1398 (F := Ideal) c i arg3 harg3 arg4 harg4 arg5 harg5 arg13 arg15 hc1 x0 x1 x2 (ix2 0 j), fun j => max_A _ _ _ _ _ _ _ _ _ _ _ _ _ _ hT _, fun q d => ?_⟩
  have h0 : Filled 0 (0 + 1024) (kernelRun0_A.sl.HS3_32 (F := Ideal) c i arg3 harg3 arg4 harg4 arg5 harg5 arg13 arg15 hc1 x0 x1 x2)
      (fun k j => Ideal.exp2 (first x0 x2 i k j - kernelRun0_A.sl.v1398 (F := Ideal) c i arg3 harg3 arg4 harg4 arg5 harg5 arg13 arg15 hc1 x0 x1 x2 (ix2 0 j))) := by
    iterate 32 refine filled_step rfl (weights (T := first x0 x2 i) (tile_cov (s' := 0) (by with_reducible assumption) rfl _)) ?_
    exact filled_start _ _ _
  have h1 : Filled 1024 (1024 + 1024) (kernelRun0_A.sl.HS3_64 (F := Ideal) c i arg3 harg3 arg4 harg4 arg5 harg5 arg13 arg15 hc1 x0 x1 x2)
      (fun k j => Ideal.exp2 (first x0 x2 i k j - kernelRun0_A.sl.v1398 (F := Ideal) c i arg3 harg3 arg4 harg4 arg5 harg5 arg13 arg15 hc1 x0 x1 x2 (ix2 0 j))) := by
    iterate 32 refine filled_step rfl (weights (T := first x0 x2 i) (tile_cov (s' := 0) (by with_reducible assumption) rfl _)) ?_
    exact filled_start _ _ _
  have h2 : Filled 2048 (2048 + 1024) (kernelRun0_A.sl.HS3_96 (F := Ideal) c i arg3 harg3 arg4 harg4 arg5 harg5 arg13 arg15 hc1 x0 x1 x2)
      (fun k j => Ideal.exp2 (first x0 x2 i k j - kernelRun0_A.sl.v1398 (F := Ideal) c i arg3 harg3 arg4 harg4 arg5 harg5 arg13 arg15 hc1 x0 x1 x2 (ix2 0 j))) := by
    iterate 32 refine filled_step rfl (weights (T := first x0 x2 i) (tile_cov (s' := 0) (by with_reducible assumption) rfl _)) ?_
    exact filled_start _ _ _
  have h3 : Filled 3072 (3072 + 1024) (kernelRun0_A.sl.HS3_128 (F := Ideal) c i arg3 harg3 arg4 harg4 arg5 harg5 arg13 arg15 hc1 x0 x1 x2)
      (fun k j => Ideal.exp2 (first x0 x2 i k j - kernelRun0_A.sl.v1398 (F := Ideal) c i arg3 harg3 arg4 harg4 arg5 harg5 arg13 arg15 hc1 x0 x1 x2 (ix2 0 j))) := by
    iterate 32 refine filled_step rfl (weights (T := first x0 x2 i) (tile_cov (s' := 0) (by with_reducible assumption) rfl _)) ?_
    exact filled_start _ _ _
  have hr : kernelRun0_A.sl.r (F := Ideal) c arg7 harg7 arg8 harg8 arg9 harg9 arg10 harg10 x4 x5 x6 x7 = k0_pay459 (F := Ideal) x4 x5 x6 x7 := by
    unfold kernelRun0_A.sl.r
    rw [ld_whole harg7 x4 hz2, ld_whole harg8 x5 hz2, ld_whole harg9 x6 hz2, ld_whole harg10 x7 hz2]
  unfold out0_A_9
  rw [View.read_writes_junk_eq_canon]
  refine (congrFun (View.canon_unit_zero (S := S1x256x128) hz3 _ _) _).trans ?_
  refine (outPay _ _ _ _ _ q d).trans ?_
  refine norm_congr (congrFun hr _) (fun r j => ?_) (congrFun (ld_whole harg11 x8 hz2 _) _) q d
  refine quarters (W := valueRows x3) (G := fun k j => Ideal.exp2 (first x0 x2 i k j - kernelRun0_A.sl.v1398 (F := Ideal) c i arg3 harg3 arg4 harg4 arg5 harg5 arg13 arg15 hc1 x0 x1 x2 (ix2 0 j)))
    (fun r k => (values_cov harg6 x3 rfl _ r k (by omega)).trans (congrArg (valueRows x3 r) (Fin.ext (Nat.zero_add _)))) (fun r k => values_cov harg6 x3 rfl _ r k _) (fun r k => values_cov harg6 x3 rfl _ r k _) (fun r k => values_cov harg6 x3 rfl _ r k _)
    (fun k j => (ld_weights h0 _ k j (by omega)).trans ?_) (fun k j => ld_weights h1 _ k j _) (fun k j => ld_weights h2 _ k j _) (fun k j => ld_weights h3 _ k j _) r j
  exact congrArg (fun z => Ideal.exp2 (first x0 x2 i z j - kernelRun0_A.sl.v1398 (F := Ideal) c i arg3 harg3 arg4 harg4 arg5 harg5 arg13 arg15 hc1 x0 x1 x2 (ix2 0 j))) (Fin.ext (Nat.zero_add _))

/-- The next block's scores. -/
theorem next_A (k : Fin 4096) (j : Fin 512) : sout0_A_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix3 1 k j)
    = score (fun k d => x2 (ix3 0 k d)) (fun r d => x1 (ix3 0 r d)) (fun k q => table i (ix2 ⟨start i + k.val, by unfold start; omega⟩ q)) k j := by
  have h : Filled3 VS0_2 VS0_2.junk 1 4096 (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8).2.2.2.1
      (score (fun k d => x2 (ix3 0 k d)) (fun r d => x1 (ix3 0 r d)) (fun k q => table i (ix2 ⟨start i + k.val, by unfold start; omega⟩ q))) := by
    refine filled3_step (s := 1) (o := 3584) rfl (chunk_score (stacked_at harg4 x1 _) (ld_keys harg5 x2 _) (bias_next (w := table i) rfl i 7 rfl rfl _)) ?_
    refine filled3_step (s := 1) (o := 3072) rfl (chunk_score (stacked_at harg4 x1 _) (ld_keys harg5 x2 _) (bias_next (w := table i) rfl i 6 rfl rfl _)) ?_
    refine filled3_step (s := 1) (o := 2560) rfl (chunk_score (stacked_at harg4 x1 _) (ld_keys harg5 x2 _) (bias_next (w := table i) rfl i 5 rfl rfl _)) ?_
    refine filled3_step (s := 1) (o := 2048) rfl (chunk_score (stacked_at harg4 x1 _) (ld_keys harg5 x2 _) (bias_next (w := table i) rfl i 4 rfl rfl _)) ?_
    refine filled3_step (s := 1) (o := 1536) rfl (chunk_score (stacked_at harg4 x1 _) (ld_keys harg5 x2 _) (bias_next (w := table i) rfl i 3 rfl rfl _)) ?_
    refine filled3_step (s := 1) (o := 1024) rfl (chunk_score (stacked_at harg4 x1 _) (ld_keys harg5 x2 _) (bias_next (w := table i) rfl i 2 rfl rfl _)) ?_
    refine filled3_step (s := 1) (o := 512) rfl (chunk_score (stacked_at harg4 x1 _) (ld_keys harg5 x2 _) (bias_next (w := table i) rfl i 1 rfl rfl _)) ?_
    refine filled3_step (s := 1) (o := 0) rfl (chunk_score (stacked_at harg4 x1 _) (ld_keys harg5 x2 _) (bias_next (w := table i) rfl i 0 rfl rfl _)) ?_
    exact filled3_start _ _
  exact h k j k.isLt

/-- The table of biases. -/
theorem table_A : sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 = table i := by
  unfold sout0_A_0
  rw [View.read_writes_junk_eq_canon]
  exact View.canon_unit_zero (S := S7936x256) hz2 _ _

/-- The values' rows. -/
theorem values_A (r : Fin 144) (k : Fin 4096) : sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix2 r k) = valueRows x3 r k := by
  unfold sout0_A_1
  rw [View.read_writes_junk_eq_canon]
  exact values_stored harg6 x3 rfl r k

end Cert.AttnIdeal.Blocks
-- ==== Proof.AttnStepB.lean ====
module

public import proofs.«01_k».proof.Proof.Gen.AttnIdeal.Frame
public import proofs.«01_k».proof.Proof.AttnBlocks

@[expose] public section

set_option maxRecDepth 65536
set_option maxHeartbeats 4000000

noncomputable section

/-! What the attention kernel's body leaves at a point of an odd block of queries: the block's output out of the scores in slot 1, and the
    next block's scores in slot 0. -/
namespace Cert.AttnIdeal.Blocks

open Cert.AttnIdeal Cert.AttnIdeal.Gen Cert.Proof.Attn Idealize.ShloMosaic Idealize.ShloMosaic.TcCoe Idealize.SL.Sem

variable (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S7936x256 .f32) (harg13 : arg13.IsWhole) (arg14 : Memref sig .tc .vmem S144x4096 .bf16) (harg14 : arg14.IsWhole) (arg15 : Memref sig .tc .vmem S2x4096x512 .f32) (harg15 : arg15.IsWhole) (arg16 : Memref sig .tc .vmem S4096x512 .bf16) (harg16 : arg16.IsWhole) (hc0 : ¬cond0_0 i) (hc1 : ¬cond0_1 i) (hc2 : cond0_2 i)
    (x0 : Vec Ideal S1x256x128 .bf16) (x1 : Vec Ideal S1x256x128 .bf16) (x2 : Vec Ideal S1x4096x128 .bf16) (x3 : Vec Ideal S1x4096x128 .bf16) (x4 : Vec Ideal S1x64 .f32) (x5 : Vec Ideal S1x64 .f32) (x6 : Vec Ideal S1x64 .f32) (x7 : Vec Ideal S1x64 .f32) (x8 : Vec Ideal S1x128 .f32) (xs0 : Vec Ideal S7936x256 .f32) (xs1 : Vec Ideal S144x4096 .bf16) (xs2 : Vec Ideal S2x4096x512 .f32)

/-- Each column's maximum is a real number. -/
theorem max_B (hT : ∀ k j, ∃ r : ℝ, xs2 (ix3 1 k j) = r) : Num (s := S1x512) (kernelRun0_B.sl.v1398 (F := Ideal) c arg15 harg15 xs2) := by
  refine num_rows ?_
  iterate 127 refine num_next (num_tile (T := fun k j => xs2 (ix3 1 k j)) (by norm_num) hT (tile_at harg15 xs2 1 rfl _)) ?_
  exact num_first (num_tile (T := fun k j => xs2 (ix3 1 k j)) (by norm_num) hT (tile_at harg15 xs2 1 rfl _))

/-- The block of the output. -/
theorem out_B (hT : ∀ k j, ∃ r : ℝ, xs2 (ix3 1 k j) = r) : ∃ M : Fin 512 → EReal, (∀ j, ∃ r : ℝ, M j = r) ∧ ∀ q d,
    out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 (ix3 0 q d)
      = norm (fun d => outT (k0_pay459 (F := Ideal) x4 x5 x6 x7 (ix2 0 0)) (fun r j => ∑ k : Fin 4096, xs1 (ix2 r k) * Ideal.exp2 (xs2 (ix3 1 k j) - M j)) q d) d (x8 (ix2 0 d)) := by
  refine ⟨fun j => kernelRun0_B.sl.v1398 (F := Ideal) c arg15 harg15 xs2 (ix2 0 j), fun j => max_B c arg15 harg15 xs2 hT _, fun q d => ?_⟩
  have h0 : Filled 0 (0 + 1024) (kernelRun0_B.sl.HS3_32 (F := Ideal) c arg15 harg15 xs2)
      (fun k j => Ideal.exp2 (xs2 (ix3 1 k j) - kernelRun0_B.sl.v1398 (F := Ideal) c arg15 harg15 xs2 (ix2 0 j))) := by
    iterate 32 refine filled_step rfl (weights (T := fun k j => xs2 (ix3 1 k j)) (tile_at harg15 xs2 1 rfl _)) ?_
    exact filled_start _ _ _
  have h1 : Filled 1024 (1024 + 1024) (kernelRun0_B.sl.HS3_64 (F := Ideal) c arg15 harg15 xs2)
      (fun k j => Ideal.exp2 (xs2 (ix3 1 k j) - kernelRun0_B.sl.v1398 (F := Ideal) c arg15 harg15 xs2 (ix2 0 j))) := by
    iterate 32 refine filled_step rfl (weights (T := fun k j => xs2 (ix3 1 k j)) (tile_at harg15 xs2 1 rfl _)) ?_
    exact filled_start _ _ _
  have h2 : Filled 2048 (2048 + 1024) (kernelRun0_B.sl.HS3_96 (F := Ideal) c arg15 harg15 xs2)
      (fun k j => Ideal.exp2 (xs2 (ix3 1 k j) - kernelRun0_B.sl.v1398 (F := Ideal) c arg15 harg15 xs2 (ix2 0 j))) := by
    iterate 32 refine filled_step rfl (weights (T := fun k j => xs2 (ix3 1 k j)) (tile_at harg15 xs2 1 rfl _)) ?_
    exact filled_start _ _ _
  have h3 : Filled 3072 (3072 + 1024) (kernelRun0_B.sl.HS3_128 (F := Ideal) c arg15 harg15 xs2)
      (fun k j => Ideal.exp2 (xs2 (ix3 1 k j) - kernelRun0_B.sl.v1398 (F := Ideal) c arg15 harg15 xs2 (ix2 0 j))) := by
    iterate 32 refine filled_step rfl (weights (T := fun k j => xs2 (ix3 1 k j)) (tile_at harg15 xs2 1 rfl _)) ?_
    exact filled_start _ _ _
  have hr : kernelRun0_B.sl.r (F := Ideal) c arg7 harg7 arg8 harg8 arg9 harg9 arg10 harg10 x4 x5 x6 x7 = k0_pay459 (F := Ideal) x4 x5 x6 x7 := by
    unfold kernelRun0_B.sl.r
    rw [ld_whole harg7 x4 hz2, ld_whole harg8 x5 hz2, ld_whole harg9 x6 hz2, ld_whole harg10 x7 hz2]
  unfold out0_B_9
  rw [View.read_writes_junk_eq_canon]
  refine (congrFun (View.canon_unit_zero (S := S1x256x128) hz3 _ _) _).trans ?_
  refine (outPay' _ _ _ _ _ q d).trans ?_
  refine norm_congr (congrFun hr _) (fun r j => ?_) (congrFun (ld_whole harg11 x8 hz2 _) _) q d
  refine quarters (W := fun r k => xs1 (ix2 r k)) (G := fun k j => Ideal.exp2 (xs2 (ix3 1 k j) - kernelRun0_B.sl.v1398 (F := Ideal) c arg15 harg15 xs2 (ix2 0 j)))
    (fun r k => (values_at harg14 xs1 _ r k (by omega)).trans (congrArg (fun z => xs1 (ix2 r z)) (Fin.ext (Nat.zero_add _)))) (fun r k => values_at harg14 xs1 _ r k _) (fun r k => values_at harg14 xs1 _ r k _) (fun r k => values_at harg14 xs1 _ r k _)
    (fun k j => (ld_weights h0 _ k j (by omega)).trans ?_) (fun k j => ld_weights h1 _ k j _) (fun k j => ld_weights h2 _ k j _) (fun k j => ld_weights h3 _ k j _) r j
  exact congrArg (fun z => Ideal.exp2 (xs2 (ix3 1 z j) - kernelRun0_B.sl.v1398 (F := Ideal) c arg15 harg15 xs2 (ix2 0 j))) (Fin.ext (Nat.zero_add _))

/-- The next block's scores. -/
theorem next_B (k : Fin 4096) (j : Fin 512) : sout0_B_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 (ix3 0 k j)
    = score (fun k d => x2 (ix3 0 k d)) (fun r d => x1 (ix3 0 r d)) (fun k q => xs0 (ix2 ⟨start i + k.val, by unfold start; omega⟩ q)) k j := by
  have h : Filled3 arg15.view (harg15.unread xs2) 0 4096 (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2).2.2.2.1
      (score (fun k d => x2 (ix3 0 k d)) (fun r d => x1 (ix3 0 r d)) (fun k q => xs0 (ix2 ⟨start i + k.val, by unfold start; omega⟩ q))) := by
    refine filled3_step (s := 0) (o := 3584) rfl (chunk_score (stacked_at harg4 x1 _) (ld_keys harg5 x2 _) (bias_at harg13 xs0 i 7 rfl rfl _)) ?_
    refine filled3_step (s := 0) (o := 3072) rfl (chunk_score (stacked_at harg4 x1 _) (ld_keys harg5 x2 _) (bias_at harg13 xs0 i 6 rfl rfl _)) ?_
    refine filled3_step (s := 0) (o := 2560) rfl (chunk_score (stacked_at harg4 x1 _) (ld_keys harg5 x2 _) (bias_at harg13 xs0 i 5 rfl rfl _)) ?_
    refine filled3_step (s := 0) (o := 2048) rfl (chunk_score (stacked_at harg4 x1 _) (ld_keys harg5 x2 _) (bias_at harg13 xs0 i 4 rfl rfl _)) ?_
    refine filled3_step (s := 0) (o := 1536) rfl (chunk_score (stacked_at harg4 x1 _) (ld_keys harg5 x2 _) (bias_at harg13 xs0 i 3 rfl rfl _)) ?_
    refine filled3_step (s := 0) (o := 1024) rfl (chunk_score (stacked_at harg4 x1 _) (ld_keys harg5 x2 _) (bias_at harg13 xs0 i 2 rfl rfl _)) ?_
    refine filled3_step (s := 0) (o := 512) rfl (chunk_score (stacked_at harg4 x1 _) (ld_keys harg5 x2 _) (bias_at harg13 xs0 i 1 rfl rfl _)) ?_
    refine filled3_step (s := 0) (o := 0) rfl (chunk_score (stacked_at harg4 x1 _) (ld_keys harg5 x2 _) (bias_at harg13 xs0 i 0 rfl rfl _)) ?_
    exact filled3_start _ _
  exact h k j k.isLt

/-- The table of biases stays. -/
theorem same_B : sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = xs0 := rfl

/-- The values stay. -/
theorem stay_B : sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = xs1 := rfl

end Cert.AttnIdeal.Blocks
-- ==== Proof.AttnStepC.lean ====
module

public import proofs.«01_k».proof.Proof.Gen.AttnIdeal.Frame
public import proofs.«01_k».proof.Proof.AttnBlocks

@[expose] public section

set_option maxRecDepth 65536
set_option maxHeartbeats 4000000

noncomputable section

/-! What the attention kernel's body leaves at a point of an even block of queries: the block's output out of the scores in slot 0, and the
    next block's scores in slot 1. -/
namespace Cert.AttnIdeal.Blocks

open Cert.AttnIdeal Cert.AttnIdeal.Gen Cert.Proof.Attn Idealize.ShloMosaic Idealize.ShloMosaic.TcCoe Idealize.SL.Sem

variable (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .bf16) (harg12 : arg12.IsWhole) (arg13 : Memref sig .tc .vmem S7936x256 .f32) (harg13 : arg13.IsWhole) (arg14 : Memref sig .tc .vmem S144x4096 .bf16) (harg14 : arg14.IsWhole) (arg15 : Memref sig .tc .vmem S2x4096x512 .f32) (harg15 : arg15.IsWhole) (arg16 : Memref sig .tc .vmem S4096x512 .bf16) (harg16 : arg16.IsWhole) (hc0 : ¬cond0_0 i) (hc1 : cond0_1 i) (hc2 : ¬cond0_2 i)
    (x0 : Vec Ideal S1x256x128 .bf16) (x1 : Vec Ideal S1x256x128 .bf16) (x2 : Vec Ideal S1x4096x128 .bf16) (x3 : Vec Ideal S1x4096x128 .bf16) (x4 : Vec Ideal S1x64 .f32) (x5 : Vec Ideal S1x64 .f32) (x6 : Vec Ideal S1x64 .f32) (x7 : Vec Ideal S1x64 .f32) (x8 : Vec Ideal S1x128 .f32) (xs0 : Vec Ideal S7936x256 .f32) (xs1 : Vec Ideal S144x4096 .bf16) (xs2 : Vec Ideal S2x4096x512 .f32)

/-- Each column's maximum is a real number. -/
theorem max_C (hT : ∀ k j, ∃ r : ℝ, xs2 (ix3 0 k j) = r) : Num (s := S1x512) (kernelRun0_C.sl.v1398 (F := Ideal) c arg15 harg15 xs2) := by
  refine num_rows ?_
  iterate 127 refine num_next (num_tile (T := fun k j => xs2 (ix3 0 k j)) (by norm_num) hT (tile_at harg15 xs2 0 rfl _)) ?_
  exact num_first (num_tile (T := fun k j => xs2 (ix3 0 k j)) (by norm_num) hT (tile_at harg15 xs2 0 rfl _))

/-- The block of the output. -/
theorem out_C (hT : ∀ k j, ∃ r : ℝ, xs2 (ix3 0 k j) = r) : ∃ M : Fin 512 → EReal, (∀ j, ∃ r : ℝ, M j = r) ∧ ∀ q d,
    out0_C_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 (ix3 0 q d)
      = norm (fun d => outT (k0_pay459 (F := Ideal) x4 x5 x6 x7 (ix2 0 0)) (fun r j => ∑ k : Fin 4096, xs1 (ix2 r k) * Ideal.exp2 (xs2 (ix3 0 k j) - M j)) q d) d (x8 (ix2 0 d)) := by
  refine ⟨fun j => kernelRun0_C.sl.v1398 (F := Ideal) c arg15 harg15 xs2 (ix2 0 j), fun j => max_C c arg15 harg15 xs2 hT _, fun q d => ?_⟩
  have h0 : Filled 0 (0 + 1024) (kernelRun0_C.sl.HS3_32 (F := Ideal) c arg15 harg15 xs2)
      (fun k j => Ideal.exp2 (xs2 (ix3 0 k j) - kernelRun0_C.sl.v1398 (F := Ideal) c arg15 harg15 xs2 (ix2 0 j))) := by
    iterate 32 refine filled_step rfl (weights (T := fun k j => xs2 (ix3 0 k j)) (tile_at harg15 xs2 0 rfl _)) ?_
    exact filled_start _ _ _
  have h1 : Filled 1024 (1024 + 1024) (kernelRun0_C.sl.HS3_64 (F := Ideal) c arg15 harg15 xs2)
      (fun k j => Ideal.exp2 (xs2 (ix3 0 k j) - kernelRun0_C.sl.v1398 (F := Ideal) c arg15 harg15 xs2 (ix2 0 j))) := by
    iterate 32 refine filled_step rfl (weights (T := fun k j => xs2 (ix3 0 k j)) (tile_at harg15 xs2 0 rfl _)) ?_
    exact filled_start _ _ _
  have h2 : Filled 2048 (2048 + 1024) (kernelRun0_C.sl.HS3_96 (F := Ideal) c arg15 harg15 xs2)
      (fun k j => Ideal.exp2 (xs2 (ix3 0 k j) - kernelRun0_C.sl.v1398 (F := Ideal) c arg15 harg15 xs2 (ix2 0 j))) := by
    iterate 32 refine filled_step rfl (weights (T := fun k j => xs2 (ix3 0 k j)) (tile_at harg15 xs2 0 rfl _)) ?_
    exact filled_start _ _ _
  have h3 : Filled 3072 (3072 + 1024) (kernelRun0_C.sl.HS3_128 (F := Ideal) c arg15 harg15 xs2)
      (fun k j => Ideal.exp2 (xs2 (ix3 0 k j) - kernelRun0_C.sl.v1398 (F := Ideal) c arg15 harg15 xs2 (ix2 0 j))) := by
    iterate 32 refine filled_step rfl (weights (T := fun k j => xs2 (ix3 0 k j)) (tile_at harg15 xs2 0 rfl _)) ?_
    exact filled_start _ _ _
  have hr : kernelRun0_C.sl.r (F := Ideal) c arg7 harg7 arg8 harg8 arg9 harg9 arg10 harg10 x4 x5 x6 x7 = k0_pay459 (F := Ideal) x4 x5 x6 x7 := by
    unfold kernelRun0_C.sl.r
    rw [ld_whole harg7 x4 hz2, ld_whole harg8 x5 hz2, ld_whole harg9 x6 hz2, ld_whole harg10 x7 hz2]
  unfold out0_C_9
  rw [View.read_writes_junk_eq_canon]
  refine (congrFun (View.canon_unit_zero (S := S1x256x128) hz3 _ _) _).trans ?_
  refine (outPay _ _ _ _ _ q d).trans ?_
  refine norm_congr (congrFun hr _) (fun r j => ?_) (congrFun (ld_whole harg11 x8 hz2 _) _) q d
  refine quarters (W := fun r k => xs1 (ix2 r k)) (G := fun k j => Ideal.exp2 (xs2 (ix3 0 k j) - kernelRun0_C.sl.v1398 (F := Ideal) c arg15 harg15 xs2 (ix2 0 j)))
    (fun r k => (values_at harg14 xs1 _ r k (by omega)).trans (congrArg (fun z => xs1 (ix2 r z)) (Fin.ext (Nat.zero_add _)))) (fun r k => values_at harg14 xs1 _ r k _) (fun r k => values_at harg14 xs1 _ r k _) (fun r k => values_at harg14 xs1 _ r k _)
    (fun k j => (ld_weights h0 _ k j (by omega)).trans ?_) (fun k j => ld_weights h1 _ k j _) (fun k j => ld_weights h2 _ k j _) (fun k j => ld_weights h3 _ k j _) r j
  exact congrArg (fun z => Ideal.exp2 (xs2 (ix3 0 z j) - kernelRun0_C.sl.v1398 (F := Ideal) c arg15 harg15 xs2 (ix2 0 j))) (Fin.ext (Nat.zero_add _))

/-- The next block's scores. -/
theorem next_C (k : Fin 4096) (j : Fin 512) : sout0_C_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 (ix3 1 k j)
    = score (fun k d => x2 (ix3 0 k d)) (fun r d => x1 (ix3 0 r d)) (fun k q => xs0 (ix2 ⟨start i + k.val, by unfold start; omega⟩ q)) k j := by
  have h : Filled3 arg15.view (harg15.unread xs2) 1 4096 (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2).2.2.2.1
      (score (fun k d => x2 (ix3 0 k d)) (fun r d => x1 (ix3 0 r d)) (fun k q => xs0 (ix2 ⟨start i + k.val, by unfold start; omega⟩ q))) := by
    refine filled3_step (s := 1) (o := 3584) rfl (chunk_score (stacked_at harg4 x1 _) (ld_keys harg5 x2 _) (bias_at harg13 xs0 i 7 rfl rfl _)) ?_
    refine filled3_step (s := 1) (o := 3072) rfl (chunk_score (stacked_at harg4 x1 _) (ld_keys harg5 x2 _) (bias_at harg13 xs0 i 6 rfl rfl _)) ?_
    refine filled3_step (s := 1) (o := 2560) rfl (chunk_score (stacked_at harg4 x1 _) (ld_keys harg5 x2 _) (bias_at harg13 xs0 i 5 rfl rfl _)) ?_
    refine filled3_step (s := 1) (o := 2048) rfl (chunk_score (stacked_at harg4 x1 _) (ld_keys harg5 x2 _) (bias_at harg13 xs0 i 4 rfl rfl _)) ?_
    refine filled3_step (s := 1) (o := 1536) rfl (chunk_score (stacked_at harg4 x1 _) (ld_keys harg5 x2 _) (bias_at harg13 xs0 i 3 rfl rfl _)) ?_
    refine filled3_step (s := 1) (o := 1024) rfl (chunk_score (stacked_at harg4 x1 _) (ld_keys harg5 x2 _) (bias_at harg13 xs0 i 2 rfl rfl _)) ?_
    refine filled3_step (s := 1) (o := 512) rfl (chunk_score (stacked_at harg4 x1 _) (ld_keys harg5 x2 _) (bias_at harg13 xs0 i 1 rfl rfl _)) ?_
    refine filled3_step (s := 1) (o := 0) rfl (chunk_score (stacked_at harg4 x1 _) (ld_keys harg5 x2 _) (bias_at harg13 xs0 i 0 rfl rfl _)) ?_
    exact filled3_start _ _
  exact h k j k.isLt

/-- The table of biases stays. -/
theorem same_C : sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = xs0 := rfl

/-- The values stay. -/
theorem stay_C : sout0_C_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 xs1 xs2 = xs1 := rfl

end Cert.AttnIdeal.Blocks
-- ==== Proof.AttnRun.lean ====
module

public import proofs.«01_k».proof.Proof.AttnStepA
public import proofs.«01_k».proof.Proof.AttnStepB
public import proofs.«01_k».proof.Proof.AttnStepC
public import proofs.«01_k».proof.Proof.Gen.AttnIdeal.Value
public import Idealize.ShloMosaic.Lib.StableHlo.ReadAt

@[expose] public section

set_option maxRecDepth 16384

noncomputable section

/-! What the attention kernel leaves after each grid point: a head's table of biases, its values' rows, the next block's scores, and the point's block of the
    output. A point is a batch, a head and a block of 256 queries. -/
namespace Cert.AttnIdeal.Run

open Cert.AttnIdeal Cert.AttnIdeal.Gen Cert.AttnIdeal.Blocks Cert.Proof.Attn Idealize.ShloMosaic Idealize.ShloMosaic.TcCoe Idealize.SL.Sem

/-! ### The points and their blocks -/

/-- The blocks the windows stage at each grid point. -/
theorem idx : ∀ t : Fin cfg0.N, (win0_0.index t (0 : Fin 3) = t.val / 256 ∧ win0_0.index t (1 : Fin 3) = t.val % 16 ∧ win0_0.index t (2 : Fin 3) = 48 + t.val / 16 % 16)
    ∧ (win0_1.index t (0 : Fin 3) = t.val / 256 ∧ win0_1.index t (1 : Fin 3) = min (t.val % 16 + 1) 15 ∧ win0_1.index t (2 : Fin 3) = 48 + t.val / 16 % 16)
    ∧ (win0_2.index t (0 : Fin 3) = t.val / 256 ∧ win0_2.index t (1 : Fin 3) = 0 ∧ win0_2.index t (2 : Fin 3) = 64 + t.val / 16 % 16)
    ∧ (win0_3.index t (0 : Fin 3) = t.val / 256 ∧ win0_3.index t (1 : Fin 3) = 0 ∧ win0_3.index t (2 : Fin 3) = 80 + t.val / 16 % 16)
    ∧ (win0_9.index t (0 : Fin 3) = t.val / 256 ∧ win0_9.index t (1 : Fin 3) = t.val % 16 ∧ win0_9.index t (2 : Fin 3) = t.val / 16 % 16) :=
  (by decide +kernel : ∀ t : Fin grid0.N, _)

theorem idx_small : ∀ t : Fin cfg0.N, (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem at_point : ∀ t : Fin cfg0.N, (grid0.coords t 1).val = t.val / 16 % 16 ∧ (grid0.coords t 2).val = t.val % 16 :=
  (by decide +kernel : ∀ t : Fin grid0.N, (grid0.coords t 1).val = t.val / 16 % 16 ∧ (grid0.coords t 2).val = t.val % 16)

theorem points {n : ℕ} (hn : n < cfg0.N) : n < 512 := lt_of_lt_of_eq hn N_0

/-- A point's batch, head, block of queries, and the block the next scores are of. -/
def batch (n : ℕ) (hn : n < cfg0.N) : Fin 2 := ⟨n / 256, by have := points hn; omega⟩
def head (n : ℕ) : Fin 16 := ⟨n / 16 % 16, by omega⟩
def block (n : ℕ) : Fin 16 := ⟨n % 16, by omega⟩
def after (n : ℕ) : Fin 16 := ⟨min (n % 16 + 1) 15, by omega⟩

variable (X : Vec Ideal S2x4096x20480 .bf16)

def query (b : Fin 2) (h : Fin 16) (r : Fin 4096) (d : Fin 128) : EReal := X (ix3 b r ⟨6144 + 128 * h.val + d.val, by omega⟩)
def key (b : Fin 2) (h : Fin 16) (k : Fin 4096) (d : Fin 128) : EReal := X (ix3 b k ⟨8192 + 128 * h.val + d.val, by omega⟩)
def val (b : Fin 2) (h : Fin 16) (k : Fin 4096) (d : Fin 128) : EReal := X (ix3 b k ⟨10240 + 128 * h.val + d.val, by omega⟩)

/-- The values with features as rows, ones in row 128. -/
def rows (b : Fin 2) (h : Fin 16) (r : Fin 144) (k : Fin 4096) : EReal :=
  if hr : r.val < 128 then val X b h k ⟨r.val, hr⟩ else if r.val = 128 then 1 else 0

/-- A head's table of biases. -/
def headTable (h : Fin 16) : Vec Ideal S7936x256 .f32 := k0_pay1 (F := Ideal) (BitVec.ofNat 32 h.val)

/-- The scores of block `n` of a head's queries. -/
def scores (b : Fin 2) (h n : Fin 16) (k : Fin 4096) (j : Fin 512) : EReal :=
  score (key X b h) (fun r d => query X b h ⟨256 * n.val + r.val, by omega⟩ d) (fun k q => headTable h (ix2 ⟨3840 - n.val * 256 + k.val, by omega⟩ q)) k j

theorem score_congr {K K' : Fin 4096 → Fin 128 → EReal} {q q' : Fin 256 → Fin 128 → EReal} {B B' : Fin 4096 → Fin 256 → EReal} (hK : ∀ k d, K k d = K' k d)
    (hq : ∀ r d, q r d = q' r d) (hB : ∀ k r, B k r = B' k r) (k : Fin 4096) (j : Fin 512) : score K q B k j = score K' q' B' k j := by
  rw [show K = K' from funext₂ hK, show q = q' from funext₂ hq, show B = B' from funext₂ hB]

variable (m : (ℓ : Loc nD τ sig) → Buf (Elt Ideal) ℓ) (c : Dev nD)

theorem blk0 (t : Fin cfg0.N) (r : Fin 256) (d : Fin 128) : iblk m c 0 t (ix3 0 r d) = query (V m c main_v0) (batch t.val t.isLt) (head t.val) ⟨256 * (block t.val).val + r.val, by have := (block t.val).isLt; omega⟩ d := by
  have ht := idx t
  show V m c main_v0 (((cfg0.win 0).blk t).view.emb (ix3 0 r d)) = _
  refine congrArg (V m c main_v0) (funext fun a => Fin.ext ?_)
  match a with
  | ⟨0, _⟩ => show win0_0.index t (0 : Fin 3) * 1 + 1 * 0 = t.val / 256; rw [ht.1.1]; omega
  | ⟨1, _⟩ => show win0_0.index t (1 : Fin 3) * 256 + 1 * r.val = 256 * (t.val % 16) + r.val; rw [ht.1.2.1]; omega
  | ⟨2, _⟩ => show win0_0.index t (2 : Fin 3) * 128 + 1 * d.val = 6144 + 128 * (t.val / 16 % 16) + d.val; rw [ht.1.2.2]; omega

theorem blk1 (t : Fin cfg0.N) (r : Fin 256) (d : Fin 128) : iblk m c 1 t (ix3 0 r d) = query (V m c main_v0) (batch t.val t.isLt) (head t.val) ⟨256 * (after t.val).val + r.val, by have := (after t.val).isLt; omega⟩ d := by
  have ht := idx t
  show V m c main_v0 (((cfg0.win 1).blk t).view.emb (ix3 0 r d)) = _
  refine congrArg (V m c main_v0) (funext fun a => Fin.ext ?_)
  match a with
  | ⟨0, _⟩ => show win0_1.index t (0 : Fin 3) * 1 + 1 * 0 = t.val / 256; rw [ht.2.1.1]; omega
  | ⟨1, _⟩ => show win0_1.index t (1 : Fin 3) * 256 + 1 * r.val = 256 * (min (t.val % 16 + 1) 15) + r.val; rw [ht.2.1.2.1]; omega
  | ⟨2, _⟩ => show win0_1.index t (2 : Fin 3) * 128 + 1 * d.val = 6144 + 128 * (t.val / 16 % 16) + d.val; rw [ht.2.1.2.2]; omega

theorem blk2 (t : Fin cfg0.N) (r : Fin 4096) (d : Fin 128) : iblk m c 2 t (ix3 0 r d) = key (V m c main_v0) (batch t.val t.isLt) (head t.val) r d := by
  have ht := idx t
  show V m c main_v0 (((cfg0.win 2).blk t).view.emb (ix3 0 r d)) = _
  refine congrArg (V m c main_v0) (funext fun a => Fin.ext ?_)
  match a with
  | ⟨0, _⟩ => show win0_2.index t (0 : Fin 3) * 1 + 1 * 0 = t.val / 256; rw [ht.2.2.1.1]; omega
  | ⟨1, _⟩ => show win0_2.index t (1 : Fin 3) * 4096 + 1 * r.val = r.val; rw [ht.2.2.1.2.1]; omega
  | ⟨2, _⟩ => show win0_2.index t (2 : Fin 3) * 128 + 1 * d.val = 8192 + 128 * (t.val / 16 % 16) + d.val; rw [ht.2.2.1.2.2]; omega

theorem blk3 (t : Fin cfg0.N) (r : Fin 4096) (d : Fin 128) : iblk m c 3 t (ix3 0 r d) = val (V m c main_v0) (batch t.val t.isLt) (head t.val) r d := by
  have ht := idx t
  show V m c main_v0 (((cfg0.win 3).blk t).view.emb (ix3 0 r d)) = _
  refine congrArg (V m c main_v0) (funext fun a => Fin.ext ?_)
  match a with
  | ⟨0, _⟩ => show win0_3.index t (0 : Fin 3) * 1 + 1 * 0 = t.val / 256; rw [ht.2.2.2.1.1]; omega
  | ⟨1, _⟩ => show win0_3.index t (1 : Fin 3) * 4096 + 1 * r.val = r.val; rw [ht.2.2.2.1.2.1]; omega
  | ⟨2, _⟩ => show win0_3.index t (2 : Fin 3) * 128 + 1 * d.val = 10240 + 128 * (t.val / 16 % 16) + d.val; rw [ht.2.2.2.1.2.2]; omega

theorem blk4 (t : Fin cfg0.N) : (iblk m c 4 t : Vec Ideal S1x64 .f32) = V m c main_v6 := by
  have ht := idx_small t
  refine funext fun (y : S1x64.Idx) => ?_
  show V m c main_v6 (((cfg0.win 4).blk t).view.emb y) = _
  refine congrArg (V m c main_v6) (funext fun a => Fin.ext ?_)
  match a with
  | ⟨0, _⟩ => show win0_4.index t (0 : Fin 2) * 1 + 1 * (y 0).val = (y 0).val; rw [ht.1.1]; omega
  | ⟨1, _⟩ => show win0_4.index t (1 : Fin 2) * 64 + 1 * (y 1).val = (y 1).val; rw [ht.1.2]; omega

theorem blk5 (t : Fin cfg0.N) : (iblk m c 5 t : Vec Ideal S1x64 .f32) = V m c main_v7 := by
  have ht := idx_small t
  refine funext fun (y : S1x64.Idx) => ?_
  show V m c main_v7 (((cfg0.win 5).blk t).view.emb y) = _
  refine congrArg (V m c main_v7) (funext fun a => Fin.ext ?_)
  match a with
  | ⟨0, _⟩ => show win0_5.index t (0 : Fin 2) * 1 + 1 * (y 0).val = (y 0).val; rw [ht.2.1.1]; omega
  | ⟨1, _⟩ => show win0_5.index t (1 : Fin 2) * 64 + 1 * (y 1).val = (y 1).val; rw [ht.2.1.2]; omega

theorem blk6 (t : Fin cfg0.N) : (iblk m c 6 t : Vec Ideal S1x64 .f32) = V m c main_v8 := by
  have ht := idx_small t
  refine funext fun (y : S1x64.Idx) => ?_
  show V m c main_v8 (((cfg0.win 6).blk t).view.emb y) = _
  refine congrArg (V m c main_v8) (funext fun a => Fin.ext ?_)
  match a with
  | ⟨0, _⟩ => show win0_6.index t (0 : Fin 2) * 1 + 1 * (y 0).val = (y 0).val; rw [ht.2.2.1.1]; omega
  | ⟨1, _⟩ => show win0_6.index t (1 : Fin 2) * 64 + 1 * (y 1).val = (y 1).val; rw [ht.2.2.1.2]; omega

theorem blk7 (t : Fin cfg0.N) : (iblk m c 7 t : Vec Ideal S1x64 .f32) = V m c main_v9 := by
  have ht := idx_small t
  refine funext fun (y : S1x64.Idx) => ?_
  show V m c main_v9 (((cfg0.win 7).blk t).view.emb y) = _
  refine congrArg (V m c main_v9) (funext fun a => Fin.ext ?_)
  match a with
  | ⟨0, _⟩ => show win0_7.index t (0 : Fin 2) * 1 + 1 * (y 0).val = (y 0).val; rw [ht.2.2.2.1.1]; omega
  | ⟨1, _⟩ => show win0_7.index t (1 : Fin 2) * 64 + 1 * (y 1).val = (y 1).val; rw [ht.2.2.2.1.2]; omega

theorem blk8 (t : Fin cfg0.N) : (iblk m c 8 t : Vec Ideal S1x128 .f32) = V m c main_v10 := by
  have ht := idx_small t
  refine funext fun (y : S1x128.Idx) => ?_
  show V m c main_v10 (((cfg0.win 8).blk t).view.emb y) = _
  refine congrArg (V m c main_v10) (funext fun a => Fin.ext ?_)
  match a with
  | ⟨0, _⟩ => show win0_8.index t (0 : Fin 2) * 1 + 1 * (y 0).val = (y 0).val; rw [ht.2.2.2.2.1]; omega
  | ⟨1, _⟩ => show win0_8.index t (1 : Fin 2) * 128 + 1 * (y 1).val = (y 1).val; rw [ht.2.2.2.2.2]; omega

/-! ### What the points leave -/

/-- What point `n` leaves for the next point of its head. -/
structure Inv (n : ℕ) (hn : n < cfg0.N) : Prop where
  table : (outsAt0 m c n hn).2.1 = headTable (head n)
  rows : ∀ r k, (outsAt0 m c n hn).2.2.1 (ix2 r k) = rows (V m c main_v0) (batch n hn) (head n) r k
  scores : ∀ k j, (outsAt0 m c n hn).2.2.2 (ix3 ⟨(n % 16 + 1) % 2, by omega⟩ k j) = scores (V m c main_v0) (batch n hn) (head n) (after n) k j

theorem table_at (t : Fin cfg0.N) : Blocks.table (grid0.coords t) = headTable (head t.val) := by
  unfold Blocks.table headTable
  rw [(at_point t).1]
  rfl

theorem start_at (t : Fin cfg0.N) : start (grid0.coords t) = 3840 - (after t.val).val * 256 := by
  unfold start
  rw [(at_point t).2]
  rfl

theorem rows_at (t : Fin cfg0.N) (r : Fin 144) (k : Fin 4096) : valueRows (iblk m c 3 t) r k = rows (V m c main_v0) (batch t.val t.isLt) (head t.val) r k := by
  unfold valueRows rows
  split
  · exact blk3 m c t k _
  · rfl

/-- The next block's scores, out of a point's blocks. -/
theorem next_at (t : Fin cfg0.N) {B : Vec Ideal S7936x256 .f32} (hB : B = headTable (head t.val)) (k : Fin 4096) (j : Fin 512) :
    score (fun k d => iblk m c 2 t (ix3 0 k d)) (fun r d => iblk m c 1 t (ix3 0 r d)) (fun k q => B (ix2 ⟨start (grid0.coords t) + k.val, by unfold start; omega⟩ q)) k j
      = scores (V m c main_v0) (batch t.val t.isLt) (head t.val) (after t.val) k j := by
  subst hB
  refine score_congr (fun k d => blk2 m c t k d) (fun r d => blk1 m c t r d) (fun k q => ?_) k j
  exact congrArg (fun z => headTable (head t.val) (ix2 z q)) (Fin.ext (by
    show start (grid0.coords t) + k.val = 3840 - (after t.val).val * 256 + k.val; rw [start_at]))

/-- The first block's scores, out of the point's blocks. -/
theorem first_at (t : Fin cfg0.N) (h0 : t.val % 16 = 0) : first (iblk m c 0 t) (iblk m c 2 t) (grid0.coords t)
    = scores (V m c main_v0) (batch t.val t.isLt) (head t.val) (block t.val) := by
  refine funext₂ fun k j => ?_
  unfold first scores
  rw [table_at]
  refine score_congr (fun k d => blk2 m c t k d) (fun r d => blk0 m c t r d) (fun k q => ?_) k j
  exact congrArg (fun z => headTable (head t.val) (ix2 z q)) (Fin.ext (by
    show 3840 + k.val = 3840 - t.val % 16 * 256 + k.val; omega))

theorem inv_A (t : Fin cfg0.N) (h0 : t.val % 16 = 0) : Inv m c t.val t.isLt := by
  have h1 : t.val % 2 = 0 := by omega
  have h2 : ¬t.val % 2 = 1 := by omega
  have e := outsAt0_A m c t h0 h1 h2
  refine ⟨?_, fun r k => ?_, fun k j => ?_⟩
  · rw [e]; dsimp only; rw [table_A]; exact table_at t
  · rw [e]; dsimp only; rw [values_A]; exact rows_at m c t r k
  · rw [show (⟨(t.val % 16 + 1) % 2, by omega⟩ : Fin 2) = 1 from Fin.ext (by show (t.val % 16 + 1) % 2 = 1; omega)]
    rw [e]; dsimp only; rw [next_A]; exact next_at m c t (table_at t) k j

theorem inv_B (t : Fin cfg0.N) (h0 : ¬t.val % 16 = 0) (h1 : ¬t.val % 2 = 0) (h2 : t.val % 2 = 1) (ih : Inv m c (t.val - 1) (Nat.lt_of_le_of_lt (Nat.sub_le _ _) t.isLt)) :
    Inv m c t.val t.isLt := by
  have e := outsAt0_B m c t h0 h1 h2
  have hh : head (t.val - 1) = head t.val := Fin.ext (by show (t.val - 1) / 16 % 16 = t.val / 16 % 16; omega)
  have hb : batch (t.val - 1) (Nat.lt_of_le_of_lt (Nat.sub_le _ _) t.isLt) = batch t.val t.isLt := Fin.ext (by show (t.val - 1) / 256 = t.val / 256; omega)
  refine ⟨?_, fun r k => ?_, fun k j => ?_⟩
  · rw [e]; dsimp only; rw [same_B]; exact ih.table.trans (congrArg headTable hh)
  · rw [e]; dsimp only; rw [stay_B]; exact (ih.rows r k).trans (by rw [hh, hb])
  · rw [show (⟨(t.val % 16 + 1) % 2, by omega⟩ : Fin 2) = 0 from Fin.ext (by show (t.val % 16 + 1) % 2 = 0; omega)]
    rw [e]; dsimp only; rw [next_B]; exact next_at m c t (ih.table.trans (congrArg headTable hh)) k j

theorem inv_C (t : Fin cfg0.N) (h0 : ¬t.val % 16 = 0) (h1 : t.val % 2 = 0) (h2 : ¬t.val % 2 = 1) (ih : Inv m c (t.val - 1) (Nat.lt_of_le_of_lt (Nat.sub_le _ _) t.isLt)) :
    Inv m c t.val t.isLt := by
  have e := outsAt0_C m c t h0 h1 h2
  have hh : head (t.val - 1) = head t.val := Fin.ext (by show (t.val - 1) / 16 % 16 = t.val / 16 % 16; omega)
  have hb : batch (t.val - 1) (Nat.lt_of_le_of_lt (Nat.sub_le _ _) t.isLt) = batch t.val t.isLt := Fin.ext (by show (t.val - 1) / 256 = t.val / 256; omega)
  refine ⟨?_, fun r k => ?_, fun k j => ?_⟩
  · rw [e]; dsimp only; rw [same_C]; exact ih.table.trans (congrArg headTable hh)
  · rw [e]; dsimp only; rw [stay_C]; exact (ih.rows r k).trans (by rw [hh, hb])
  · rw [show (⟨(t.val % 16 + 1) % 2, by omega⟩ : Fin 2) = 1 from Fin.ext (by show (t.val % 16 + 1) % 2 = 1; omega)]
    rw [e]; dsimp only; rw [next_C]; exact next_at m c t (ih.table.trans (congrArg headTable hh)) k j

theorem inv : ∀ (n : ℕ) (hn : n < cfg0.N), Inv m c n hn
  | 0, hn => inv_A m c ⟨0, hn⟩ rfl
  | n + 1, hn => by
    by_cases h0 : (n + 1) % 16 = 0
    · exact inv_A m c ⟨n + 1, hn⟩ h0
    · by_cases h1 : (n + 1) % 2 = 0
      · exact inv_C m c ⟨n + 1, hn⟩ h0 h1 (by show ¬(n + 1) % 2 = 1; omega) (inv n _)
      · exact inv_B m c ⟨n + 1, hn⟩ h0 h1 (by show (n + 1) % 2 = 1; omega) (inv n _)

/-- The scale of the second softmax, as the program computes it. -/
def lamOf : EReal := k0_pay459 (F := Ideal) (V m c main_v6) (V m c main_v7) (V m c main_v8) (V m c main_v9) (ix2 0 0)

/-- The weighted sums of a point, its columns' maxima `M` taken off. -/
def sums (b : Fin 2) (h n : Fin 16) (M : Fin 512 → EReal) (r : Fin 144) (j : Fin 512) : EReal :=
  ∑ k : Fin 4096, rows X b h r k * Ideal.exp2 (scores X b h n k j - M j)

/-- A POINT'S BLOCK OF THE OUTPUT, for some real maxima. -/
theorem out (hS : ∀ b h n k j, ∃ r : ℝ, scores (V m c main_v0) b h n k j = r) (t : Fin cfg0.N) : ∃ M : Fin 512 → EReal, (∀ j, ∃ r : ℝ, M j = r) ∧ ∀ q d,
    (outsAt0 m c t.val t.isLt).1 (ix3 0 q d)
      = norm (fun d => outT (lamOf m c) (sums (V m c main_v0) (batch t.val t.isLt) (head t.val) (block t.val) M) q d) d (V m c main_v10 (ix2 0 d)) := by
  have hlam : ∀ t : Fin cfg0.N, k0_pay459 (F := Ideal) (iblk m c 4 t) (iblk m c 5 t) (iblk m c 6 t) (iblk m c 7 t) (ix2 0 0) = lamOf m c := fun t => by
    unfold lamOf
    rw [← blk4 m c t, ← blk5 m c t, ← blk6 m c t, ← blk7 m c t]
  have hg : ∀ (t : Fin cfg0.N) (d : Fin 128), iblk m c 8 t (ix2 0 d) = V m c main_v10 (ix2 0 d) := fun t d => congrFun (blk8 m c t) _
  by_cases h0 : t.val % 16 = 0
  · have h1 : t.val % 2 = 0 := by omega
    have h2 : ¬t.val % 2 = 1 := by omega
    have e := outsAt0_A m c t h0 h1 h2
    have hf := first_at m c t h0
    obtain ⟨M, hM, h⟩ := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)
      (fun k j => by rw [hf]; exact hS _ _ _ k j)
    refine ⟨M, hM, fun q d => ?_⟩
    rw [e]
    dsimp only
    rw [h q d]
    refine norm_congr (hlam t) (fun r j => ?_) (hg t d) q d
    rw [hf]
    exact Finset.sum_congr rfl fun k _ => congrArg (· * _) (rows_at m c t r k)
  · have hp : t.val - 1 < cfg0.N := Nat.lt_of_le_of_lt (Nat.sub_le _ _) t.isLt
    have ih := inv m c (t.val - 1) hp
    have hh : head (t.val - 1) = head t.val := Fin.ext (by show (t.val - 1) / 16 % 16 = t.val / 16 % 16; omega)
    have hb : batch (t.val - 1) hp = batch t.val t.isLt := Fin.ext (by show (t.val - 1) / 256 = t.val / 256; omega)
    have ha : after (t.val - 1) = block t.val := Fin.ext (by show min ((t.val - 1) % 16 + 1) 15 = t.val % 16; omega)
    have hsc : ∀ (k : Fin 4096) (j : Fin 512) (s : Fin 2), s.val = t.val % 2 → (outsAt0 m c (t.val - 1) hp).2.2.2 (ix3 s k j)
        = scores (V m c main_v0) (batch t.val t.isLt) (head t.val) (block t.val) k j := fun k j s hs => by
      rw [show s = ⟨((t.val - 1) % 16 + 1) % 2, by omega⟩ from Fin.ext (by show s.val = ((t.val - 1) % 16 + 1) % 2; omega), ih.scores k j, hh, hb, ha]
    have hrw : ∀ (r : Fin 144) (k : Fin 4096), (outsAt0 m c (t.val - 1) hp).2.2.1 (ix2 r k) = rows (V m c main_v0) (batch t.val t.isLt) (head t.val) r k := fun r k => by
      rw [ih.rows r k, hh, hb]
    by_cases h1 : t.val % 2 = 0
    · have h2 : ¬t.val % 2 = 1 := by omega
      have e := outsAt0_C m c t h0 h1 h2
      obtain ⟨M, hM, h⟩ := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)
        (outsAt0 m c (t.val - 1) hp).2.1 (outsAt0 m c (t.val - 1) hp).2.2.1 (outsAt0 m c (t.val - 1) hp).2.2.2 (fun k j => by rw [hsc k j 0 (by show 0 = _; omega)]; exact hS _ _ _ k j)
      refine ⟨M, hM, fun q d => ?_⟩
      rw [e]
      dsimp only
      rw [h q d]
      refine norm_congr (hlam t) (fun r j => Finset.sum_congr rfl fun k _ => ?_) (hg t d) q d
      rw [hsc k j 0 (by show 0 = _; omega), hrw]
    · have h2 : t.val % 2 = 1 := by omega
      have e := outsAt0_B m c t h0 h1 h2
      obtain ⟨M, hM, h⟩ := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t)
        (outsAt0 m c (t.val - 1) hp).2.1 (outsAt0 m c (t.val - 1) hp).2.2.1 (outsAt0 m c (t.val - 1) hp).2.2.2 (fun k j => by rw [hsc k j 1 (by show 1 = _; omega)]; exact hS _ _ _ k j)
      refine ⟨M, hM, fun q d => ?_⟩
      rw [e]
      dsimp only
      rw [h q d]
      refine norm_congr (hlam t) (fun r j => Finset.sum_congr rfl fun k _ => ?_) (hg t d) q d
      rw [hsc k j 1 (by show 1 = _; omega), hrw]

end Cert.AttnIdeal.Run
-- ==== Proof.AttnReal.lean ====
module

public import proofs.«01_k».proof.Proof.AttnRun

@[expose] public section

set_option maxRecDepth 16384

noncomputable section

/-! The real numbers behind the attention: the scores of real queries and keys, their biases by distance, and the kernel's block of the output from them. -/
namespace Cert.Proof.Attn

open Idealize.ShloMosaic

/-! ### Words -/

theorem negHalf : Ideal.ofBits FTy.f32 0xBF000000#32 = ((-(1 / 2) : ℝ) : EReal) := by
  simp only [Ideal.ofBits, Ideal.ieee]
  norm_num [Nat.shiftRight_eq_div_pow]
  rw [if_pos (by decide), EReal.coe_neg]

theorem negEight : Ideal.ofBits FTy.f32 0xC1000000#32 = ((-8 : ℝ) : EReal) := by
  simp only [Ideal.ofBits, Ideal.ieee]
  norm_num [Nat.shiftRight_eq_div_pow]
  rw [if_pos (by decide), EReal.coe_neg]

theorem sixteen : Ideal.ofBits FTy.f32 0x41800000#32 = ((16 : ℝ) : EReal) := by
  simp only [Ideal.ofBits, Ideal.ieee]
  norm_num [Nat.shiftRight_eq_div_pow]
  decide

theorem two : Ideal.ofBits FTy.f32 0x40000000#32 = ((2 : ℝ) : EReal) := by
  simp only [Ideal.ofBits, Ideal.ieee]
  norm_num [Nat.shiftRight_eq_div_pow]
  decide

theorem start_real : ∃ r : ℝ, Ideal.ofBits FTy.f32 0x3E4CCCCD#32 = r := by
  simp only [Ideal.ofBits, Ideal.ieee]
  norm_num [Nat.shiftRight_eq_div_pow]

/-- The magnitude of a small signed word. -/
theorem abs_word (x : BitVec 32) (z : ℤ) (h : x.toInt = z) (h0 : -(2 ^ 30) < z) (h1 : z < 2 ^ 30) : (IntOp.absi x).toInt = |z| := by
  unfold IntOp.absi
  rw [BitVec.msb_eq_toInt, h]
  by_cases hz : z < 0
  · rw [if_pos (by simpa using hz), BitVec.toInt_neg, h, abs_of_neg hz]
    simp only [Int.bmod]
    omega
  · rw [if_neg (by simpa using hz), h, abs_of_nonneg (by omega)]

/-- A query's distance to a key, from their numbers as words. -/
theorem word_sub (a b : ℕ) (ha : a < 2 ^ 20) (hb : b < 2 ^ 20) : (IntOp.subi (BitVec.ofNat 32 a) (BitVec.ofNat 32 b)).toInt = (a : ℤ) - b := by
  unfold IntOp.subi
  rw [BitVec.toInt_sub, BitVec.toInt_ofNat', BitVec.toInt_ofNat']
  simp only [Int.bmod]
  omega

theorem word_add (x : BitVec 32) (z : ℤ) (h : x.toInt = z) (h0 : -(2 ^ 30) < z) (h1 : z < 2 ^ 30) (b : ℕ) (hb : b < 2 ^ 20) :
    (IntOp.addi x (BitVec.ofNat 32 b)).toInt = z + b := by
  unfold IntOp.addi
  rw [BitVec.toInt_add, h, BitVec.toInt_ofNat']
  simp only [Int.bmod]
  omega

/-! ### Scores -/

/-- A head's slope: two to the `-(h + 1) / 2`. -/
def slope (h : Fin 16) : ℝ := Real.exp (Real.log 2 * (-8 * (1 + (h.val : ℝ)) / 16))

/-- The two halves of a head's 128 query and key features are two attention maps. -/
def feat (half : Fin 2) (d : Fin 64) : Fin 128 := ⟨64 * half.val + d.val, by omega⟩

/-- The score of a query and a key in one of a head's two maps: the product's `log 2`-multiple less the distance times the slope. -/
def sc (q k : Fin 128 → ℝ) (half : Fin 2) (h : Fin 16) (i j : Fin 4096) : ℝ :=
  (∑ d : Fin 64, q (feat half d) * k (feat half d)) * Real.log 2 - slope h * |(i.val : ℝ) - j.val|

/-- The attention of one query for one feature: the difference of the two maps' means of the values. -/
def att (q : Fin 128 → ℝ) (k : Fin 4096 → Fin 128 → ℝ) (v : Fin 4096 → ℝ) (lam : ℝ) (h : Fin 16) (i : Fin 4096) : ℝ :=
  diff (fun j => sc q (k j) 0 h i j) (fun j => sc q (k j) 1 h i j) v lam

/-- The second map's weight. -/
def weight (a b c d : Fin 64 → EReal) : EReal :=
  Ideal.exp (∑ x, a x * b x) - Ideal.exp (∑ x, c x * d x) + Ideal.ofBits FTy.f32 0x3E4CCCCD#32

theorem weight_real (a b c d : Fin 64 → EReal) (ha : ∀ i, ∃ r : ℝ, a i = r) (hb : ∀ i, ∃ r : ℝ, b i = r) (hc : ∀ i, ∃ r : ℝ, c i = r)
    (hd : ∀ i, ∃ r : ℝ, d i = r) : ∃ r : ℝ, weight a b c d = r := by
  choose a' ha using ha
  choose b' hb using hb
  choose c' hc using hc
  choose d' hd using hd
  obtain ⟨s, hs⟩ := start_real
  unfold weight
  simp only [ha, hb, hc, hd, hs, ← EReal.coe_mul, ← coe_sum, Ideal.exp_coe, ← EReal.coe_sub, ← EReal.coe_add]
  exact ⟨_, rfl⟩

end Cert.Proof.Attn

namespace Cert.AttnIdeal.Run

open Cert.AttnIdeal Cert.AttnIdeal.Gen Cert.AttnIdeal.Blocks Cert.Proof.Attn Idealize.ShloMosaic Idealize.ShloMosaic.TcCoe Idealize.SL.Sem

/-- A bias of the table is the distance times the slope, to base 2. -/
theorem bias_real (h n : Fin 16) (k : Fin 4096) (q : Fin 256) :
    headTable h (ix2 ⟨3840 - n.val * 256 + k.val, by omega⟩ q)
      = ((-(Cert.Proof.Attn.slope h * |((256 * n.val + q.val : ℕ) : ℝ) - k.val|) / Real.log 2 : ℝ) : EReal) := by
  have hw : (IntOp.absi (IntOp.addi (IntOp.subi (BitVec.ofNat 32 q.val) (BitVec.ofNat 32 (3840 - n.val * 256 + k.val))) 3840#32)).toInt
      = |((256 * n.val + q.val : ℕ) : ℤ) - k.val| := by
    refine abs_word _ _ ?_ (by omega) (by omega)
    refine (word_add _ _ (word_sub q.val (3840 - n.val * 256 + k.val) (by omega) (by omega)) (by omega) (by omega) 3840 (by omega)).trans ?_
    omega
  have hh : (Scalar.addi (BitVec.ofNat 32 h.val) 1#32).toInt = (h.val : ℤ) + 1 := by
    revert h
    decide
  have hk : Named.named (F := Ideal) κ "log2e" (φ := .f32) 1069066811#32 = (((Real.log 2)⁻¹ : ℝ) : EReal) := rfl
  unfold headTable
  pointwise [k0_pay1]
  rw [hh, hk, show Ideal.ofBits FTy.f32 3204448256#32 = ((-(1 / 2) : ℝ) : EReal) from negHalf]
  show (0 - Ideal.exp2 _ * _) * ((((IntOp.absi _).toInt : ℤ) : ℝ) : EReal) = _
  rw [hw, ← EReal.coe_mul, Ideal.exp2_coe, two_pow, ← EReal.coe_zero, ← EReal.coe_mul, ← EReal.coe_sub, ← EReal.coe_mul]
  congr 1
  unfold Cert.Proof.Attn.slope
  rw [show -(1 / 2) * (((h.val : ℤ) + 1 : ℤ) : ℝ) * Real.log 2 = Real.log 2 * (-8 * (1 + (h.val : ℝ)) / 16) by push_cast; ring]
  push_cast
  ring

/-- A block's score is the real score to base 2. -/
theorem scores_real (X : Vec Ideal S2x4096x20480 .bf16) (b : Fin 2) (h n : Fin 16) (Q K : Fin 4096 → Fin 128 → ℝ)
    (hQ : ∀ i d, query X b h i d = Q i d) (hK : ∀ i d, key X b h i d = K i d) (k : Fin 4096) (q : Fin 256) (half : Fin 2) :
    scores X b h n k ⟨256 * half.val + q.val, by omega⟩
      = ((sc (Q ⟨256 * n.val + q.val, by omega⟩) (K k) half h ⟨256 * n.val + q.val, by omega⟩ k / Real.log 2 : ℝ) : EReal) := by
  have hlog : Real.log 2 ≠ 0 := (Real.log_pos (by norm_num)).ne'
  unfold scores score
  rw [show (⟨(⟨256 * half.val + q.val, by omega⟩ : Fin 512).val % 256, by omega⟩ : Fin 256) = q from Fin.ext (by dsimp only; omega)]
  dsimp only
  rw [bias_real]
  have hs : (∑ d : Fin 128, key X b h k d * stack (fun r d => query X b h ⟨256 * n.val + r.val, by omega⟩ d) ⟨256 * half.val + q.val, by omega⟩ d)
      = ((∑ d : Fin 64, Q ⟨256 * n.val + q.val, by omega⟩ (feat half d) * K k (feat half d) : ℝ) : EReal) := by
    refine (Fin.sum_univ_add (a := 64) (b := 64) (f := fun d : Fin (64 + 64) => key X b h k d * stack (fun r d => query X b h ⟨256 * n.val + r.val, by omega⟩ d)
      ⟨256 * half.val + q.val, by omega⟩ d)).trans ?_
    rw [coe_sum]
    rcases half with ⟨v, hv⟩
    obtain rfl | rfl : v = 0 ∨ v = 1 := by omega
    · refine (congrArg₂ (· + ·) (Finset.sum_congr rfl fun d _ => ?_) (Finset.sum_eq_zero fun d _ => ?_)).trans (add_zero _)
      · unfold stack
        rw [dif_pos (by dsimp only; omega), if_pos (by simp)]
        dsimp only
        rw [hQ, hK, EReal.coe_mul, mul_comm, show Fin.castAdd 64 d = feat ⟨0, hv⟩ d from Fin.ext (by simp [feat])]
        congr 3
        exact Fin.ext (by dsimp only; omega)
      · unfold stack
        rw [dif_pos (by dsimp only; omega), if_neg (by simp), mul_zero]
    · refine (congrArg₂ (· + ·) (Finset.sum_eq_zero fun d _ => ?_) (Finset.sum_congr rfl fun d _ => ?_)).trans (zero_add _)
      · unfold stack
        rw [dif_neg (by dsimp only; omega), if_neg (by simp), mul_zero]
      · unfold stack
        rw [dif_neg (by dsimp only; omega), if_pos (by simp)]
        dsimp only
        rw [hQ, hK, EReal.coe_mul, mul_comm, show Fin.natAdd 64 d = feat ⟨1, hv⟩ d from Fin.ext (by simp [feat, Nat.add_comm])]
        congr 4
        omega
  rw [hs, ← EReal.coe_add]
  congr 1
  unfold sc
  field_simp
  ring

/-- Real queries and keys have real scores. -/
theorem scores_num (X : Vec Ideal S2x4096x20480 .bf16) (hQ : ∀ b h i d, ∃ r : ℝ, query X b h i d = r) (hK : ∀ b h i d, ∃ r : ℝ, key X b h i d = r)
    (b : Fin 2) (h n : Fin 16) (k : Fin 4096) (j : Fin 512) : ∃ r : ℝ, scores X b h n k j = r := by
  choose Q hQ using hQ
  choose K hK using hK
  have := scores_real X b h n (Q b h) (K b h) (hQ b h) (hK b h) k ⟨j.val % 256, by omega⟩ ⟨j.val / 256, by omega⟩
  rw [show (⟨256 * (⟨j.val / 256, by omega⟩ : Fin 2).val + (⟨j.val % 256, by omega⟩ : Fin 256).val, by dsimp only; omega⟩ : Fin 512) = j from
    Fin.ext (by dsimp only; omega)] at this
  exact ⟨_, this⟩

/-- A block's output before its norm is the attention. -/
theorem block_real (X : Vec Ideal S2x4096x20480 .bf16) (b : Fin 2) (h n : Fin 16) (Q K V : Fin 4096 → Fin 128 → ℝ)
    (hQ : ∀ i d, query X b h i d = Q i d) (hK : ∀ i d, key X b h i d = K i d) (hV : ∀ i d, val X b h i d = V i d) (L : EReal) (lam : ℝ) (hL : L = lam)
    (M : Fin 512 → EReal) (hM : ∀ j, ∃ r : ℝ, M j = r) (q : Fin 256) (d : Fin 128) :
    outT L (sums X b h n M) q d = (att (Q ⟨256 * n.val + q.val, by omega⟩) K (fun k => V k d) lam h ⟨256 * n.val + q.val, by omega⟩ : EReal) := by
  choose M' hM using hM
  have h0 := fun k => scores_real X b h n Q K hQ hK k q 0
  have h1 := fun k => scores_real X b h n Q K hQ hK k q 1
  rw [show (⟨256 * (0 : Fin 2).val + q.val, by omega⟩ : Fin 512) = ⟨q.val, by omega⟩ from Fin.ext (by simp)] at h0
  rw [show (⟨256 * (1 : Fin 2).val + q.val, by omega⟩ : Fin 512) = ⟨256 + q.val, by omega⟩ from Fin.ext (by simp)] at h1
  have hr : ∀ k, rows X b h ⟨d.val, by omega⟩ k = V k d := fun k => by
    unfold rows
    rw [dif_pos d.isLt]
    exact hV k d
  have ho : ∀ k, rows X b h 128 k = 1 := fun k => by
    unfold rows
    rw [dif_neg (by decide), if_pos (by decide)]
  unfold outT sums
  simp only [ho, one_mul]
  exact diff_of_powers _ _ _ _ _ _ _ _ _ _ _ _ h0 h1 hr (hM _) (hM _) hL

end Cert.AttnIdeal.Run
-- ==== Proof.AttnValue.lean ====
module

public import proofs.«01_k».proof.Proof.AttnReal
public import Idealize.ShloMosaic.Lib.Pipeline.Value

@[expose] public section

set_option maxRecDepth 16384

noncomputable section

/-! What the attention kernel leaves in its output array, from real queries, keys and values. -/
namespace Cert.AttnIdeal.Run

open Cert.AttnIdeal Cert.AttnIdeal.Gen Cert.AttnIdeal.Blocks Cert.Proof.Attn Idealize.ShloMosaic Idealize.ShloMosaic.TcCoe Idealize.SL.Sem

variable (m : (ℓ : Loc nD τ sig) → Buf (Elt Ideal) ℓ) (c : Dev nD)

/-! ### The arrays the call finds -/

theorem v0_at (b : Fin 2) (i : Fin 4096) (k : Fin 20480) : V m c main_v0 (ix3 b i k)
    = m ((c : Thread nD τ).loc main_arg0) (ix2 ⟨b.val * 4096 + i.val, by omega⟩ k) := by
  unfold V; after_reads_at

theorem v6_at (k : Fin 64) : V m c main_v6 (ix2 0 k) = m ((c : Thread nD τ).loc main_arg1) (ix2 0 k) := by
  unfold V; after_reads_at

theorem v7_at (k : Fin 64) : V m c main_v7 (ix2 0 k) = m ((c : Thread nD τ).loc main_arg2) (ix2 0 k) := by
  unfold V; after_reads_at

theorem v8_at (k : Fin 64) : V m c main_v8 (ix2 0 k) = m ((c : Thread nD τ).loc main_arg3) (ix2 0 k) := by
  unfold V; after_reads_at

theorem v9_at (k : Fin 64) : V m c main_v9 (ix2 0 k) = m ((c : Thread nD τ).loc main_arg4) (ix2 0 k) := by
  unfold V; after_reads_at

theorem v10_at (k : Fin 128) : V m c main_v10 (ix2 0 k) = m ((c : Thread nD τ).loc main_arg5) (ix2 0 k) := by
  unfold V; after_reads_at

theorem lamOf_eq : lamOf m c = weight (fun x => m ((c : Thread nD τ).loc main_arg1) (ix2 0 x)) (fun x => m ((c : Thread nD τ).loc main_arg2) (ix2 0 x))
    (fun x => m ((c : Thread nD τ).loc main_arg3) (ix2 0 x)) (fun x => m ((c : Thread nD τ).loc main_arg4) (ix2 0 x)) := by
  unfold lamOf weight
  simp only [← v6_at m c, ← v7_at m c, ← v8_at m c, ← v9_at m c]
  pointwise [k0_pay459]

/-! ### The output array -/

/-- The attention's result at an entry, from real queries, keys and values. -/
def resAt (Q K W : Fin 2 → Fin 16 → Fin 4096 → Fin 128 → ℝ) (lam : ℝ) (g : Fin 128 → EReal) (b : Fin 2) (i : Fin 4096) (h : Fin 16) (d : Fin 128) : EReal :=
  norm (fun d => (att (Q b h i) (K b h) (fun k => W b h k d) lam h i : EReal)) d (g d)

/-- The whole array. -/
def resOf (Q K W : Fin 2 → Fin 16 → Fin 4096 → Fin 128 → ℝ) (lam : ℝ) (g : Fin 128 → EReal) : Vec Ideal S2x4096x2048 .bf16 :=
  fun i => resAt Q K W lam g (i 0) (i 1) ⟨(i 2).val / 128, by have : (i 2).val < 2048 := (i 2).isLt; omega⟩ ⟨(i 2).val % 128, by omega⟩

theorem resOf_at (Q K W : Fin 2 → Fin 16 → Fin 4096 → Fin 128 → ℝ) (lam : ℝ) (g : Fin 128 → EReal) (b : Fin 2) (i : Fin 4096) (h : Fin 16) (d : Fin 128) :
    resOf Q K W lam g (ix3 b i ⟨128 * h.val + d.val, by omega⟩) = resAt Q K W lam g b i h d := by
  have e1 : (⟨(128 * h.val + d.val) / 128, by omega⟩ : Fin 16) = h := Fin.ext (by dsimp only; omega)
  have e2 : (⟨(128 * h.val + d.val) % 128, by omega⟩ : Fin 128) = d := Fin.ext (by dsimp only; omega)
  show resAt Q K W lam g b i ⟨(128 * h.val + d.val) / 128, _⟩ ⟨(128 * h.val + d.val) % 128, _⟩ = _
  rw [e1, e2]

theorem emb9 (t : Fin cfg0.N) (q : Fin 256) (d : Fin 128) : ((cfg0.win 9).blk t).view.emb (ix3 0 q d)
    = ix3 (batch t.val t.isLt) ⟨256 * (block t.val).val + q.val, by omega⟩ ⟨128 * (head t.val).val + d.val, by omega⟩ := by
  have ht := (idx t).2.2.2.2
  refine funext fun a => Fin.ext ?_
  match a with
  | ⟨0, _⟩ => show win0_9.index t (0 : Fin 3) * 1 + 1 * 0 = t.val / 256; rw [ht.1]; omega
  | ⟨1, _⟩ => show win0_9.index t (1 : Fin 3) * 256 + 1 * q.val = 256 * (t.val % 16) + q.val; rw [ht.2.1]; omega
  | ⟨2, _⟩ => show win0_9.index t (2 : Fin 3) * 128 + 1 * d.val = 128 * (t.val / 16 % 16) + d.val; rw [ht.2.2]; omega

variable (Q K W : Fin 2 → Fin 16 → Fin 4096 → Fin 128 → ℝ) (lam : ℝ)

theorem flushed (hQ : ∀ b h i d, query (V m c main_v0) b h i d = Q b h i d) (hK : ∀ b h i d, key (V m c main_v0) b h i d = K b h i d)
    (hW : ∀ b h i d, val (V m c main_v0) b h i d = W b h i d) (hL : lamOf m c = lam) (t : Fin cfg0.N) :
    (dats m 0 c).flushed 9 t = ((cfg0.win 9).blk t).view.read (Elt Ideal) (resOf Q K W lam fun d => V m c main_v10 (ix2 0 d)) := by
  rw [Value.flushed9]
  refine funext fun (j : S1x256x128.Idx) => ?_
  obtain ⟨q, d, rfl⟩ : ∃ q d, j = ix3 0 q d := ⟨j 1, j 2, by funext a; fin_cases a <;> first | rfl | exact Subsingleton.elim (α := Fin 1) _ _⟩
  obtain ⟨M, hM, ho⟩ := out m c (scores_num _ (fun b h i d => ⟨_, hQ b h i d⟩) (fun b h i d => ⟨_, hK b h i d⟩)) t
  show (outsAt0 m c t.val t.isLt).1 (ix3 0 q d) = resOf Q K W lam (fun d => V m c main_v10 (ix2 0 d)) (((cfg0.win 9).blk t).view.emb (ix3 0 q d))
  rw [emb9, ho]
  refine Eq.trans ?_ (resOf_at Q K W lam _ _ _ _ _).symm
  unfold resAt
  refine congrArg (fun o => norm o d (V m c main_v10 (ix2 0 d))) (funext fun d' => ?_)
  exact block_real (V m c main_v0) (batch t.val t.isLt) (head t.val) (block t.val) (Q _ _) (K _ _) (W _ _) (hQ _ _) (hK _ _) (hW _ _) _ lam hL M hM q d'

theorem covered (i : S2x4096x2048.Idx) : ∃ t : Fin cfg0.N, (cfg0.win 9).flush t = true ∧ i ∈ ((cfg0.win 9).blk t).view.set := by
  obtain ⟨b, r, k, rfl⟩ : ∃ b r k, i = ix3 b r k := ⟨i 0, i 1, i 2, by funext a; fin_cases a <;> rfl⟩
  have hN : b.val * 256 + k.val / 128 * 16 + r.val / 256 < cfg0.N := by
    refine lt_of_lt_of_eq ?_ N_0.symm
    have := k.isLt; have := r.isLt; have := b.isLt; omega
  refine ⟨⟨_, hN⟩, flush0_9 _, ?_⟩
  have h := ((cfg0.win 9).blk ⟨_, hN⟩).view.emb_mem_set (ix3 0 ⟨r.val % 256, by omega⟩ ⟨k.val % 128, by omega⟩)
  rw [emb9] at h
  have e : ∀ {b' : Fin 2} {r' : Fin 4096} {k' : Fin 2048}, b' = b → r' = r → k' = k → ix3 b' r' k' = ix3 b r k := by
    intro _ _ _ h1 h2 h3; rw [h1, h2, h3]
  refine (e ?_ ?_ ?_) ▸ h
  · refine Fin.ext ?_
    show (b.val * 256 + k.val / 128 * 16 + r.val / 256) / 256 = b.val
    omega
  · refine Fin.ext ?_
    show 256 * ((b.val * 256 + k.val / 128 * 16 + r.val / 256) % 16) + r.val % 256 = r.val
    omega
  · refine Fin.ext ?_
    show 128 * ((b.val * 256 + k.val / 128 * 16 + r.val / 256) / 16 % 16) + k.val % 128 = k.val
    omega

/-- THE CALL'S ARRAY. -/
theorem final (hQ : ∀ b h i d, query (V m c main_v0) b h i d = Q b h i d) (hK : ∀ b h i d, key (V m c main_v0) b h i d = K b h i d)
    (hW : ∀ b h i d, val (V m c main_v0) b h i d = W b h i d) (hL : lamOf m c = lam) :
    (dats m 0 c).arrAt 9 cfg0.N = resOf Q K W lam fun d => V m c main_v10 (ix2 0 d) :=
  (dats m 0 c).arrAt_eq_of_cover 9 _ (fun t _ => flushed m c Q K W lam hQ hK hW hL t) covered

end Cert.AttnIdeal.Run
-- ==== Proof.AttnRef.lean ====
module

public import proofs.«01_k».proof.Proof.Gen.AttnReferenceIdeal.Read
public import proofs.«01_k».proof.Proof.AttnValue
public import Idealize.ShloMosaic.PureOps.Ideal.Laws

@[expose] public section

set_option maxRecDepth 16384

noncomputable section

/-! The reference's attention at an index, from real queries, keys and values. -/
namespace Cert.Proof.Attn.Ref

open Cert.AttnReferenceIdeal Cert.AttnReferenceIdeal.Gen Cert.AttnReferenceIdeal.Read Cert.Proof.Attn Idealize.ShloMosaic Idealize.ShloMosaic.TcCoe Idealize.SL.Sem

variable (x0 : (⟨S8192x20480, .bf16⟩ : BufTy).Contents (Elt Ideal)) (x1 x2 x3 x4 : (⟨S1x64, .f32⟩ : BufTy).Contents (Elt Ideal))
  (x5 : (⟨S1x128, .f32⟩ : BufTy).Contents (Elt Ideal))

theorem q_at (b : Fin 2) (i : Fin 4096) (h : Fin 16) (s : Fin 2) (d : Fin 64) : val_main_v6 (F := Ideal) x0 (ix5 b i h s d)
    = x0 (ix2 ⟨b.val * 4096 + i.val, by omega⟩ ⟨6144 + 128 * h.val + (feat s d).val, by have := (feat s d).isLt; omega⟩) := by
  unfold val_main_v6 val_main_v2 val_main_v1 val_main_v0 feat
  pointwise
  exact congrArg x0 (congrArg _ (Fin.ext (by dsimp only; omega)))

theorem k_at (b : Fin 2) (i : Fin 4096) (h : Fin 16) (s : Fin 2) (d : Fin 64) : val_main_v7 (F := Ideal) x0 (ix5 b i h s d)
    = x0 (ix2 ⟨b.val * 4096 + i.val, by omega⟩ ⟨8192 + 128 * h.val + (feat s d).val, by have := (feat s d).isLt; omega⟩) := by
  unfold val_main_v7 val_main_v3 val_main_v1 val_main_v0 feat
  pointwise
  exact congrArg x0 (congrArg _ (Fin.ext (by dsimp only; omega)))

theorem v_at (b : Fin 2) (i : Fin 4096) (h : Fin 16) (d : Fin 128) : val_main_v8 (F := Ideal) x0 (ix4 b i h d)
    = x0 (ix2 ⟨b.val * 4096 + i.val, by omega⟩ ⟨10240 + 128 * h.val + d.val, by omega⟩) := by
  unfold val_main_v8 val_main_v4 val_main_v1 val_main_v0
  pointwise
  exact congrArg x0 (congrArg _ (Fin.ext (by dsimp only; omega)))

theorem lam_at (j : S_.Idx) : val_main_v20 (F := Ideal) x1 x2 x3 x4 j
    = weight (fun x => x1 (ix2 0 x)) (fun x => x2 (ix2 0 x)) (fun x => x3 (ix2 0 x)) (fun x => x4 (ix2 0 x)) := by
  unfold val_main_v20 val_main_v19 val_main_v18 val_main_v17 val_main_v16 val_main_v15 val_main_v14 val_main_v13 val_main_v12 val_main_v11 val_main_v10 val_main_v9
    val_main_cst val_main_cst_0 val_main_cst_1 weight
  pointwise

theorem log_two (j : S_.Idx) : id (Host.log (F := Ideal) (constant S_ FTy.f32 0x40000000#32)) j = (Real.log 2 : EReal) := by
  show Ideal.log (Ideal.ofBits FTy.f32 0x40000000#32) = _
  rw [two, Ideal.log_coe, if_neg (by norm_num)]

theorem word (a : ℕ) (ha : a < 2 ^ 20) : (BitVec.ofNat 32 a).toInt = (a : ℤ) := by
  rw [BitVec.toInt_ofNat']
  simp only [Int.bmod]
  omega

theorem slope_at (h : Fin 16) : val_main_v32 (F := Ideal) (ix1 h) = (Cert.Proof.Attn.slope h : EReal) := by
  unfold val_main_v32 val_main_v31 val_main_v30 val_main_v29 val_main_v28 val_main_v27 val_main_v26 val_main_v25 val_main_v24 val_main_v23 val_main_v22 val_main_v21
    val_main_cst_2 val_main_cst_3 val_main_cst_4 val_main_cst_5
  pointwise
  rw [show FloatOps.sitofp (F := Ideal) FTy.f32 (BitVec.ofNat 32 h.val) = ((h.val : ℝ) : EReal) from congrArg (fun z : ℤ => ((z : ℝ) : EReal)) (word h.val (by omega)),
    show Ideal.ofBits FTy.f32 3238002688#32 = ((-8 : ℝ) : EReal) from negEight, show Ideal.ofBits FTy.f32 1098907648#32 = ((16 : ℝ) : EReal) from sixteen, log_two]
  rw [← EReal.coe_one, ← EReal.coe_add, ← EReal.coe_mul, Ideal.div_coe (by norm_num), ← EReal.coe_mul, ← EReal.coe_mul, Ideal.exp_coe]
  unfold Cert.Proof.Attn.slope
  congr 3
  ring

theorem bias_at (h : Fin 16) (i j : Fin 4096) : val_main_v46 (F := Ideal) (ix3 h i j) = ((-(Cert.Proof.Attn.slope h * |(i.val : ℝ) - j.val|) : ℝ) : EReal) := by
  have hs := slope_at h
  unfold val_main_v46 val_main_v45 val_main_v44 val_main_v43 val_main_v42 val_main_v41 val_main_v40 val_main_v39 val_main_v38 val_main_v37 val_main_v36 val_main_v35
    val_main_v34 val_main_v33
  generalize val_main_v32 (F := Ideal) = y at hs ⊢
  pointwise
  rw [hs]
  show _ * ((((IntOp.absi _).toInt : ℤ) : ℝ) : EReal) = _
  rw [abs_word _ _ (word_sub i.val j.val (by omega) (by omega)) (by omega) (by omega), ← EReal.coe_neg, ← EReal.coe_mul]
  push_cast
  rw [neg_mul]

variable (Q K W : Fin 2 → Fin 16 → Fin 4096 → Fin 128 → ℝ) (lam : ℝ)

theorem score_at (hQ : ∀ b h i s d, val_main_v6 (F := Ideal) x0 (ix5 b i h s d) = Q b h i (feat s d)) (hK : ∀ b h i s d, val_main_v7 (F := Ideal) x0 (ix5 b i h s d) = K b h i (feat s d))
    (b s : Fin 2) (h : Fin 16) (i j : Fin 4096) : val_main_v54 (F := Ideal) x0 (ix5 b s h i j) = (sc (Q b h i) (K b h j) s h i j : EReal) := by
  have hb := bias_at h i j
  unfold val_main_v54 val_main_v53 val_main_v52 val_main_v51 val_main_v50 val_main_v49 val_main_v48 val_main_v47 val_main_cst_6
  generalize val_main_v46 (F := Ideal) = y at hb ⊢
  generalize val_main_v6 (F := Ideal) x0 = q at hQ ⊢
  generalize val_main_v7 (F := Ideal) x0 = k at hK ⊢
  pointwise
  simp only [hQ, hK, hb, ← EReal.coe_mul, ← coe_sum]
  rw [log_two, ← EReal.coe_mul, ← EReal.coe_add]
  unfold sc
  congr 1

/-- The greatest of a query's real scores is a number. -/
theorem max_num (y : S2x2x16x4096x4096.Idx → EReal) (hy : ∀ i, ∃ r : ℝ, y i = r) (j : S2x2x16x4096.Idx) :
    ∃ r : ℝ, Host.reduce (FloatOps.maximumf (F := Ideal) (φ := .f32)) y (constant (F := Ideal) S_ .f32 0xFF800000#32) reducesTo_S2x2x16x4096x4096_S2x2x16x4096_d4 h_S_ j = r := by
  have hr : S2x2x16x4096x4096.Reduces [4] S2x2x16x4096 := by decide
  rw [Host.reduce_eq_fold_single (FloatOps.maximumf (F := Ideal) (φ := .f32)) y _ _ hr _ j]
  rw [show constant (F := Ideal) S_ .f32 0xFF800000#32 (Shape.Idx.first h_S_) = (⊥ : EReal) from Cert.AttnIdeal.Blocks.bot_bits]
  exact num_sup (n := 4095) (fun k => y (hr.lift j k)) fun k => hy _

/-- A query's greatest score. -/
theorem top_at (hS : ∀ b s h i j, ∃ r : ℝ, val_main_v54 (F := Ideal) x0 (ix5 b s h i j) = r) (i : S2x2x16x4096.Idx) :
    ∃ r : ℝ, val_main_v57 (F := Ideal) x0 i = r := by
  have h := max_num (val_main_v54 (F := Ideal) x0) (fun i => by
    have e : i = ix5 (i 0) (i 1) (i 2) (i 3) (i 4) := by funext a; fin_cases a <;> rfl
    rw [e]; exact hS _ _ _ _ _) i
  rw [val_main_v57_apply, val_main_v56_apply, val_main_cst_8_apply]
  show ∃ r : ℝ, max (Ideal.ofBits FTy.f32 0xFF800000#32) (val_main_v55 (F := Ideal) x0 i) = r
  rw [Cert.AttnIdeal.Blocks.bot_bits, max_eq_right bot_le]
  exact h

/-- The softmax of the scores. -/
theorem soft_at (b s : Fin 2) (h : Fin 16) (i j : Fin 4096) : val_main_v65 (F := Ideal) x0 (ix5 b s h i j)
    = Ideal.div (Ideal.exp (val_main_v54 (F := Ideal) x0 (ix5 b s h i j) - val_main_v57 (F := Ideal) x0 (ix4 b s h i)))
      (∑ k : Fin 4096, Ideal.exp (val_main_v54 (F := Ideal) x0 (ix5 b s h i k) - val_main_v57 (F := Ideal) x0 (ix4 b s h i))) := by
  unfold val_main_v65 val_main_v64 val_main_v63 val_main_v62 val_main_v61 val_main_v60 val_main_v59 val_main_v58 val_main_cst_9
  generalize val_main_v54 (F := Ideal) x0 = y
  generalize val_main_v57 (F := Ideal) x0 = z
  pointwise

/-- The two maps' difference. -/
theorem weights_at (b : Fin 2) (h : Fin 16) (i j : Fin 4096) : val_main_v72 (F := Ideal) x0 x1 x2 x3 x4 (ix4 b h i j)
    = val_main_v65 (F := Ideal) x0 (ix5 b 0 h i j) - val_main_v20 (F := Ideal) x1 x2 x3 x4 ix0 * val_main_v65 (F := Ideal) x0 (ix5 b 1 h i j) := by
  have e0 : idx_main_v66 (idx_main_v67 (ix4 b h i j)) = ix5 b 0 h i j := by
    funext a
    match a with
    | ⟨0, _⟩ => refine Fin.ext ?_; show (((b.val * 16 + h.val) * 4096 + i.val) * 4096 + j.val) / 268435456 = b.val; omega
    | ⟨1, _⟩ => rfl
    | ⟨2, _⟩ => refine Fin.ext ?_; show (((b.val * 16 + h.val) * 4096 + i.val) * 4096 + j.val) / 16777216 % 16 = h.val; omega
    | ⟨3, _⟩ => refine Fin.ext ?_; show (((b.val * 16 + h.val) * 4096 + i.val) * 4096 + j.val) / 4096 % 4096 = i.val; omega
    | ⟨4, _⟩ => refine Fin.ext ?_; show (((b.val * 16 + h.val) * 4096 + i.val) * 4096 + j.val) % 4096 = j.val; omega
  have e1 : idx_main_v68 (idx_main_v69 (ix4 b h i j)) = ix5 b 1 h i j := by
    funext a
    match a with
    | ⟨0, _⟩ => refine Fin.ext ?_; show (((b.val * 16 + h.val) * 4096 + i.val) * 4096 + j.val) / 268435456 = b.val; omega
    | ⟨1, _⟩ => rfl
    | ⟨2, _⟩ => refine Fin.ext ?_; show (((b.val * 16 + h.val) * 4096 + i.val) * 4096 + j.val) / 16777216 % 16 = h.val; omega
    | ⟨3, _⟩ => refine Fin.ext ?_; show (((b.val * 16 + h.val) * 4096 + i.val) * 4096 + j.val) / 4096 % 4096 = i.val; omega
    | ⟨4, _⟩ => refine Fin.ext ?_; show (((b.val * 16 + h.val) * 4096 + i.val) * 4096 + j.val) % 4096 = j.val; omega
  rw [val_main_v72_apply, val_main_v71_apply, val_main_v70_apply, val_main_v69_apply, val_main_v68_apply, val_main_v67_apply, val_main_v66_apply, e0, e1,
    show idx_main_v70 (ix4 b h i j) = ix0 from funext fun a => a.elim0]
  rfl

/-- The attention. -/
theorem attn_at (b : Fin 2) (i : Fin 4096) (h : Fin 16) (d : Fin 128) : val_main_v74 (F := Ideal) x0 x1 x2 x3 x4 (ix4 b i h d)
    = ∑ k : Fin 4096, val_main_v8 (F := Ideal) x0 (ix4 b k h d) * val_main_v72 (F := Ideal) x0 x1 x2 x3 x4 (ix4 b h i k) := by
  unfold val_main_v74 val_main_v73
  generalize val_main_v72 (F := Ideal) x0 x1 x2 x3 x4 = y
  generalize val_main_v8 (F := Ideal) x0 = z
  pointwise

/-- Its norm and scale. -/
theorem norm_at (b : Fin 2) (i : Fin 4096) (h : Fin 16) (d : Fin 128) : val_main_v92 (F := Ideal) x0 x1 x2 x3 x4 x5 (ix3 b i ⟨128 * h.val + d.val, by omega⟩)
    = Cert.AttnIdeal.Blocks.norm (fun d => val_main_v74 (F := Ideal) x0 x1 x2 x3 x4 (ix4 b i h d)) d (x5 (ix2 0 d)) := by
  rw [val_main_v92_apply, val_main_v91_apply]
  rw [show idx_main_v91 (ix3 b i ⟨128 * h.val + d.val, by omega⟩) = ix4 b i h d by
    funext a
    match a with
    | ⟨0, _⟩ => refine Fin.ext ?_; show ((b.val * 4096 + i.val) * 2048 + (128 * h.val + d.val)) / 8388608 = b.val; omega
    | ⟨1, _⟩ => refine Fin.ext ?_; show ((b.val * 4096 + i.val) * 2048 + (128 * h.val + d.val)) / 2048 % 4096 = i.val; omega
    | ⟨2, _⟩ => refine Fin.ext ?_; show ((b.val * 4096 + i.val) * 2048 + (128 * h.val + d.val)) / 128 % 16 = h.val; omega
    | ⟨3, _⟩ => refine Fin.ext ?_; show ((b.val * 4096 + i.val) * 2048 + (128 * h.val + d.val)) % 128 = d.val; omega]
  unfold val_main_v90 val_main_v89 val_main_v88 val_main_v87 val_main_v86 val_main_v85 val_main_v84 val_main_v83 val_main_v82 val_main_v81 val_main_v80 val_main_v79
    val_main_v78 val_main_v77 val_main_v76 val_main_v75 val_main_cst_10 val_main_cst_11 val_main_cst_12 val_main_cst_13 Cert.AttnIdeal.Blocks.norm
  generalize val_main_v74 (F := Ideal) x0 x1 x2 x3 x4 = y
  pointwise

/-- THE REFERENCE'S RESULT at an entry. -/
theorem result_at (hQ : ∀ b h i d, x0 (ix2 ⟨b.val * 4096 + i.val, by omega⟩ ⟨6144 + 128 * h.val + d.val, by omega⟩) = (Q b h i d : EReal))
    (hK : ∀ b h i d, x0 (ix2 ⟨b.val * 4096 + i.val, by omega⟩ ⟨8192 + 128 * h.val + d.val, by omega⟩) = (K b h i d : EReal))
    (hW : ∀ b h i d, x0 (ix2 ⟨b.val * 4096 + i.val, by omega⟩ ⟨10240 + 128 * h.val + d.val, by omega⟩) = (W b h i d : EReal))
    (hL : weight (fun x => x1 (ix2 0 x)) (fun x => x2 (ix2 0 x)) (fun x => x3 (ix2 0 x)) (fun x => x4 (ix2 0 x)) = lam)
    (b : Fin 2) (i : Fin 4096) (h : Fin 16) (d : Fin 128) : val_main_v92 (F := Ideal) x0 x1 x2 x3 x4 x5 (ix3 b i ⟨128 * h.val + d.val, by omega⟩)
    = Cert.AttnIdeal.Run.resAt Q K W lam (fun d => x5 (ix2 0 d)) b i h d := by
  have hS := score_at x0 Q K (fun b h i s d => (q_at x0 b i h s d).trans (hQ b h i _)) (fun b h i s d => (k_at x0 b i h s d).trans (hK b h i _))
  rw [norm_at]
  unfold Cert.AttnIdeal.Run.resAt
  refine congrArg (fun o => Cert.AttnIdeal.Blocks.norm o d (x5 (ix2 0 d))) (funext fun d' => ?_)
  obtain ⟨m0, h0⟩ := top_at x0 (fun b s h i j => ⟨_, hS b s h i j⟩) (ix4 b 0 h i)
  obtain ⟨m1, h1⟩ := top_at x0 (fun b s h i j => ⟨_, hS b s h i j⟩) (ix4 b 1 h i)
  rw [attn_at]
  simp only [weights_at, soft_at]
  exact diff_of_softmax _ _ _ _ _ _ _ _ _ m0 m1 lam (hS b 0 h i) (hS b 1 h i) (fun k => (v_at x0 b k h d').trans (hW b h k d')) h0 h1 ((lam_at x1 x2 x3 x4 ix0).trans hL)

end Cert.Proof.Attn.Ref
-- ==== Proof.AttnPre.lean ====
module

public import proofs.«01_k».proof.Defs
public import proofs.«01_k».proof.Proof.AttnMath

@[expose] public section

set_option maxRecDepth 16384

noncomputable section

/-! What the attention's precondition says of its arguments: queries, keys, values and the second map's weights are real numbers. -/
namespace Cert.Proof.Attn.Pre

open Cert.Pre_finite_attn Idealize.ShloMosaic

theorem top_bits : Ideal.ofBits FTy.f32 0x7F800000#32 = ⊤ := by
  simp only [Ideal.ofBits, Ideal.ieee]
  rw [if_pos (by decide), if_pos (by decide), if_neg (by decide)]

/-- A number of magnitude below infinity is real. -/
theorem real_of_lt (x : EReal) (h : Ideal.cmp .olt (max x (-x)) (Ideal.ofBits FTy.f32 0x7F800000#32) = 1#1) : ∃ r : ℝ, x = r := by
  rw [top_bits] at h
  induction x with
  | bot => simp [Ideal.cmp] at h
  | top => simp [Ideal.cmp] at h
  | coe r => exact ⟨r, rfl⟩

variable [Facts] (x0 : FVec Ideal S8192x20480 .bf16) (x1 x2 x3 x4 : FVec Ideal S1x64 .f32) (x5 : FVec Ideal S1x128 .f32)

theorem first (h : (fn (F := Ideal) x0 x1 x2 x3 x4 x5).1 = fun _ => 1#1) (r : Fin 8192) (k : Fin 6144) : ∃ y : ℝ, x0 (ix2 r ⟨6144 + k.val, by omega⟩) = y := by
  refine real_of_lt _ ((Eq.trans ?_ (congrFun h (ix2 r k))))
  unfold fn
  pointwise
  rfl

theorem lam1 (h : (fn (F := Ideal) x0 x1 x2 x3 x4 x5).2.1 = fun _ => 1#1) (k : Fin 64) : ∃ y : ℝ, x1 (ix2 0 k) = y := by
  refine real_of_lt _ ((Eq.trans ?_ (congrFun h (ix2 0 k))))
  unfold fn
  pointwise
  rfl

theorem lam2 (h : (fn (F := Ideal) x0 x1 x2 x3 x4 x5).2.2.1 = fun _ => 1#1) (k : Fin 64) : ∃ y : ℝ, x2 (ix2 0 k) = y := by
  refine real_of_lt _ ((Eq.trans ?_ (congrFun h (ix2 0 k))))
  unfold fn
  pointwise
  rfl

theorem lam3 (h : (fn (F := Ideal) x0 x1 x2 x3 x4 x5).2.2.2.1 = fun _ => 1#1) (k : Fin 64) : ∃ y : ℝ, x3 (ix2 0 k) = y := by
  refine real_of_lt _ ((Eq.trans ?_ (congrFun h (ix2 0 k))))
  unfold fn
  pointwise
  rfl

theorem lam4 (h : (fn (F := Ideal) x0 x1 x2 x3 x4 x5).2.2.2.2 = fun _ => 1#1) (k : Fin 64) : ∃ y : ℝ, x4 (ix2 0 k) = y := by
  refine real_of_lt _ ((Eq.trans ?_ (congrFun h (ix2 0 k))))
  unfold fn
  pointwise
  rfl

end Cert.Proof.Attn.Pre
-- ==== Proof.HeadSum.lean ====
module

public import Idealize.ShloMosaic.Lib.Pointwise
public import Idealize.ShloMosaic.PureOps.Ideal.Laws
public import Mathlib.Algebra.BigOperators.Fin

@[expose] public section

noncomputable section

/-! Sums over a head's 64 channels, taken as a product with a matrix that is one where two channels share a head. -/
namespace Cert.Proof.Head

open Idealize.ShloMosaic

/-- The channel of a block of four heads that stands at place `i` of the head of channel `k`. -/
def chan (k : Fin 256) (i : Fin 64) : Fin 256 := ⟨64 * (k.val / 64) + i.val, by omega⟩

/-- Whether two of a block's 256 channels belong to one head. -/
def mate (mask : Fin 256 → Fin 256 → BitVec 1) : Prop := ∀ j k : Fin 256, mask j k = if j.val / 64 = k.val / 64 then 1#1 else 0#1

/-- The sum as the kernel takes it: of the numbers, and of what their rounding leaves, which is each number less itself. -/
def split (mask : Fin 256 → Fin 256 → BitVec 1) (t : Fin 256 → EReal) (k : Fin 256) : EReal :=
  ∑ x, Scalar.select (mask x k) (t x) 0 + ∑ x, Scalar.select (mask x k) (t x - t x) 0

/-- A sum over a block's channels that keeps one head's is a sum over that head's. -/
theorem sum_head (t : Fin 256 → EReal) (k : Fin 256) : (∑ x : Fin 256, if x.val / 64 = k.val / 64 then t x else 0) = ∑ i, t (chan k i) := by
  rw [← Equiv.sum_comp (finProdFinEquiv (m := 4) (n := 64)) (fun x : Fin 256 => if x.val / 64 = k.val / 64 then t x else 0), Fintype.sum_prod_type]
  rw [Finset.sum_eq_single (⟨k.val / 64, by omega⟩ : Fin 4)]
  · refine Finset.sum_congr rfl fun i _ => ?_
    have e : (finProdFinEquiv ((⟨k.val / 64, by omega⟩ : Fin 4), i) : Fin 256) = chan k i :=
      Fin.ext (by show i.val + 64 * (k.val / 64) = 64 * (k.val / 64) + i.val; omega)
    rw [e, if_pos]
    show (64 * (k.val / 64) + i.val) / 64 = _
    omega
  · intro a _ ha
    refine Finset.sum_eq_zero fun i _ => if_neg fun h => ha (Fin.ext ?_)
    have h' : (i.val + 64 * a.val) / 64 = k.val / 64 := h
    show a.val = k.val / 64
    omega
  · intro h
    exact absurd (Finset.mem_univ _) h

/-- THE HEAD'S SUM of real numbers. -/
theorem split_eq (mask : Fin 256 → Fin 256 → BitVec 1) (hm : mate mask) (t : Fin 256 → EReal) (ht : ∀ x, ∃ r : ℝ, t x = r) (k : Fin 256) :
    split mask t k = ∑ i, t (chan k i) := by
  unfold split
  have e0 : ∀ x, t x - t x = 0 := fun x => by
    obtain ⟨r, hr⟩ := ht x
    rw [hr, ← EReal.coe_sub, sub_self, EReal.coe_zero]
  have h2 : (∑ x, Scalar.select (mask x k) (t x - t x) 0) = 0 := Finset.sum_eq_zero fun x _ => by
    rw [e0 x]; unfold Scalar.select; split <;> rfl
  rw [h2, add_zero, ← sum_head]
  refine Finset.sum_congr rfl fun x _ => ?_
  rw [hm x k]
  by_cases h : x.val / 64 = k.val / 64
  · rw [if_pos h, if_pos h]; rfl
  · rw [if_neg h, if_neg h]; rfl

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_sum {n : ℕ} (t : Fin n → EReal) (ht : ∀ x, ∃ r : ℝ, t x = r) : ∃ r : ℝ, ∑ i, t i = r := by
  choose r hr using ht
  refine ⟨∑ i, r i, ?_⟩
  rw [Finset.sum_congr rfl fun i _ => hr i]
  induction (Finset.univ : Finset (Fin n)) using Finset.induction_on with
  | empty => simp
  | insert a s ha ih => rw [Finset.sum_insert ha, Finset.sum_insert ha, ih, EReal.coe_add]

end Cert.Proof.Head
-- ==== Proof.PostValue.lean ====
module

public import proofs.«01_k».proof.Proof.Gen.PostIdeal.Value
public import proofs.«01_k».proof.Proof.HeadSum
public import Idealize.ShloMosaic.Lib.StableHlo.ReadAt
public import Idealize.ShloMosaic.Lib.Pointwise

@[expose] public section

set_option maxRecDepth 16384

noncomputable section

namespace Cert.PostIdeal.Result

open Cert.PostIdeal Cert.PostIdeal.Gen Cert.Proof.Head Idealize.ShloMosaic Idealize.ShloMosaic.TcCoe Idealize.SL.Sem

/-! The recurrence's output norm: what the call leaves in its output array. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The head that a row of the mask stands for. -/
theorem row_at (j c : Fin 256) : k0_pay2 (ix2 j c) = BitVec.ofNat 32 (j.val / 64) := by
  pointwise [k0_pay2]
  revert j
  decide +kernel

/-- The head that a column stands for. -/
theorem col_at (j c : Fin 256) : Scalar.select (IntOp.andi (k0_pay4 (ix2 j c)) (IntOp.cmpi CmpIPredicate.ne (k0_pay5 (ix2 j c)) 0#32))
    (IntOp.subi (k0_pay3 (ix2 j c)) 1#32) (k0_pay3 (ix2 j c)) = BitVec.ofNat 32 (c.val / 64) := by
  pointwise [k0_pay3, k0_pay4, k0_pay5]
  revert c
  decide +kernel

/-- The kernel's mask: whether row and column stand for one head. -/
def mask (j c : Fin 256) : BitVec 1 := IntOp.cmpi CmpIPredicate.eq (k0_pay2 (ix2 j c))
  (Scalar.select (IntOp.andi (k0_pay4 (ix2 j c)) (IntOp.cmpi CmpIPredicate.ne (k0_pay5 (ix2 j c)) 0#32))
    (IntOp.subi (k0_pay3 (ix2 j c)) 1#32) (k0_pay3 (ix2 j c)))

theorem mate_mask : mate mask := fun j c => by
  unfold mask
  rw [row_at, col_at]
  have : ∀ a b : Fin 4, IntOp.cmpi CmpIPredicate.eq (BitVec.ofNat 32 a.val) (BitVec.ofNat 32 b.val) = if a.val = b.val then 1#1 else 0#1 := by decide +kernel
  exact this ⟨j.val / 64, by omega⟩ ⟨c.val / 64, by omega⟩

/-- A channel less its head's mean, over the root of its head's variance; `w` is the weight of one channel in a mean. -/
def normed (sum : (Fin 256 → EReal) → Fin 256 → EReal) (w : EReal) (o : Fin 256 → EReal) (k : Fin 256) : EReal :=
  (o k - sum o k * w) * Ideal.rsqrt (sum (fun x => (o x - sum o x * w) * (o x - sum o x * w)) k * w + Ideal.ofBits FTy.f32 0x3A27C5AC#32)

/-- The block's normalised sum of both directions. -/
theorem pay (o1 o2 : Vec Ideal S1x4096x256 .bf16) (r : Fin 4096) (k : Fin 256) :
    k0_pay6 (F := Ideal) k0_pay2 k0_pay3 k0_pay4 k0_pay5 0#32 o1 o2 (ix2 r k)
    = normed (split mask) (Ideal.ofBits FTy.f32 0x3C800000#32) (fun x => o1 (ix3 0 r x) + o2 (ix3 0 r x)) k := by
  pointwise [k0_pay6]
  rfl

/-- Gain, bias, bonus and gate. -/
theorem pay_out (n : FVec Ideal S4096x256 .f32) (g b : Vec Ideal S1x256 .f32) (bo ga : Vec Ideal S1x4096x256 .bf16) (r : Fin 4096) (k : Fin 256) :
    k0_pay1 (F := Ideal) n g b bo ga (ix3 0 r k) = (n (ix2 r k) * g (ix2 0 k) + b (ix2 0 k) + bo (ix3 0 r k)) * ga (ix3 0 r k) := by
  pointwise [k0_pay1]

/-- The result at an entry, from a block's channels `o`. -/
def entry (sum : (Fin 256 → EReal) → Fin 256 → EReal) (o : Fin 256 → EReal) (g b bo ga : EReal) (k : Fin 256) : EReal :=
  (normed sum (Ideal.ofBits FTy.f32 0x3C800000#32) o k * g + b + bo) * ga

theorem out_at (x0 x1 x2 x3 : Vec Ideal S1x4096x256 .bf16) (x4 x5 : Vec Ideal S1x256 .f32) (r : Fin 4096) (k : Fin 256) :
    out0_6 x0 x1 x2 x3 x4 x5 (ix3 0 r k) = entry (split mask) (fun x => x0 (ix3 0 r x) + x1 (ix3 0 r x)) (x4 (ix2 0 k)) (x5 (ix2 0 k)) (x2 (ix3 0 r k)) (x3 (ix3 0 r k)) k := by
  unfold out0_6
  rw [View.canon_unit_zero hz3]
  simp only [View.ld_unit_zero (S := S1x256) hz2, View.ld_unit_zero (S := S1x4096x256) hz3]
  rw [pay_out, pay]
  rfl

variable (m : (ℓ : Loc nD τ sig) → Buf (Elt Ideal) ℓ) (c : Dev nD)

/-- Where each window stands at a grid point: sequence `t / 8`, channels from `256 (t % 8)`. -/
theorem idx0 : ∀ t : Fin cfg0.N, (win0_0.index t (0 : Fin 3) = t.val / 8 ∧ win0_0.index t (1 : Fin 3) = 0 ∧ win0_0.index t (2 : Fin 3) = t.val % 8)
    ∧ (win0_1.index t (0 : Fin 3) = t.val / 8 ∧ win0_1.index t (1 : Fin 3) = 0 ∧ win0_1.index t (2 : Fin 3) = t.val % 8)
    ∧ (win0_2.index t (0 : Fin 3) = t.val / 8 ∧ win0_2.index t (1 : Fin 3) = 0 ∧ win0_2.index t (2 : Fin 3) = t.val % 8)
    ∧ (win0_3.index t (0 : Fin 3) = t.val / 8 ∧ win0_3.index t (1 : Fin 3) = 0 ∧ win0_3.index t (2 : Fin 3) = t.val % 8)
    ∧ (win0_4.index t (0 : Fin 2) = 0 ∧ win0_4.index t (1 : Fin 2) = t.val % 8)
    ∧ (win0_5.index t (0 : Fin 2) = 0 ∧ win0_5.index t (1 : Fin 2) = t.val % 8)
    ∧ (win0_6.index t (0 : Fin 3) = t.val / 8 ∧ win0_6.index t (1 : Fin 3) = 0 ∧ win0_6.index t (2 : Fin 3) = t.val % 8) :=
  (by decide +kernel : ∀ t : Fin grid0.N, _)

theorem blk0 (t : Fin cfg0.N) (r : Fin 4096) (k : Fin 256) : iblk m c 0 t (ix3 0 r k)
    = V m c main_arg0 (ix3 ⟨t.val / 8, by have : t.val < 16 := t.isLt; omega⟩ r ⟨t.val % 8 * 256 + k.val, by omega⟩) := by
  have ht := idx0 t
  show V m c main_arg0 (((cfg0.win 0).blk t).view.emb (ix3 0 r k)) = _
  refine congrArg (V m c main_arg0) (funext fun a => Fin.ext ?_)
  match a with
  | ⟨0, _⟩ => show win0_0.index t (0 : Fin 3) * 1 + 1 * 0 = t.val / 8; rw [ht.1.1]; omega
  | ⟨1, _⟩ => show win0_0.index t (1 : Fin 3) * 4096 + 1 * r.val = r.val; rw [ht.1.2.1]; omega
  | ⟨2, _⟩ => show win0_0.index t (2 : Fin 3) * 256 + 1 * k.val = t.val % 8 * 256 + k.val; rw [ht.1.2.2]; omega

theorem blk1 (t : Fin cfg0.N) (r : Fin 4096) (k : Fin 256) : iblk m c 1 t (ix3 0 r k)
    = V m c main_arg1 (ix3 ⟨t.val / 8, by have : t.val < 16 := t.isLt; omega⟩ r ⟨t.val % 8 * 256 + k.val, by omega⟩) := by
  have ht := idx0 t
  show V m c main_arg1 (((cfg0.win 1).blk t).view.emb (ix3 0 r k)) = _
  refine congrArg (V m c main_arg1) (funext fun a => Fin.ext ?_)
  match a with
  | ⟨0, _⟩ => show win0_1.index t (0 : Fin 3) * 1 + 1 * 0 = t.val / 8; rw [ht.2.1.1]; omega
  | ⟨1, _⟩ => show win0_1.index t (1 : Fin 3) * 4096 + 1 * r.val = r.val; rw [ht.2.1.2.1]; omega
  | ⟨2, _⟩ => show win0_1.index t (2 : Fin 3) * 256 + 1 * k.val = t.val % 8 * 256 + k.val; rw [ht.2.1.2.2]; omega

theorem blk2 (t : Fin cfg0.N) (r : Fin 4096) (k : Fin 256) : iblk m c 2 t (ix3 0 r k)
    = V m c main_arg2 (ix3 ⟨t.val / 8, by have : t.val < 16 := t.isLt; omega⟩ r ⟨t.val % 8 * 256 + k.val, by omega⟩) := by
  have ht := idx0 t
  show V m c main_arg2 (((cfg0.win 2).blk t).view.emb (ix3 0 r k)) = _
  refine congrArg (V m c main_arg2) (funext fun a => Fin.ext ?_)
  match a with
  | ⟨0, _⟩ => show win0_2.index t (0 : Fin 3) * 1 + 1 * 0 = t.val / 8; rw [ht.2.2.1.1]; omega
  | ⟨1, _⟩ => show win0_2.index t (1 : Fin 3) * 4096 + 1 * r.val = r.val; rw [ht.2.2.1.2.1]; omega
  | ⟨2, _⟩ => show win0_2.index t (2 : Fin 3) * 256 + 1 * k.val = t.val % 8 * 256 + k.val; rw [ht.2.2.1.2.2]; omega

theorem blk3 (t : Fin cfg0.N) (r : Fin 4096) (k : Fin 256) : iblk m c 3 t (ix3 0 r k)
    = V m c main_arg3 (ix3 ⟨t.val / 8, by have : t.val < 16 := t.isLt; omega⟩ r ⟨t.val % 8 * 256 + k.val, by omega⟩) := by
  have ht := idx0 t
  show V m c main_arg3 (((cfg0.win 3).blk t).view.emb (ix3 0 r k)) = _
  refine congrArg (V m c main_arg3) (funext fun a => Fin.ext ?_)
  match a with
  | ⟨0, _⟩ => show win0_3.index t (0 : Fin 3) * 1 + 1 * 0 = t.val / 8; rw [ht.2.2.2.1.1]; omega
  | ⟨1, _⟩ => show win0_3.index t (1 : Fin 3) * 4096 + 1 * r.val = r.val; rw [ht.2.2.2.1.2.1]; omega
  | ⟨2, _⟩ => show win0_3.index t (2 : Fin 3) * 256 + 1 * k.val = t.val % 8 * 256 + k.val; rw [ht.2.2.2.1.2.2]; omega

theorem blk4 (t : Fin cfg0.N) (k : Fin 256) : iblk m c 4 t (ix2 0 k)
    = V m c main_v1 (ix2 0 ⟨t.val % 8 * 256 + k.val, by omega⟩) := by
  have ht := idx0 t
  show V m c main_v1 (((cfg0.win 4).blk t).view.emb (ix2 0 k)) = _
  refine congrArg (V m c main_v1) (funext fun a => Fin.ext ?_)
  match a with
  | ⟨0, _⟩ => show win0_4.index t (0 : Fin 2) * 1 + 1 * 0 = 0; rw [ht.2.2.2.2.1.1]
  | ⟨1, _⟩ => show win0_4.index t (1 : Fin 2) * 256 + 1 * k.val = t.val % 8 * 256 + k.val; rw [ht.2.2.2.2.1.2]; omega

theorem blk5 (t : Fin cfg0.N) (k : Fin 256) : iblk m c 5 t (ix2 0 k)
    = V m c main_v3 (ix2 0 ⟨t.val % 8 * 256 + k.val, by omega⟩) := by
  have ht := idx0 t
  show V m c main_v3 (((cfg0.win 5).blk t).view.emb (ix2 0 k)) = _
  refine congrArg (V m c main_v3) (funext fun a => Fin.ext ?_)
  match a with
  | ⟨0, _⟩ => show win0_5.index t (0 : Fin 2) * 1 + 1 * 0 = 0; rw [ht.2.2.2.2.2.1.1]
  | ⟨1, _⟩ => show win0_5.index t (1 : Fin 2) * 256 + 1 * k.val = t.val % 8 * 256 + k.val; rw [ht.2.2.2.2.2.1.2]; omega

theorem emb6 (t : Fin cfg0.N) (r : Fin 4096) (k : Fin 256) : ((cfg0.win 6).blk t).view.emb (ix3 0 r k)
    = ix3 ⟨t.val / 8, by have : t.val < 16 := t.isLt; omega⟩ r ⟨t.val % 8 * 256 + k.val, by omega⟩ := by
  have ht := (idx0 t).2.2.2.2.2.2
  refine funext fun a => Fin.ext ?_
  match a with
  | ⟨0, _⟩ => show win0_6.index t (0 : Fin 3) * 1 + 1 * 0 = t.val / 8; rw [ht.1]; omega
  | ⟨1, _⟩ => show win0_6.index t (1 : Fin 3) * 4096 + 1 * r.val = r.val; rw [ht.2.1]; omega
  | ⟨2, _⟩ => show win0_6.index t (2 : Fin 3) * 256 + 1 * k.val = t.val % 8 * 256 + k.val; rw [ht.2.2]; omega

theorem v1_at (k : Fin 2048) : V m c main_v1 (ix2 0 k) = m ((c : Thread nD τ).loc main_arg4) (ix2 0 k) := by
  unfold V; after_reads_at

theorem v3_at (k : Fin 2048) : V m c main_v3 (ix2 0 k) = m ((c : Thread nD τ).loc main_arg5) (ix2 0 k) := by
  unfold V; after_reads_at

/-- The result array, in terms of the arguments. -/
def resOf (x0 x1 x2 x3 : (⟨3, ![2, 4096, 2048]⟩ : Shape).Idx → EReal) (x4 x5 : (⟨2, ![1, 2048]⟩ : Shape).Idx → EReal) (i : (⟨3, ![2, 4096, 2048]⟩ : Shape).Idx) : EReal :=
  entry (split mask) (fun x => x0 (ix3 (i 0) (i 1) ⟨(i 2).val / 256 * 256 + x.val, by have : (i 2).val < 2048 := (i 2).isLt; omega⟩)
      + x1 (ix3 (i 0) (i 1) ⟨(i 2).val / 256 * 256 + x.val, by have : (i 2).val < 2048 := (i 2).isLt; omega⟩))
    (x4 (ix2 0 (i 2))) (x5 (ix2 0 (i 2))) (x2 (ix3 (i 0) (i 1) (i 2))) (x3 (ix3 (i 0) (i 1) (i 2))) ⟨(i 2).val % 256, by omega⟩

theorem resOf_at (x0 x1 x2 x3 : (⟨3, ![2, 4096, 2048]⟩ : Shape).Idx → EReal) (x4 x5 : (⟨2, ![1, 2048]⟩ : Shape).Idx → EReal) (b : Fin 2) (r : Fin 4096) (q : ℕ) (hq : q < 8) (k : Fin 256) :
    resOf x0 x1 x2 x3 x4 x5 (ix3 b r ⟨q * 256 + k.val, by omega⟩)
    = entry (split mask) (fun x => x0 (ix3 b r ⟨q * 256 + x.val, by omega⟩) + x1 (ix3 b r ⟨q * 256 + x.val, by omega⟩)) (x4 (ix2 0 ⟨q * 256 + k.val, by omega⟩))
      (x5 (ix2 0 ⟨q * 256 + k.val, by omega⟩)) (x2 (ix3 b r ⟨q * 256 + k.val, by omega⟩)) (x3 (ix3 b r ⟨q * 256 + k.val, by omega⟩)) k := by
  have e : ∀ x : Fin 256, (⟨(q * 256 + k.val) / 256 * 256 + x.val, by omega⟩ : Fin 2048) = ⟨q * 256 + x.val, by omega⟩ := fun x => Fin.ext (by
    show (q * 256 + k.val) / 256 * 256 + x.val = q * 256 + x.val; omega)
  exact congrArg₂ (fun o k' => entry (split mask) o (x4 (ix2 0 ⟨q * 256 + k.val, by omega⟩)) (x5 (ix2 0 ⟨q * 256 + k.val, by omega⟩))
      (x2 (ix3 b r ⟨q * 256 + k.val, by omega⟩)) (x3 (ix3 b r ⟨q * 256 + k.val, by omega⟩)) k')
    (funext fun x => congrArg (fun y => x0 (ix3 b r y) + x1 (ix3 b r y)) (e x)) (Fin.ext (by show (q * 256 + k.val) % 256 = k.val; omega))

abbrev res : Vec Ideal S2x4096x2048 .bf16 := resOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem flushed (t : Fin cfg0.N) : (dats m 0 c).flushed 6 t = ((cfg0.win 6).blk t).view.read (Elt Ideal) (res m c) := by
  rw [Cert.PostIdeal.Value.flushed6]
  refine funext fun (j : S1x4096x256.Idx) => ?_
  obtain ⟨r, k, rfl⟩ : ∃ (r : Fin 4096) (k : Fin 256), j = ix3 0 r k := ⟨j 1, j 2, by
    funext a
    match a with
    | ⟨0, _⟩ => exact Fin.ext (by have : (j 0).val < 1 := (j 0).isLt; show (j 0).val = 0; omega)
    | ⟨1, _⟩ => rfl
    | ⟨2, _⟩ => rfl⟩
  show out0_6 (iblk m c 0 t) (iblk m c 1 t) (iblk m c 2 t) (iblk m c 3 t) (iblk m c 4 t) (iblk m c 5 t) (ix3 0 r k)
    = res m c (((cfg0.win 6).blk t).view.emb (ix3 0 r k))
  refine Eq.trans ?_ (congrArg (res m c) (emb6 t r k)).symm
  have e := resOf_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨t.val / 8, by have : t.val < 16 := t.isLt; omega⟩ r (t.val % 8) (by omega) k
  refine Eq.trans ?_ e.symm
  rw [out_at]
  simp only [blk0, blk1, blk2, blk3, blk4, blk5]
  rw [v1_at m c, v3_at m c, V_main_arg0, V_main_arg1, V_main_arg2, V_main_arg3]

theorem covered (i : S2x4096x2048.Idx) : ∃ t : Fin cfg0.N, (cfg0.win 6).flush t = true ∧ i ∈ ((cfg0.win 6).blk t).view.set := by
  obtain ⟨b, r, k, rfl⟩ : ∃ (b : Fin 2) (r : Fin 4096) (k : Fin 2048), i = ix3 b r k := ⟨i 0, i 1, i 2, by funext a; fin_cases a <;> rfl⟩
  have hN : 8 * b.val + k.val / 256 < cfg0.N := by show _ < 16; omega
  refine ⟨⟨8 * b.val + k.val / 256, hN⟩, flush0_6 _, ?_⟩
  have h := ((cfg0.win 6).blk ⟨8 * b.val + k.val / 256, hN⟩).view.emb_mem_set (ix3 0 r ⟨k.val % 256, by omega⟩)
  rw [emb6] at h
  have e : ix3 (n0 := 2) (n1 := 4096) (n2 := 2048) ⟨(8 * b.val + k.val / 256) / 8, by omega⟩ r ⟨(8 * b.val + k.val / 256) % 8 * 256 + k.val % 256, by omega⟩ = ix3 b r k := by
    funext a
    match a with
    | ⟨0, _⟩ => exact Fin.ext (by show (8 * b.val + k.val / 256) / 8 = b.val; omega)
    | ⟨1, _⟩ => rfl
    | ⟨2, _⟩ => exact Fin.ext (by show (8 * b.val + k.val / 256) % 8 * 256 + k.val % 256 = k.val; omega)
  exact e ▸ h

/-- THE CALL'S ARRAY. -/
theorem final : (dats m 0 c).arrAt 6 cfg0.N = res m c :=
  (dats m 0 c).arrAt_eq_of_cover 6 _ (fun t _ => flushed m c t) covered

end Cert.PostIdeal.Result
-- ==== Proof.PostRef.lean ====
module

public import proofs.«01_k».proof.Proof.Gen.PostReferenceIdeal.Read
public import proofs.«01_k».proof.Proof.PostValue

@[expose] public section

set_option maxRecDepth 16384

noncomputable section

/-! The reference's output norm at an index. -/
namespace Cert.Proof.Post

open Cert.PostReferenceIdeal Cert.PostReferenceIdeal.Gen Cert.PostReferenceIdeal.Read Cert.Proof.Head Idealize.ShloMosaic Idealize.ShloMosaic.TcCoe Idealize.SL.Sem

variable (x0 x1 x2 x3 : (⟨S2x4096x2048, .bf16⟩ : BufTy).Contents (Elt Ideal)) (x4 x5 : (⟨S1x2048, .f32⟩ : BufTy).Contents (Elt Ideal))

/-- One head's channels, normalised with quotients. -/
def headNorm (o : Fin 64 → EReal) (i : Fin 64) : EReal :=
  (o i - Ideal.div (∑ x, o x) (Ideal.ofBits FTy.f32 0x42800000#32)) * Ideal.rsqrt (Ideal.div (∑ y, (o y - Ideal.div (∑ x, o x) (Ideal.ofBits FTy.f32 0x42800000#32))
    * (o y - Ideal.div (∑ x, o x) (Ideal.ofBits FTy.f32 0x42800000#32))) (Ideal.ofBits FTy.f32 0x42800000#32) + Ideal.ofBits FTy.f32 0x3A27C5AC#32)

theorem sum_at (b : Fin 2) (t : Fin 4096) (h : Fin 32) (i : Fin 64) : val_main_v3 (F := Ideal) x0 x1 (ix4 b t h i)
    = x0 (ix3 b t ⟨64 * h.val + i.val, by omega⟩) + x1 (ix3 b t ⟨64 * h.val + i.val, by omega⟩) := by
  unfold val_main_v3 val_main_v2 val_main_v1 val_main_v0
  pointwise
  exact congrArg (fun y => x0 (ix3 b t y) + x1 (ix3 b t y)) (Fin.ext (by show h.val * 64 + i.val = 64 * h.val + i.val; omega))

theorem norm_at (b : Fin 2) (t : Fin 4096) (h : Fin 32) (i : Fin 64) : val_main_v21 (F := Ideal) x0 x1 (ix4 b t h i)
    = headNorm (fun x => val_main_v3 (F := Ideal) x0 x1 (ix4 b t h x)) i := by
  unfold val_main_v21 val_main_v20 val_main_v19 val_main_v18 val_main_v17 val_main_v16 val_main_v15 val_main_v14 val_main_v13 val_main_v12 val_main_v11 val_main_v10 val_main_v9
    val_main_v8 val_main_v7 val_main_v6 val_main_v5 val_main_v4 val_main_cst val_main_cst_0 val_main_cst_1 val_main_cst_2 val_main_cst_3 headNorm
  generalize val_main_v3 (F := Ideal) x0 x1 = y
  pointwise

theorem ref_at (b : Fin 2) (t : Fin 4096) (h : Fin 32) (i : Fin 64) : val_main_v35 (F := Ideal) x0 x1 x2 x3 x4 x5 (ix3 b t ⟨64 * h.val + i.val, by omega⟩)
    = (headNorm (fun x => val_main_v3 (F := Ideal) x0 x1 (ix4 b t h x)) i * x4 (ix2 0 ⟨64 * h.val + i.val, by omega⟩) + x5 (ix2 0 ⟨64 * h.val + i.val, by omega⟩)
      + x2 (ix3 b t ⟨64 * h.val + i.val, by omega⟩)) * x3 (ix3 b t ⟨64 * h.val + i.val, by omega⟩) := by
  rw [← norm_at]
  rw [val_main_v35_apply, val_main_v34_apply, val_main_v33_apply, val_main_v32_apply, val_main_v31_apply, val_main_v30_apply, val_main_v26_apply, val_main_v22_apply]
  rw [show idx_main_v22 (ix3 b t ⟨64 * h.val + i.val, by omega⟩) = ix4 b t h i by
    funext a
    match a with
    | ⟨0, _⟩ => refine Fin.ext ?_; show ((b.val * 4096 + t.val) * 2048 + (64 * h.val + i.val)) / 8388608 = b.val; omega
    | ⟨1, _⟩ => refine Fin.ext ?_; show ((b.val * 4096 + t.val) * 2048 + (64 * h.val + i.val)) / 2048 % 4096 = t.val; omega
    | ⟨2, _⟩ => refine Fin.ext ?_; show ((b.val * 4096 + t.val) * 2048 + (64 * h.val + i.val)) / 64 % 32 = h.val; omega
    | ⟨3, _⟩ => refine Fin.ext ?_; show ((b.val * 4096 + t.val) * 2048 + (64 * h.val + i.val)) % 64 = i.val; omega]
  generalize val_main_v21 (F := Ideal) x0 x1 (ix4 b t h i) = y
  pointwise [val_main_v29, val_main_v28, val_main_v27, val_main_v25, val_main_v24, val_main_v23]

theorem word_64 : Ideal.ofBits FTy.f32 0x42800000#32 = ((64 : ℝ) : EReal) := by
  simp only [Ideal.ofBits, Ideal.ieee]
  norm_num [Nat.shiftRight_eq_div_pow]
  decide

theorem word_inv : Ideal.ofBits FTy.f32 0x3C800000#32 = (((64 : ℝ)⁻¹ : ℝ) : EReal) := by
  simp only [Ideal.ofBits, Ideal.ieee]
  norm_num [Nat.shiftRight_eq_div_pow]
  decide

theorem div_64 (x : EReal) : Ideal.div x (Ideal.ofBits FTy.f32 0x42800000#32) = x * Ideal.ofBits FTy.f32 0x3C800000#32 := by
  rw [word_64, word_inv]
  unfold Ideal.div
  rw [if_neg (by rw [← EReal.coe_zero, EReal.coe_eq_coe_iff]; norm_num), EReal.coe_inv]

/-- Of real numbers, the kernel's normalised channel is the reference's. -/
theorem normed_eq (o : Fin 256 → EReal) (ho : ∀ x, ∃ r : ℝ, o x = r) (k : Fin 256) :
    Cert.PostIdeal.Result.normed (split Cert.PostIdeal.Result.mask) (Ideal.ofBits FTy.f32 0x3C800000#32) o k
    = headNorm (fun i => o (chan k i)) ⟨k.val % 64, by omega⟩ := by
  unfold Cert.PostIdeal.Result.normed headNorm
  have ek : chan k ⟨k.val % 64, by omega⟩ = k := Fin.ext (by show 64 * (k.val / 64) + k.val % 64 = k.val; omega)
  have ec : ∀ i j, chan (chan k i) j = chan k j := fun i j => Fin.ext (by
    show 64 * ((64 * (k.val / 64) + i.val) / 64) + j.val = 64 * (k.val / 64) + j.val; omega)
  have e1 : ∀ x, split Cert.PostIdeal.Result.mask o x = ∑ i, o (chan x i) := fun x => split_eq _ Cert.PostIdeal.Result.mate_mask o ho x
  have hr : ∀ x, ∃ r : ℝ, o x - split Cert.PostIdeal.Result.mask o x * Ideal.ofBits FTy.f32 0x3C800000#32 = r := fun x => by
    rw [e1 x, word_inv]
    exact real_sub (ho x) (real_mul (real_sum _ fun i => ho _) ⟨_, rfl⟩)
  rw [split_eq _ Cert.PostIdeal.Result.mate_mask (fun x => (o x - split Cert.PostIdeal.Result.mask o x * Ideal.ofBits FTy.f32 0x3C800000#32)
    * (o x - split Cert.PostIdeal.Result.mask o x * Ideal.ofBits FTy.f32 0x3C800000#32)) (fun x => real_mul (hr x) (hr x))]
  simp only [e1, div_64, ek, ec]

/-- THE RESULT: of real sums, the kernel's array at an entry is the reference's. -/
theorem result_at (h0 : ∀ i, ∃ r : ℝ, x0 i = r) (h1 : ∀ i, ∃ r : ℝ, x1 i = r) (b : Fin 2) (t : Fin 4096) (k : Fin 2048) :
    val_main_v35 (F := Ideal) x0 x1 x2 x3 x4 x5 (ix3 b t k) = Cert.PostIdeal.Result.resOf x0 x1 x2 x3 x4 x5 (ix3 b t k) := by
  obtain ⟨h, i, rfl⟩ : ∃ (h : Fin 32) (i : Fin 64), k = ⟨64 * h.val + i.val, by omega⟩ :=
    ⟨⟨k.val / 64, by omega⟩, ⟨k.val % 64, by omega⟩, Fin.ext (by show k.val = 64 * (k.val / 64) + k.val % 64; omega)⟩
  rw [ref_at]
  simp only [sum_at]
  have e := Cert.PostIdeal.Result.resOf_at x0 x1 x2 x3 x4 x5 b t (h.val / 4) (by omega) ⟨64 * (h.val % 4) + i.val, by omega⟩
  have ek : (⟨h.val / 4 * 256 + (64 * (h.val % 4) + i.val), by omega⟩ : Fin 2048) = ⟨64 * h.val + i.val, by omega⟩ :=
    Fin.ext (by show h.val / 4 * 256 + (64 * (h.val % 4) + i.val) = 64 * h.val + i.val; omega)
  dsimp only at e
  rw [ek] at e
  rw [e]
  unfold Cert.PostIdeal.Result.entry
  rw [normed_eq _ (fun x => real_add (h0 _) (h1 _))]
  have ei : (⟨(64 * (h.val % 4) + i.val) % 64, by omega⟩ : Fin 64) = i := Fin.ext (by show (64 * (h.val % 4) + i.val) % 64 = i.val; omega)
  have ex : ∀ x : Fin 64, (⟨h.val / 4 * 256 + (chan ⟨64 * (h.val % 4) + i.val, by omega⟩ x).val, by omega⟩ : Fin 2048) = ⟨64 * h.val + x.val, by omega⟩ := fun x =>
    Fin.ext (by show h.val / 4 * 256 + (64 * ((64 * (h.val % 4) + i.val) / 64) + x.val) = 64 * h.val + x.val; omega)
  simp only [ex]
  rw [ei]

end Cert.Proof.Post
-- ==== Proof.PostPre.lean ====
module

public import proofs.«01_k».proof.Defs
public import proofs.«01_k».proof.Proof.AttnPre

@[expose] public section

set_option maxRecDepth 16384

noncomputable section

/-! What the output norm's precondition says of its arguments: both directions' outputs are real numbers. -/
namespace Cert.Proof.Post.Pre

open Cert.Pre_finite_post Idealize.ShloMosaic

variable [Facts] (x0 x1 x2 x3 : FVec Ideal S2x4096x2048 .bf16) (x4 x5 : FVec Ideal S1x2048 .f32)

theorem first (h : (fn (F := Ideal) x0 x1 x2 x3 x4 x5).1 = fun _ => 1#1) (i : S2x4096x2048.Idx) : ∃ y : ℝ, x0 i = y := by
  refine Attn.Pre.real_of_lt _ ((Eq.trans ?_ (congrFun h i)))
  unfold fn
  pointwise
  rfl

theorem second (h : (fn (F := Ideal) x0 x1 x2 x3 x4 x5).2 = fun _ => 1#1) (i : S2x4096x2048.Idx) : ∃ y : ℝ, x1 i = y := by
  refine Attn.Pre.real_of_lt _ ((Eq.trans ?_ (congrFun h i)))
  unfold fn
  pointwise
  rfl

end Cert.Proof.Post.Pre
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Attn
public import proofs.«01_k».proof.Proof.Gen.Pre_finite_attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.Pre_finite_post
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.MlpOut
public import proofs.«01_k».proof.Proof.Gen.MlpOut.Skeleton
public import proofs.«01_k».proof.Proof.Gen.MlpOut.Launch
public import proofs.«01_k».proof.Proof.Gen.MlpOut.Points
public import proofs.«01_k».proof.Proof.Gen.MlpOut.Frame
public import proofs.«01_k».proof.Proof.Gen.MlpOutIdeal
public import proofs.«01_k».proof.Proof.Gen.MlpOutIdeal.Skeleton
public import proofs.«01_k».proof.Proof.Gen.MlpOutIdeal.Launch
public import proofs.«01_k».proof.Proof.Gen.MlpOutIdeal.Points
public import proofs.«01_k».proof.Proof.Gen.MlpOutIdeal.Frame
public import proofs.«01_k».proof.Proof.Gen.MlpOutIdeal.Value
public import proofs.«01_k».proof.Proof.Gen.MlpOutReferenceIdeal
public import proofs.«01_k».proof.Proof.Gen.MlpOutReferenceIdeal.Run
public import proofs.«01_k».proof.Proof.Gen.MlpOutReferenceIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastReferenceIdeal
public import proofs.«01_k».proof.Proof.Gen.LastReferenceIdeal.Run
public import proofs.«01_k».proof.Proof.Gen.LastReferenceIdeal.Read
public import Idealize.ShloMosaic.Adequacy
public import Idealize.ShloMosaic.Init
public import Idealize.ShloMosaic.Lib.Quiescent
public import proofs.«01_k».proof.Proof.FrontRun
public import proofs.«01_k».proof.Proof.MixRun
public import proofs.«01_k».proof.Proof.MixRef
public import proofs.«01_k».proof.Proof.BackRef
public import proofs.«01_k».proof.Proof.AttnRef
public import proofs.«01_k».proof.Proof.AttnPre
public import proofs.«01_k».proof.Proof.PostRef
public import proofs.«01_k».proof.Proof.PostPre

@[expose] public section

noncomputable section

/-! The layer's parts: the frames are the programs' own runs; each value claim reads both programs' results an entry at a
time and finds the same extended real in both. -/
namespace Cert.Proof

open Idealize.ShloMosaic Idealize.ShloMosaic.TcCoe Idealize.SL.Sem

/-- The reference terminates from every memory, its arguments and every counter unchanged. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Both programs leave the same two arrays. -/
theorem front : Cert.algebraic_KernelIdeal_ReferenceIdeal := by
  intro m ρ m' ρ' _ hargs
  refine ⟨fun c => Cert.KernelIdeal.Gen.W9 m ρ c (Proc.devRef .tc Cert.KernelIdeal.main_v16),
    fun c => Cert.KernelIdeal.Gen.W9 m ρ c (Proc.devRef .tc Cert.KernelIdeal.main_v17), ?_, ?_⟩
  · refine (θ_run _ _ _).mono (fun r h c => ?_) (Cert.KernelIdeal.Ran.run_all m ρ)
    exact ⟨h c _ (Cert.KernelIdeal.Gen.mem_uc Cert.KernelIdeal.main_v16 (by decide)),
      h c _ (Cert.KernelIdeal.Gen.mem_uc Cert.KernelIdeal.main_v17 (by decide)),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c)⟩
  · refine (θ_run _ _ _).mono (fun r h c => ?_) (Cert.ReferenceIdeal.Value.run m' ρ')
    obtain ⟨h0, h1, h2⟩ := hargs c
    refine ⟨(h c).1.trans ?_, (h c).2.1.trans ?_, (h c).2.2⟩
    · rw [Cert.ReferenceIdeal.Read.val_main_v28_eq, h0, h1, h2]
      refine funext fun (i : Cert.KernelIdeal.S8192x20480.Idx) => ?_
      obtain ⟨a, b, rfl⟩ : ∃ a b, i = ix2 a b := ⟨i 0, i 1, by funext a; fin_cases a <;> rfl⟩
      exact (Cert.ReferenceIdeal.At.v28_at _ _ _ a b).trans (Cert.KernelIdeal.Ran.v16_at m ρ c a b).symm
    · rw [Cert.ReferenceIdeal.Read.val_main_v29_eq, h0, h1, h2]
      refine funext fun (i : Cert.KernelIdeal.S8192x512.Idx) => ?_
      obtain ⟨a, b, rfl⟩ : ∃ a b, i = ix2 a b := ⟨i 0, i 1, by funext a; fin_cases a <;> rfl⟩
      exact (Cert.ReferenceIdeal.At.v29_at _ _ _ a b).trans (Cert.KernelIdeal.Ran.v17_at m ρ c a b).symm

theorem frame_Attn_reference : Cert.quiescent_AttnReferenceIdeal := fun m ρ _ =>
  (θ_run Cert.AttnReferenceIdeal.defs _ _).mono (fun r h => ⟨fun c => (h c).2, sem_eq_zero_of_no_sems (by decide) r.2⟩)
    (Cert.AttnReferenceIdeal.Value.run m ρ)

theorem frame_Attn_reference_pre [Cert.Pre_finite_attn.Facts] : Cert.quiescent_AttnReferenceIdeal_pre_finite_attn := fun m ρ _ =>
  (θ_run Cert.AttnReferenceIdeal.defs _ _).mono (fun r h => ⟨fun c => (h c).2, sem_eq_zero_of_no_sems (by decide) r.2⟩)
    (Cert.AttnReferenceIdeal.Value.run m ρ)

/-- The one constant named: `log2e` is `1 / log 2`. -/
theorem keeps_Attn : Cert.preserves_Attn_AttnIdeal :=
  IdealRules.named_const.statement Cert.AttnIdeal.κ "log2e" .f32 0x3FB8AA3B#32 (((Real.log 2)⁻¹ : ℝ) : EReal) rfl

open Cert.AttnIdeal Cert.AttnIdeal.Gen in
/-- The differential attention: of finite queries, keys, values and weights, both programs leave the same array. -/
theorem attn [Cert.Pre_finite_attn.Facts] : Cert.algebraic_AttnIdeal_AttnReferenceIdeal_pre_finite_attn := by
  intro m ρ m' ρ' hpre hargs
  refine ⟨fun c => (dats m 0 c).arrAt 9 cfg0.N, Cert.AttnIdeal.Value.run_blocks m ρ, ?_⟩
  refine (θ_run _ _ _).mono (fun r h c => ?_) (Cert.AttnReferenceIdeal.Value.run m' ρ')
  obtain ⟨h0, h1, h2, h3, h4, h5⟩ := hargs c
  obtain ⟨p0, p1, p2, p3, p4⟩ := hpre c
  refine ⟨(h c).1.trans ?_, (h c).2⟩
  beta_reduce
  have hx := Attn.Pre.first _ _ _ _ _ _ p0
  obtain ⟨lam, hlam⟩ := Attn.weight_real _ _ _ _ (Attn.Pre.lam1 _ _ _ _ _ _ p1) (Attn.Pre.lam2 _ _ _ _ _ _ p2) (Attn.Pre.lam3 _ _ _ _ _ _ p3)
    (Attn.Pre.lam4 _ _ _ _ _ _ p4)
  choose X hX using hx
  have hq : ∀ (b : Fin 2) (h : Fin 16) (i : Fin 4096) (d : Fin 128), m ((c : Thread nD τ).loc main_arg0) (ix2 ⟨b.val * 4096 + i.val, by omega⟩ ⟨6144 + 128 * h.val + d.val, by omega⟩)
      = (X ⟨b.val * 4096 + i.val, by omega⟩ ⟨128 * h.val + d.val, by omega⟩ : EReal) := fun b h i d =>
    (congrArg (fun k => m ((c : Thread nD τ).loc main_arg0) (ix2 ⟨b.val * 4096 + i.val, by omega⟩ k)) (Fin.ext (by dsimp only; omega))).trans (hX _ _)
  have hk : ∀ (b : Fin 2) (h : Fin 16) (i : Fin 4096) (d : Fin 128), m ((c : Thread nD τ).loc main_arg0) (ix2 ⟨b.val * 4096 + i.val, by omega⟩ ⟨8192 + 128 * h.val + d.val, by omega⟩)
      = (X ⟨b.val * 4096 + i.val, by omega⟩ ⟨2048 + 128 * h.val + d.val, by omega⟩ : EReal) := fun b h i d =>
    (congrArg (fun k => m ((c : Thread nD τ).loc main_arg0) (ix2 ⟨b.val * 4096 + i.val, by omega⟩ k)) (Fin.ext (by dsimp only; omega))).trans (hX _ _)
  have hw : ∀ (b : Fin 2) (h : Fin 16) (i : Fin 4096) (d : Fin 128), m ((c : Thread nD τ).loc main_arg0) (ix2 ⟨b.val * 4096 + i.val, by omega⟩ ⟨10240 + 128 * h.val + d.val, by omega⟩)
      = (X ⟨b.val * 4096 + i.val, by omega⟩ ⟨4096 + 128 * h.val + d.val, by omega⟩ : EReal) := fun b h i d =>
    (congrArg (fun k => m ((c : Thread nD τ).loc main_arg0) (ix2 ⟨b.val * 4096 + i.val, by omega⟩ k)) (Fin.ext (by dsimp only; omega))).trans (hX _ _)
  rw [Cert.AttnIdeal.Run.final m c (fun b h i d => X ⟨b.val * 4096 + i.val, by omega⟩ ⟨128 * h.val + d.val, by omega⟩)
    (fun b h i d => X ⟨b.val * 4096 + i.val, by omega⟩ ⟨2048 + 128 * h.val + d.val, by omega⟩)
    (fun b h i d => X ⟨b.val * 4096 + i.val, by omega⟩ ⟨4096 + 128 * h.val + d.val, by omega⟩) lam
    (fun b h i d => (Cert.AttnIdeal.Run.v0_at m c b i _).trans (hq b h i d)) (fun b h i d => (Cert.AttnIdeal.Run.v0_at m c b i _).trans (hk b h i d))
    (fun b h i d => (Cert.AttnIdeal.Run.v0_at m c b i _).trans (hw b h i d)) ((Cert.AttnIdeal.Run.lamOf_eq m c).trans hlam)]
  rw [Cert.AttnReferenceIdeal.Read.val_main_v92_eq, h0, h1, h2, h3, h4, h5]
  refine funext fun (i : S2x4096x2048.Idx) => ?_
  obtain ⟨b, t, h, d, rfl⟩ : ∃ (b : Fin 2) (t : Fin 4096) (h : Fin 16) (d : Fin 128), i = ix3 b t ⟨128 * h.val + d.val, by omega⟩ :=
    ⟨i 0, i 1, ⟨(i 2).val / 128, by have : (i 2).val < 2048 := (i 2).isLt; omega⟩, ⟨(i 2).val % 128, by omega⟩, by
      funext a
      match a with
      | ⟨0, _⟩ => rfl
      | ⟨1, _⟩ => rfl
      | ⟨2, _⟩ => exact Fin.ext (show (i 2).val = 128 * ((i 2).val / 128) + (i 2).val % 128 by omega)⟩
  rw [Cert.AttnIdeal.Run.resOf_at]
  rw [funext (fun d => Cert.AttnIdeal.Run.v10_at m c d)]
  exact Attn.Ref.result_at _ _ _ _ _ _ _ _ _ lam hq hk hw hlam b t h d

theorem frame_Post_reference : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run m ρ)

theorem frame_Post_reference_pre [Cert.Pre_finite_post.Facts] : Cert.quiescent_PostReferenceIdeal_pre_finite_post := fun m ρ _ =>
  (θ_run Cert.PostReferenceIdeal.defs _ _).mono (fun r h => ⟨fun c => (h c).2, sem_eq_zero_of_no_sems (by decide) r.2⟩)
    (Cert.PostReferenceIdeal.Value.run m ρ)

open Cert.PostIdeal Cert.PostIdeal.Gen in
/-- The recurrence's output norm: of finite outputs in both directions, both programs leave the same array. -/
theorem post [Cert.Pre_finite_post.Facts] : Cert.algebraic_PostIdeal_PostReferenceIdeal_pre_finite_post := by
  intro m ρ m' ρ' hpre hargs
  refine ⟨fun c => (dats m 0 c).arrAt 6 cfg0.N, Cert.PostIdeal.Value.run_blocks m ρ, ?_⟩
  refine (θ_run _ _ _).mono (fun r h c => ?_) (Cert.PostReferenceIdeal.Value.run m' ρ')
  obtain ⟨h0, h1, h2, h3, h4, h5⟩ := hargs c
  obtain ⟨p0, p1⟩ := hpre c
  refine ⟨(h c).1.trans ?_, (h c).2⟩
  beta_reduce
  rw [Cert.PostIdeal.Result.final m c]
  rw [Cert.PostReferenceIdeal.Read.val_main_v35_eq, h0, h1, h2, h3, h4, h5]
  refine funext fun (i : S2x4096x2048.Idx) => ?_
  obtain ⟨b, t, k, rfl⟩ : ∃ (b : Fin 2) (t : Fin 4096) (k : Fin 2048), i = ix3 b t k := ⟨i 0, i 1, i 2, by funext a; fin_cases a <;> rfl⟩
  exact Post.result_at _ _ _ _ _ _ (Post.Pre.first _ _ _ _ _ _ p0) (Post.Pre.second _ _ _ _ _ _ p1) b t k

theorem frame_Mix_reference : Cert.quiescent_MixReferenceIdeal := fun m ρ _ =>
  (θ_run Cert.MixReferenceIdeal.defs _ _).mono (fun r h => ⟨fun c => (h c).2.2, sem_eq_zero_of_no_sems (by decide) r.2⟩)
    (Cert.MixReferenceIdeal.Value.run m ρ)

theorem frame_MlpOut_reference : Cert.quiescent_MlpOutReferenceIdeal := fun m ρ _ =>
  (θ_run Cert.MlpOutReferenceIdeal.defs _ _).mono (fun r h => ⟨fun c => (h c).2, sem_eq_zero_of_no_sems (by decide) r.2⟩)
    (Cert.MlpOutReferenceIdeal.Value.run m ρ)

theorem frame_Last_reference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run m ρ)

/-- From the mixers' outputs to the MLP's first product, both programs leave the same two arrays. -/
theorem mix : Cert.algebraic_MixIdeal_MixReferenceIdeal := by
  intro m ρ m' ρ' _ hargs
  refine ⟨fun c => Cert.MixIdeal.Gen.W8 m ρ c (Proc.devRef .tc Cert.MixIdeal.main_v12_0), fun c => Cert.MixIdeal.Gen.W8 m ρ c (Proc.devRef .tc Cert.MixIdeal.main_v14), ?_, ?_⟩
  · refine (θ_run _ _ _).mono (fun r h c => ?_) (Cert.MixIdeal.Ran.run_all m ρ)
    exact ⟨h c _ (Cert.MixIdeal.Gen.mem_uc Cert.MixIdeal.main_v12_0 (by decide)), h c _ (Cert.MixIdeal.Gen.mem_uc Cert.MixIdeal.main_v14 (by decide)),
      (h c _ (Cert.MixIdeal.Gen.mem_uc Cert.MixIdeal.main_arg0 (by decide))).trans (Cert.MixIdeal.Gen.W8_main_arg0 m ρ c),
      (h c _ (Cert.MixIdeal.Gen.mem_uc Cert.MixIdeal.main_arg1 (by decide))).trans (Cert.MixIdeal.Gen.W8_main_arg1 m ρ c),
      (h c _ (Cert.MixIdeal.Gen.mem_uc Cert.MixIdeal.main_arg2 (by decide))).trans (Cert.MixIdeal.Gen.W8_main_arg2 m ρ c),
      (h c _ (Cert.MixIdeal.Gen.mem_uc Cert.MixIdeal.main_arg3 (by decide))).trans (Cert.MixIdeal.Gen.W8_main_arg3 m ρ c),
      (h c _ (Cert.MixIdeal.Gen.mem_uc Cert.MixIdeal.main_arg4 (by decide))).trans (Cert.MixIdeal.Gen.W8_main_arg4 m ρ c),
      (h c _ (Cert.MixIdeal.Gen.mem_uc Cert.MixIdeal.main_arg5 (by decide))).trans (Cert.MixIdeal.Gen.W8_main_arg5 m ρ c),
      (h c _ (Cert.MixIdeal.Gen.mem_uc Cert.MixIdeal.main_arg6 (by decide))).trans (Cert.MixIdeal.Gen.W8_main_arg6 m ρ c),
      (h c _ (Cert.MixIdeal.Gen.mem_uc Cert.MixIdeal.main_arg7 (by decide))).trans (Cert.MixIdeal.Gen.W8_main_arg7 m ρ c),
      (h c _ (Cert.MixIdeal.Gen.mem_uc Cert.MixIdeal.main_arg8 (by decide))).trans (Cert.MixIdeal.Gen.W8_main_arg8 m ρ c),
      (h c _ (Cert.MixIdeal.Gen.mem_uc Cert.MixIdeal.main_arg9 (by decide))).trans (Cert.MixIdeal.Gen.W8_main_arg9 m ρ c)⟩
  · refine (θ_run _ _ _).mono (fun r h c => ?_) (Cert.MixReferenceIdeal.Value.run m' ρ')
    obtain ⟨h0, h1, h2, h3, h4, h5, h6, h7, h8, h9⟩ := hargs c
    refine ⟨(h c).1.trans ?_, (h c).2.1.trans ?_, (h c).2.2⟩
    · rw [Cert.MixReferenceIdeal.Read.val_main_v44_eq, h0, h1, h2, h3, h4, h5, h6, h7]
      refine funext fun (i : Cert.MixIdeal.S8192x4096.Idx) => ?_
      obtain ⟨a, b, rfl⟩ : ∃ a b, i = ix2 a b := ⟨i 0, i 1, by funext a; fin_cases a <;> rfl⟩
      exact (Cert.MixReferenceIdeal.At.v44_at _ _ _ _ _ _ _ _ a b).trans (Cert.MixIdeal.Ran.first_at m ρ c a b).symm
    · rw [Cert.MixReferenceIdeal.Read.val_main_v63_eq, h0, h1, h2, h3, h4, h5, h6, h7, h8, h9]
      refine funext fun (i : Cert.MixIdeal.S8192x16384.Idx) => ?_
      obtain ⟨a, b, rfl⟩ : ∃ a b, i = ix2 a b := ⟨i 0, i 1, by funext a; fin_cases a <;> rfl⟩
      exact (Cert.MixReferenceIdeal.At.v63_at _ _ _ _ _ _ _ _ _ _ a b).trans (Cert.MixIdeal.Ran.second_at m ρ c a b).symm

/-- The MLP's second product: both programs leave the same array. -/
theorem mlp_out : Cert.algebraic_MlpOutIdeal_MlpOutReferenceIdeal := by
  intro m ρ m' ρ' _ hargs
  refine ⟨fun c => Cert.MlpOutIdeal.Value.G2 m c, Cert.MlpOutIdeal.Value.run m ρ, ?_⟩
  refine (θ_run _ _ _).mono (fun r h c => ?_) (Cert.MlpOutReferenceIdeal.Value.run m' ρ')
  obtain ⟨h0, h1⟩ := hargs c
  refine ⟨(h c).1.trans ?_, (h c).2⟩
  rw [Cert.MlpOutReferenceIdeal.Read.val_main_v3_eq, h0, h1]
  refine funext fun (i : Cert.MlpOutIdeal.S8192x4096.Idx) => ?_
  obtain ⟨a, b, rfl⟩ : ∃ a b, i = ix2 a b := ⟨i 0, i 1, by funext a; fin_cases a <;> rfl⟩
  exact (Back.out_at _ _ a b).trans (Cert.MlpOutIdeal.Acc.result_at m c a b).symm

/-- The last residual: both programs leave the same array. -/
theorem last : Cert.algebraic_LastIdeal_LastReferenceIdeal := by
  intro m ρ m' ρ' _ hargs
  refine ⟨fun c => Cert.LastIdeal.Result.G m c Cert.LastIdeal.main_v3, Cert.LastIdeal.Result.run m ρ, ?_⟩
  refine (θ_run _ _ _).mono (fun r h c => ?_) (Cert.LastReferenceIdeal.Value.run m' ρ')
  obtain ⟨h0, h1, h2⟩ := hargs c
  refine ⟨(h c).1.trans ?_, (h c).2⟩
  rw [Cert.LastReferenceIdeal.Read.val_main_v17_eq, h0, h1, h2]
  refine funext fun (i : Cert.LastIdeal.S2x4096x4096.Idx) => ?_
  obtain ⟨a, b, k, rfl⟩ : ∃ a b k, i = ix3 a b k := ⟨i 0, i 1, i 2, by funext a; fin_cases a <;> rfl⟩
  exact (Back.last_at _ _ _ a b k).trans (Cert.LastIdeal.Result.result_at m c a b k).symm

theorem claim : Cert.Claim :=
  ⟨Cert.Kernel.Gen.facts, Cert.KernelIdeal.Gen.facts, Cert.ReferenceIdeal.Gen.facts,
    Cert.Attn.Gen.facts, Cert.AttnIdeal.Gen.facts, Cert.AttnReferenceIdeal.Gen.facts,
    Cert.Post.Gen.facts, Cert.PostIdeal.Gen.facts, Cert.PostReferenceIdeal.Gen.facts,
    Cert.Mix.Gen.facts, Cert.MixIdeal.Gen.facts, Cert.MixReferenceIdeal.Gen.facts,
    Cert.MlpOut.Gen.facts, Cert.MlpOutIdeal.Gen.facts, Cert.MlpOutReferenceIdeal.Gen.facts,
    Cert.Last.Gen.facts, Cert.LastIdeal.Gen.facts, Cert.LastReferenceIdeal.Gen.facts, Cert.Pre_finite_attn.Gen.facts,
    Cert.Pre_finite_post.Gen.facts,
    fun m ρ _ => Cert.Kernel.Gen.frame m ρ, fun m ρ _ => Cert.KernelIdeal.Gen.frame m ρ, frame_ri,
    fun m ρ _ => Cert.Attn.Gen.frame m ρ, fun m ρ _ => Cert.AttnIdeal.Gen.frame m ρ, fun m ρ _ => Cert.AttnIdeal.Gen.frame m ρ, frame_Attn_reference,
    frame_Attn_reference_pre,
    fun m ρ _ => Cert.Post.Gen.frame m ρ, fun m ρ _ => Cert.PostIdeal.Gen.frame m ρ, fun m ρ _ => Cert.PostIdeal.Gen.frame m ρ, frame_Post_reference,
    frame_Post_reference_pre,
    fun m ρ _ => Cert.Mix.Gen.frame m ρ, fun m ρ _ => Cert.MixIdeal.Gen.frame m ρ, frame_Mix_reference,
    fun m ρ _ => Cert.MlpOut.Gen.frame m ρ, fun m ρ _ => Cert.MlpOutIdeal.Gen.frame m ρ, frame_MlpOut_reference,
    fun m ρ _ => Cert.Last.Gen.frame m ρ, fun m ρ _ => Cert.LastIdeal.Gen.frame m ρ, frame_Last_reference,
    trivial, front, keeps_Attn, attn, trivial, post, trivial, mix, trivial, mlp_out, trivial, last⟩

end Cert.Proof

end
